-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32x8732x4 : Shape := ⟨3, ![32, 8732, 4]⟩
abbrev S32x8732x21 : Shape := ⟨3, ![32, 8732, 21]⟩
abbrev S8732x4 : Shape := ⟨2, ![8732, 4]⟩
abbrev S32x16x5 : Shape := ⟨3, ![32, 16, 5]⟩
abbrev S32x16x1 : Shape := ⟨3, ![32, 16, 1]⟩
abbrev S32x16 : Shape := ⟨2, ![32, 16]⟩
abbrev S_ : Shape := ⟨0, ![]⟩

class Facts : Prop where
  slices_S32x16x5_S32x16x1_0_0_4 : S32x16x5.Slices ![0, 0, 4] S32x16x1
  shapeCasts_S32x16x1_S32x16 : S32x16x1.ShapeCasts S32x16
  bcast_S_S32x8732x21 : S_.BroadcastsInDim S32x8732x21 (![] : Fin 0 → Fin S32x8732x21.rank)
  reducesTo_S32x8732x21_S_d0_1_2 : S32x8732x21.ReducesTo [0, 1, 2] S_
  h_S_ : 0 < S_.numel
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S32x8732x4 .f32) (main_arg1 : FVec F S32x8732x21 .f32) (main_arg2 : FVec F S8732x4 .f32) (main_arg3 : FVec F S32x16x5 .f32) : IVec S_ 1 :=
  let main_v0 : FVec F S32x16x1 .f32 := (extractStridedSlice S32x16x1 ![0, 0, 4] · slices_S32x16x5_S32x16x1_0_0_4) main_arg3
  let main_v1 : FVec F S32x16 .f32 := shapeCast S32x16 main_v0 shapeCasts_S32x16x1_S32x16
  let main_v2 : FVec F S32x8732x21 .f32 := Host.absf main_arg1
  let main_cst : FVec F S_ .f32 := constant S_ .f32 0x7F800000#32
  let main_v3 : FVec F S32x8732x21 .f32 := broadcastInDim S32x8732x21 ![] bcast_S_S32x8732x21 main_cst
  let main_v4 : IVec S32x8732x21 1 := cmpf .olt main_v2 main_v3
  let main_c : IVec S_ 1 := constantI S_ 1 1#1
  let main_v5 : IVec S_ 1 := (fun x v => Host.reduce IntOp.andi x v reducesTo_S32x8732x21_S_d0_1_2 h_S_) main_v4 main_c
  let main_cst_0 : FVec F S_ .f32 := constant S_ .f32 0x3F800000#32
  let main_v6 : FVec F S32x16 .f32 := broadcastInDim S32x16 ![] bcast_S_S32x16 main_cst_0
  let main_v7 : IVec S32x16 1 := cmpf .oge main_v1 main_v6
  let main_c_1 : IVec S_ 1 := constantI S_ 1 1#1
  let main_v8 : IVec S_ 1 := (fun x v => Host.reduce IntOp.andi x v reducesTo_S32x16_S_d0_1 h_S_) main_v7 main_c_1
  let main_v9 : IVec S_ 1 := andi main_v5 main_v8
  let main_cst_2 : FVec F S_ .f32 := constant S_ .f32 0x41A00000#32
  let main_v10 : FVec F S32x16 .f32 := broadcastInDim S32x16 ![] bcast_S_S32x16 main_cst_2
  let main_v11 : IVec S32x16 1 := cmpf .ole main_v1 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v9 main_v12
  main_v13
-- ==== Kernel.lean ====
abbrev S32x8732x4 : Shape := ⟨3, ![32, 8732, 4]⟩
abbrev S32x8732x21 : Shape := ⟨3, ![32, 8732, 21]⟩
abbrev S8732x4 : Shape := ⟨2, ![8732, 4]⟩
abbrev S32x16x5 : Shape := ⟨3, ![32, 16, 5]⟩
abbrev S32x4x8732 : Shape := ⟨3, ![32, 4, 8732]⟩
abbrev S32x21x8732 : Shape := ⟨3, ![32, 21, 8732]⟩
abbrev S4x8732 : Shape := ⟨2, ![4, 8732]⟩
abbrev S32x1x8732 : Shape := ⟨3, ![32, 1, 8732]⟩
abbrev S32x1x128 : Shape := ⟨3, ![32, 1, 128]⟩
abbrev S1x4x8732 : Shape := ⟨3, ![1, 4, 8732]⟩
abbrev S1x16x5 : Shape := ⟨3, ![1, 16, 5]⟩
abbrev S1x1x8732 : Shape := ⟨3, ![1, 1, 8732]⟩
abbrev S1x1x128 : Shape := ⟨3, ![1, 1, 128]⟩
abbrev S16x5 : Shape := ⟨2, ![16, 5]⟩
abbrev S16x1 : Shape := ⟨2, ![16, 1]⟩
abbrev S1x8732 : Shape := ⟨2, ![1, 8732]⟩
abbrev S16x8732 : Shape := ⟨2, ![16, 8732]⟩
abbrev S8732 : Shape := ⟨1, ![8732]⟩
abbrev S16 : Shape := ⟨1, ![16]⟩
abbrev S16x6 : Shape := ⟨2, ![16, 6]⟩
abbrev S6x16 : Shape := ⟨2, ![6, 16]⟩
abbrev S6x8732 : Shape := ⟨2, ![6, 8732]⟩
abbrev S1 : Shape := ⟨1, ![1]⟩
abbrev S1x1x1 : Shape := ⟨3, ![1, 1, 1]⟩
abbrev S1x128 : Shape := ⟨2, ![1, 128]⟩
abbrev S128 : Shape := ⟨1, ![128]⟩
abbrev S1x21x8732 : Shape := ⟨3, ![1, 21, 8732]⟩
abbrev S21x8732 : Shape := ⟨2, ![21, 8732]⟩
abbrev S32x8732 : Shape := ⟨2, ![32, 8732]⟩
abbrev S32x128 : Shape := ⟨2, ![32, 128]⟩
abbrev S32x1 : Shape := ⟨2, ![32, 1]⟩
abbrev S32 : Shape := ⟨1, ![32]⟩
abbrev S1x32x1 : Shape := ⟨3, ![1, 32, 1]⟩
abbrev S1x1 : Shape := ⟨2, ![1, 1]⟩
abbrev S_ : Shape := ⟨0, ![]⟩

abbrev nBuf : Space → Nat
  | .hbm => 19
  | .vmem => 21
  | .smem => 0
  | _ => 0

abbrev bufTy : (tb : Table) → Fin (tcTables nBuf tb) → BufTy
  | .hbm, ⟨0, _⟩ => ⟨S32x8732x4, .f32⟩
  | .hbm, ⟨1, _⟩ => ⟨S32x8732x21, .f32⟩
  | .hbm, ⟨2, _⟩ => ⟨S8732x4, .f32⟩
  | .hbm, ⟨3, _⟩ => ⟨S32x16x5, .f32⟩
  | .hbm, ⟨4, _⟩ => ⟨S32x4x8732, .f32⟩
  | .hbm, ⟨5, _⟩ => ⟨S32x21x8732, .f32⟩
  | .hbm, ⟨6, _⟩ => ⟨S4x8732, .f32⟩
  | .hbm, ⟨7, _⟩ => ⟨S32x1x8732, .f32⟩
  | .hbm, ⟨8, _⟩ => ⟨S32x1x128, .f32⟩
  | .hbm, ⟨9, _⟩ => ⟨S32x1x8732, .f32⟩
  | .hbm, ⟨10, _⟩ => ⟨S32x1x128, .f32⟩
  | .hbm, ⟨11, _⟩ => ⟨S32x8732, .f32⟩
  | .hbm, ⟨12, _⟩ => ⟨S32x128, .f32⟩
  | .hbm, ⟨13, _⟩ => ⟨S32x128, .f32⟩
  | .hbm, ⟨14, _⟩ => ⟨S1x128, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .local _ .vmem, ⟨0, _⟩ => ⟨S1x4x8732, .f32⟩
  | .local _ .vmem, ⟨1, _⟩ => ⟨S1x4x8732, .f32⟩
  | .local _ .vmem, ⟨2, _⟩ => ⟨S4x8732, .f32⟩
  | .local _ .vmem, ⟨3, _⟩ => ⟨S1x16x5, .f32⟩
  | .local _ .vmem, ⟨4, _⟩ => ⟨S1x16x5, .f32⟩
  | .local _ .vmem, ⟨5, _⟩ => ⟨S1x1x8732, .f32⟩
  | .local _ .vmem, ⟨6, _⟩ => ⟨S1x1x8732, .f32⟩
  | .local _ .vmem, ⟨7, _⟩ => ⟨S1x1x128, .f32⟩
  | .local _ .vmem, ⟨8, _⟩ => ⟨S1x1x128, .f32⟩
  | .local _ .vmem, ⟨9, _⟩ => ⟨S1x21x8732, .f32⟩
  | .local _ .vmem, ⟨10, _⟩ => ⟨S1x21x8732, .f32⟩
  | .local _ .vmem, ⟨11, _⟩ => ⟨S1x1x8732, .f32⟩
  | .local _ .vmem, ⟨12, _⟩ => ⟨S1x1x8732, .f32⟩
  | .local _ .vmem, ⟨13, _⟩ => ⟨S1x1x8732, .f32⟩
  | .local _ .vmem, ⟨14, _⟩ => ⟨S1x1x8732, .f32⟩
  | .local _ .vmem, ⟨15, _⟩ => ⟨S1x1x128, .f32⟩
  | .local _ .vmem, ⟨16, _⟩ => ⟨S1x1x128, .f32⟩
  | .local _ .vmem, ⟨17, _⟩ => ⟨S32x8732, .f32⟩
  | .local _ .vmem, ⟨18, _⟩ => ⟨S32x128, .f32⟩
  | .local _ .vmem, ⟨19, _⟩ => ⟨S32x128, .f32⟩
  | .local _ .vmem, ⟨20, _⟩ => ⟨S1x128, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem1_0 : DmaSem sig := 18
abbrev cc2_sem2_0 : DmaSem sig := 19
abbrev cc2_sem3_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x8732 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8732 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x21x8732 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x8732 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8732 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

@[reducible] def k2_t1_loop : Scf.Loop 32 :=
  let c0_i32_5 : BitVec 32 := 0#32
  let c8732_i32 : BitVec 32 := 8732#32
  let v14 : BitVec 32 := Scalar.addi c0_i32_5 c8732_i32
  let c1_i32 : BitVec 32 := 1#32
  ⟨c0_i32_5, v14, c1_i32⟩
@[reducible] def k2_t2_loop : Scf.Loop 32 :=
  let c0_i32_8 : BitVec 32 := 0#32
  let c31_i32 : BitVec 32 := 31#32
  let v18 : BitVec 32 := Scalar.addi c0_i32_8 c31_i32
  let c1_i32_9 : BitVec 32 := 1#32
  ⟨c0_i32_8, v18, c1_i32_9⟩
abbrev stage2_0 : Fin 1 → Memref sig .tc .vmem S32x8732 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S32x8732x4 : Shape := ⟨3, ![32, 8732, 4]⟩
abbrev S32x8732x21 : Shape := ⟨3, ![32, 8732, 21]⟩
abbrev S8732x4 : Shape := ⟨2, ![8732, 4]⟩
abbrev S32x16x5 : Shape := ⟨3, ![32, 16, 5]⟩
abbrev S32x16x4 : Shape := ⟨3, ![32, 16, 4]⟩
abbrev S32x16x1 : Shape := ⟨3, ![32, 16, 1]⟩
abbrev S32x16 : Shape := ⟨2, ![32, 16]⟩
abbrev S8732x2 : Shape := ⟨2, ![8732, 2]⟩
abbrev S_ : Shape := ⟨0, ![]⟩
abbrev S32x16x2 : Shape := ⟨3, ![32, 16, 2]⟩
abbrev S32x16x1x2 : Shape := ⟨4, ![32, 16, 1, 2]⟩
abbrev S1x8732x2 : Shape := ⟨3, ![1, 8732, 2]⟩
abbrev S1x1x8732x2 : Shape := ⟨4, ![1, 1, 8732, 2]⟩
abbrev S32x16x8732x2 : Shape := ⟨4, ![32, 16, 8732, 2]⟩
abbrev S32x16x8732x1 : Shape := ⟨4, ![32, 16, 8732, 1]⟩
abbrev S32x16x8732 : Shape := ⟨3, ![32, 16, 8732]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S32x8732 : Shape := ⟨2, ![32, 8732]⟩
abbrev S32 : Shape := ⟨1, ![32]⟩
abbrev S32x1 : Shape := ⟨2, ![32, 1]⟩
abbrev S16 : Shape := ⟨1, ![16]⟩
abbrev S32x8732x1 : Shape := ⟨3, ![32, 8732, 1]⟩
abbrev S32x8732x2 : Shape := ⟨3, ![32, 8732, 2]⟩
abbrev S279424x21 : Shape := ⟨2, ![279424, 21]⟩
abbrev S279424x1 : Shape := ⟨2, ![279424, 1]⟩
abbrev S279424x1x1 : Shape := ⟨3, ![279424, 1, 1]⟩
abbrev S1 : Shape := ⟨1, ![1]⟩
abbrev S1x1x1 : Shape := ⟨3, ![1, 1, 1]⟩
abbrev S279424 : Shape := ⟨1, ![279424]⟩

abbrev nBuf : Space → Nat
  | .hbm => 302
  | .vmem => 0
  | .smem => 0
  | _ => 0

abbrev hbmTy0_0 (i : Nat) : BufTy := match i % 128 with
  | 0 => ⟨S32x8732x4, .f32⟩
  | 1 => ⟨S32x8732x21, .f32⟩
  | 2 => ⟨S8732x4, .f32⟩
  | 3 => ⟨S32x16x5, .f32⟩
  | 4 => ⟨S32x16x4, .f32⟩
  | 5 => ⟨S32x16x1, .f32⟩
  | 6 => ⟨S32x16, .f32⟩
  | 7 => ⟨S8732x2, .f32⟩
  | 8 => ⟨S8732x2, .f32⟩
  | 9 => ⟨S_, .f32⟩
  | 10 => ⟨S8732x2, .f32⟩
  | 11 => ⟨S8732x2, .f32⟩
  | 12 => ⟨S8732x2, .f32⟩
  | 13 => ⟨S8732x2, .f32⟩
  | 14 => ⟨S8732x2, .f32⟩
  | 15 => ⟨S_, .f32⟩
  | 16 => ⟨S8732x2, .f32⟩
  | 17 => ⟨S8732x2, .f32⟩
  | 18 => ⟨S8732x2, .f32⟩
  | 19 => ⟨S8732x4, .f32⟩
  | 20 => ⟨S32x16x2, .f32⟩
  | 21 => ⟨S32x16x1x2, .f32⟩
  | 22 => ⟨S8732x2, .f32⟩
  | 23 => ⟨S1x8732x2, .f32⟩
  | 24 => ⟨S1x1x8732x2, .f32⟩
  | 25 => ⟨S32x16x8732x2, .f32⟩
  | 26 => ⟨S32x16x8732x2, .f32⟩
  | 27 => ⟨S32x16x8732x2, .f32⟩
  | 28 => ⟨S32x16x2, .f32⟩
  | 29 => ⟨S32x16x1x2, .f32⟩
  | 30 => ⟨S8732x2, .f32⟩
  | 31 => ⟨S1x8732x2, .f32⟩
  | 32 => ⟨S1x1x8732x2, .f32⟩
  | 33 => ⟨S32x16x8732x2, .f32⟩
  | 34 => ⟨S32x16x8732x2, .f32⟩
  | 35 => ⟨S32x16x8732x2, .f32⟩
  | 36 => ⟨S32x16x8732x2, .f32⟩
  | 37 => ⟨S_, .f32⟩
  | 38 => ⟨S32x16x8732x2, .f32⟩
  | 39 => ⟨S32x16x8732x2, .f32⟩
  | 40 => ⟨S32x16x8732x1, .f32⟩
  | 41 => ⟨S32x16x8732, .f32⟩
  | 42 => ⟨S32x16x8732x1, .f32⟩
  | 43 => ⟨S32x16x8732, .f32⟩
  | 44 => ⟨S32x16x8732, .f32⟩
  | 45 => ⟨S32x16x1, .f32⟩
  | 46 => ⟨S32x16, .f32⟩
  | 47 => ⟨S32x16x1, .f32⟩
  | 48 => ⟨S32x16, .f32⟩
  | 49 => ⟨S32x16, .f32⟩
  | 50 => ⟨S32x16x1, .f32⟩
  | 51 => ⟨S32x16, .f32⟩
  | 52 => ⟨S32x16x1, .f32⟩
  | 53 => ⟨S32x16, .f32⟩
  | 54 => ⟨S32x16, .f32⟩
  | 55 => ⟨S32x16, .f32⟩
  | 56 => ⟨S32x16x1, .f32⟩
  | 57 => ⟨S8732x1, .f32⟩
  | 58 => ⟨S8732, .f32⟩
  | 59 => ⟨S8732x1, .f32⟩
  | 60 => ⟨S8732, .f32⟩
  | 61 => ⟨S8732, .f32⟩
  | 62 => ⟨S8732x1, .f32⟩
  | 63 => ⟨S8732, .f32⟩
  | 64 => ⟨S8732x1, .f32⟩
  | 65 => ⟨S8732, .f32⟩
  | 66 => ⟨S8732, .f32⟩
  | 67 => ⟨S8732, .f32⟩
  | 68 => ⟨S1x8732, .f32⟩
  | 69 => ⟨S1x1x8732, .f32⟩
  | 70 => ⟨S32x16x8732, .f32⟩
  | 71 => ⟨S32x16x8732, .f32⟩
  | 72 => ⟨S32x16x8732, .f32⟩
  | 73 => ⟨S32x16x8732, .f32⟩
  | 74 => ⟨S32x16x8732, .f32⟩
  | 75 => ⟨S_, .f32⟩
  | 76 => ⟨S32x16, .f32⟩
  | 77 => ⟨S32x16x8732, .i32⟩
  | 78 => ⟨S_, .f32⟩
  | 79 => ⟨S_, .i32⟩
  | 80 => ⟨S32x16, .f32⟩
  | 81 => ⟨S32x16, .i32⟩
  | 82 => ⟨S_, .f32⟩
  | 83 => ⟨S32x8732, .f32⟩
  | 84 => ⟨S32x16x8732, .i32⟩
  | 85 => ⟨S_, .f32⟩
  | 86 => ⟨S_, .i32⟩
  | 87 => ⟨S32x8732, .f32⟩
  | 88 => ⟨S32x8732, .i32⟩
  | 89 => ⟨S32, .i32⟩
  | 90 => ⟨S32x1, .i32⟩
  | 91 => ⟨S16, .i32⟩
  | 92 => ⟨S32x16, .i32⟩
  | 93 => ⟨S_, .i32⟩
  | 94 => ⟨S32x1, .i32⟩
  | 95 => ⟨S32x1, .i1⟩
  | 96 => ⟨S_, .i32⟩
  | 97 => ⟨S32x1, .i32⟩
  | 98 => ⟨S32x1, .i32⟩
  | 99 => ⟨S32x1, .i32⟩
  | 100 => ⟨S_, .i32⟩
  | 101 => ⟨S32x16, .i32⟩
  | 102 => ⟨S32x16, .i1⟩
  | 103 => ⟨S_, .i32⟩
  | 104 => ⟨S32x16, .i32⟩
  | 105 => ⟨S32x16, .i32⟩
  | 106 => ⟨S32x16, .i32⟩
  | 107 => ⟨S32x16, .i32⟩
  | 108 => ⟨S32x16x1, .i32⟩
  | 109 => ⟨S32x16x1, .i32⟩
  | 110 => ⟨S32x16x2, .i32⟩
  | 111 => ⟨S32x8732, .i32⟩
  | 112 => ⟨S_, .i32⟩
  | 113 => ⟨S32x1, .i32⟩
  | 114 => ⟨S32x1, .i1⟩
  | 115 => ⟨S_, .i32⟩
  | 116 => ⟨S32x1, .i32⟩
  | 117 => ⟨S32x1, .i32⟩
  | 118 => ⟨S32x1, .i32⟩
  | 119 => ⟨S_, .i32⟩
  | 120 => ⟨S32x16, .i32⟩
  | 121 => ⟨S32x16, .i1⟩
  | 122 => ⟨S_, .i32⟩
  | 123 => ⟨S32x16, .i32⟩
  | 124 => ⟨S32x16, .i32⟩
  | 125 => ⟨S32x16, .i32⟩
  | 126 => ⟨S32x16, .i32⟩
  | 127 => ⟨S32x16x1, .i32⟩
  | _ => ⟨S32x8732x4, .f32⟩

abbrev hbmTy0_1 (i : Nat) : BufTy := match i % 128 with
  | 0 => ⟨S32x16x1, .i32⟩
  | 1 => ⟨S32x16x2, .i32⟩
  | 2 => ⟨S32x8732, .f32⟩
  | 3 => ⟨S_, .i32⟩
  | 4 => ⟨S32x1, .i32⟩
  | 5 => ⟨S32x1, .i1⟩
  | 6 => ⟨S_, .i32⟩
  | 7 => ⟨S32x1, .i32⟩
  | 8 => ⟨S32x1, .i32⟩
  | 9 => ⟨S32x1, .i32⟩
  | 10 => ⟨S_, .i32⟩
  | 11 => ⟨S32x8732, .i32⟩
  | 12 => ⟨S32x8732, .i1⟩
  | 13 => ⟨S_, .i32⟩
  | 14 => ⟨S32x8732, .i32⟩
  | 15 => ⟨S32x8732, .i32⟩
  | 16 => ⟨S32x8732, .i32⟩
  | 17 => ⟨S32x8732, .i32⟩
  | 18 => ⟨S32x8732x1, .i32⟩
  | 19 => ⟨S32x8732x1, .i32⟩
  | 20 => ⟨S32x8732x2, .i32⟩
  | 21 => ⟨S32x8732x4, .f32⟩
  | 22 => ⟨S_, .i32⟩
  | 23 => ⟨S32x1, .i32⟩
  | 24 => ⟨S32x1, .i1⟩
  | 25 => ⟨S_, .i32⟩
  | 26 => ⟨S32x1, .i32⟩
  | 27 => ⟨S32x1, .i32⟩
  | 28 => ⟨S32x1, .i32⟩
  | 29 => ⟨S_, .i32⟩
  | 30 => ⟨S32x8732, .i32⟩
  | 31 => ⟨S32x8732, .i1⟩
  | 32 => ⟨S_, .i32⟩
  | 33 => ⟨S32x8732, .i32⟩
  | 34 => ⟨S32x8732, .i32⟩
  | 35 => ⟨S32x8732, .i32⟩
  | 36 => ⟨S32x8732, .i32⟩
  | 37 => ⟨S32x8732x1, .i32⟩
  | 38 => ⟨S32x8732x1, .i32⟩
  | 39 => ⟨S32x8732x2, .i32⟩
  | 40 => ⟨S32x8732, .f32⟩
  | 41 => ⟨S_, .f32⟩
  | 42 => ⟨S32x8732, .f32⟩
  | 43 => ⟨S32x8732, .i1⟩
  | 44 => ⟨S_, .f32⟩
  | 45 => ⟨S_, .f32⟩
  | 46 => ⟨S32x8732, .f32⟩
  | 47 => ⟨S32x8732, .f32⟩
  | 48 => ⟨S32x8732x2, .f32⟩
  | 49 => ⟨S32x8732x2, .f32⟩
  | 50 => ⟨S32x8732x2, .f32⟩
  | 51 => ⟨S_, .f32⟩
  | 52 => ⟨S32x8732x2, .f32⟩
  | 53 => ⟨S32x8732x2, .f32⟩
  | 54 => ⟨S8732x2, .f32⟩
  | 55 => ⟨S1x8732x2, .f32⟩
  | 56 => ⟨S32x8732x2, .f32⟩
  | 57 => ⟨S32x8732x2, .f32⟩
  | 58 => ⟨S8732x2, .f32⟩
  | 59 => ⟨S_, .f32⟩
  | 60 => ⟨S8732x2, .f32⟩
  | 61 => ⟨S8732x2, .f32⟩
  | 62 => ⟨S1x8732x2, .f32⟩
  | 63 => ⟨S32x8732x2, .f32⟩
  | 64 => ⟨S32x8732x2, .f32⟩
  | 65 => ⟨S32x8732x2, .f32⟩
  | 66 => ⟨S32x8732x2, .f32⟩
  | 67 => ⟨S32x8732x2, .f32⟩
  | 68 => ⟨S8732x2, .f32⟩
  | 69 => ⟨S1x8732x2, .f32⟩
  | 70 => ⟨S32x8732x2, .f32⟩
  | 71 => ⟨S32x8732x2, .f32⟩
  | 72 => ⟨S32x8732x2, .f32⟩
  | 73 => ⟨S_, .f32⟩
  | 74 => ⟨S32x8732x2, .f32⟩
  | 75 => ⟨S32x8732x2, .f32⟩
  | 76 => ⟨S32x8732x4, .f32⟩
  | 77 => ⟨S32x8732, .i32⟩
  | 78 => ⟨S_, .i32⟩
  | 79 => ⟨S32x8732, .i32⟩
  | 80 => ⟨S32x8732, .i1⟩
  | 81 => ⟨S32x8732x4, .f32⟩
  | 82 => ⟨S32x8732x4, .f32⟩
  | 83 => ⟨S_, .f32⟩
  | 84 => ⟨S32x8732x4, .f32⟩
  | 85 => ⟨S32x8732x4, .i1⟩
  | 86 => ⟨S_, .f32⟩
  | 87 => ⟨S32x8732x4, .f32⟩
  | 88 => ⟨S32x8732x4, .f32⟩
  | 89 => ⟨S32x8732x4, .f32⟩
  | 90 => ⟨S_, .f32⟩
  | 91 => ⟨S32x8732x4, .f32⟩
  | 92 => ⟨S32x8732x4, .f32⟩
  | 93 => ⟨S32x8732x4, .f32⟩
  | 94 => ⟨S32x8732x1, .i1⟩
  | 95 => ⟨S_, .f32⟩
  | 96 => ⟨S_, .f32⟩
  | 97 => ⟨S32x8732x4, .i1⟩
  | 98 => ⟨S32x8732x4, .f32⟩
  | 99 => ⟨S32x8732x4, .f32⟩
  | 100 => ⟨S_, .f32⟩
  | 101 => ⟨S_, .f32⟩
  | 102 => ⟨S279424x21, .f32⟩
  | 103 => ⟨S279424x1, .i32⟩
  | 104 => ⟨S_, .i32⟩
  | 105 => ⟨S279424x1, .i32⟩
  | 106 => ⟨S279424x1, .i1⟩
  | 107 => ⟨S_, .i32⟩
  | 108 => ⟨S279424x1, .i32⟩
  | 109 => ⟨S279424x1, .i32⟩
  | 110 => ⟨S279424x1, .i32⟩
  | 111 => ⟨S279424x1x1, .i32⟩
  | 112 => ⟨S1, .i32⟩
  | 113 => ⟨S_, .i32⟩
  | 114 => ⟨S279424x1x1, .i32⟩
  | 115 => ⟨S279424x1x1, .i1⟩
  | 116 => ⟨S1x1x1, .i32⟩
  | 117 => ⟨S279424x1x1, .i32⟩
  | 118 => ⟨S279424x1x1, .i1⟩
  | 119 => ⟨S279424x1x1, .i1⟩
  | 120 => ⟨S_, .i1⟩
  | 121 => ⟨S279424x1, .i1⟩
  | 122 => ⟨S279424x1, .f32⟩
  | 123 => ⟨S_, .f32⟩
  | 124 => ⟨S279424x1, .f32⟩
  | 125 => ⟨S279424x1, .f32⟩
  | 126 => ⟨S279424, .f32⟩
  | 127 => ⟨S_, .f32⟩
  | _ => ⟨S32x8732x4, .f32⟩

abbrev hbmTy0_2 (i : Nat) : BufTy := match i % 128 with
  | 0 => ⟨S_, .f32⟩
  | 1 => ⟨S279424x21, .f32⟩
  | 2 => ⟨S279424x21, .f32⟩
  | 3 => ⟨S279424x21, .f32⟩
  | 4 => ⟨S_, .f32⟩
  | 5 => ⟨S279424, .f32⟩
  | 6 => ⟨S279424, .f32⟩
  | 7 => ⟨S279424, .f32⟩
  | 8 => ⟨S279424, .f32⟩
  | 9 => ⟨S279424, .f32⟩
  | 10 => ⟨S32x8732, .f32⟩
  | 11 => ⟨S_, .f32⟩
  | 12 => ⟨S_, .f32⟩
  | 13 => ⟨S32x8732, .f32⟩
  | 14 => ⟨S32x8732, .f32⟩
  | 15 => ⟨S32x8732, .f32⟩
  | 16 => ⟨S32x8732, .i32⟩
  | 17 => ⟨S32x8732, .f32⟩
  | 18 => ⟨S32x8732, .i32⟩
  | 19 => ⟨S32x8732, .i32⟩
  | 20 => ⟨S32x8732, .i32⟩
  | 21 => ⟨S32x8732, .i32⟩
  | 22 => ⟨S32x8732, .i32⟩
  | 23 => ⟨S_, .i32⟩
  | 24 => ⟨S32, .i32⟩
  | 25 => ⟨S32x1, .i32⟩
  | 26 => ⟨S_, .i32⟩
  | 27 => ⟨S32x1, .i32⟩
  | 28 => ⟨S32x1, .i32⟩
  | 29 => ⟨S_, .i32⟩
  | 30 => ⟨S32x1, .i32⟩
  | 31 => ⟨S32x1, .i32⟩
  | 32 => ⟨S32x8732, .i32⟩
  | 33 => ⟨S32x8732, .i1⟩
  | 34 => ⟨S32x8732, .i1⟩
  | 35 => ⟨S_, .f32⟩
  | 36 => ⟨S_, .f32⟩
  | 37 => ⟨S32x8732, .f32⟩
  | 38 => ⟨S32x8732, .f32⟩
  | 39 => ⟨S_, .f32⟩
  | 40 => ⟨S_, .f32⟩
  | 41 => ⟨S_, .i32⟩
  | 42 => ⟨S_, .i32⟩
  | 43 => ⟨S_, .f32⟩
  | 44 => ⟨S_, .f32⟩
  | 45 => ⟨S_, .f32⟩
  | _ => ⟨S32x8732x4, .f32⟩

abbrev hbmTy (i : Nat) : BufTy := match i / 128 with
  | 0 => hbmTy0_0 i
  | 1 => hbmTy0_1 i
  | 2 => hbmTy0_2 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_cst_2 : Ref sig .tc := ⟨.hbm, 75, rfl⟩
abbrev main_v68 : Ref sig .tc := ⟨.hbm, 76, rfl⟩
abbrev main_call0_v0 : Ref sig .tc := ⟨.hbm, 77, rfl⟩
abbrev main_call0_cst : Ref sig .tc := ⟨.hbm, 78, rfl⟩
abbrev main_call0_c : Ref sig .tc := ⟨.hbm, 79, rfl⟩
abbrev main_call0_v1_0 : Ref sig .tc := ⟨.hbm, 80, rfl⟩
abbrev main_v69 : Ref sig .tc := ⟨.hbm, 81, rfl⟩
abbrev main_cst_3 : Ref sig .tc := ⟨.hbm, 82, rfl⟩
abbrev main_v70 : Ref sig .tc := ⟨.hbm, 83, rfl⟩
abbrev main_call1_v0 : Ref sig .tc := ⟨.hbm, 84, rfl⟩
abbrev main_call1_cst : Ref sig .tc := ⟨.hbm, 85, rfl⟩
abbrev main_call1_c : Ref sig .tc := ⟨.hbm, 86, rfl⟩
abbrev main_call1_v1_0 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c : Ref sig .tc := ⟨.hbm, 93, rfl⟩
abbrev main_v76 : Ref sig .tc := ⟨.hbm, 94, rfl⟩
abbrev main_v77 : Ref sig .tc := ⟨.hbm, 95, rfl⟩
abbrev main_c_4 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_c_5 : Ref sig .tc := ⟨.hbm, 100, rfl⟩
abbrev main_v81 : Ref sig .tc := ⟨.hbm, 101, rfl⟩
abbrev main_v82 : Ref sig .tc := ⟨.hbm, 102, rfl⟩
abbrev main_c_6 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_7 : Ref sig .tc := ⟨.hbm, 112, rfl⟩
abbrev main_v91 : Ref sig .tc := ⟨.hbm, 113, rfl⟩
abbrev main_v92 : Ref sig .tc := ⟨.hbm, 114, rfl⟩
abbrev main_c_8 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_c_9 : Ref sig .tc := ⟨.hbm, 119, rfl⟩
abbrev main_v96 : Ref sig .tc := ⟨.hbm, 120, rfl⟩
abbrev main_v97 : Ref sig .tc := ⟨.hbm, 121, rfl⟩
abbrev main_c_10 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_11 : Ref sig .tc := ⟨.hbm, 131, rfl⟩
abbrev main_v106 : Ref sig .tc := ⟨.hbm, 132, rfl⟩
abbrev main_v107 : Ref sig .tc := ⟨.hbm, 133, rfl⟩
abbrev main_c_12 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_c_13 : Ref sig .tc := ⟨.hbm, 138, rfl⟩
abbrev main_v111 : Ref sig .tc := ⟨.hbm, 139, rfl⟩
abbrev main_v112 : Ref sig .tc := ⟨.hbm, 140, rfl⟩
abbrev main_c_14 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_c_15 : Ref sig .tc := ⟨.hbm, 150, rfl⟩
abbrev main_v121 : Ref sig .tc := ⟨.hbm, 151, rfl⟩
abbrev main_v122 : Ref sig .tc := ⟨.hbm, 152, rfl⟩
abbrev main_c_16 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_c_17 : Ref sig .tc := ⟨.hbm, 157, rfl⟩
abbrev main_v126 : Ref sig .tc := ⟨.hbm, 158, rfl⟩
abbrev main_v127 : Ref sig .tc := ⟨.hbm, 159, rfl⟩
abbrev main_c_18 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_19 : Ref sig .tc := ⟨.hbm, 169, rfl⟩
abbrev main_v136 : Ref sig .tc := ⟨.hbm, 170, rfl⟩
abbrev main_v137 : Ref sig .tc := ⟨.hbm, 171, rfl⟩
abbrev main_cst_20 : Ref sig .tc := ⟨.hbm, 172, rfl⟩
abbrev main_call2_v0 : Ref sig .tc := ⟨.hbm, 173, rfl⟩
abbrev main_call2_v1 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_21 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_22 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_23 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_c_24 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_25 : Ref sig .tc := ⟨.hbm, 211, rfl⟩
abbrev main_v170 : Ref sig .tc := ⟨.hbm, 212, rfl⟩
abbrev main_v171 : Ref sig .tc := ⟨.hbm, 213, rfl⟩
abbrev main_cst_26 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_27 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_28 : Ref sig .tc := ⟨.hbm, 223, rfl⟩
abbrev main_call4_v0 : Ref sig .tc := ⟨.hbm, 224, rfl⟩
abbrev main_call4_v1 : Ref sig .tc := ⟨.hbm, 225, rfl⟩
abbrev main_call4_v2 : Ref sig .tc := ⟨.hbm, 226, rfl⟩
abbrev main_v179 : Ref sig .tc := ⟨.hbm, 227, rfl⟩
abbrev main_cst_29 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_call5_c : Ref sig .tc := ⟨.hbm, 232, rfl⟩
abbrev main_call5_v0 : Ref sig .tc := ⟨.hbm, 233, rfl⟩
abbrev main_call5_v1 : Ref sig .tc := ⟨.hbm, 234, rfl⟩
abbrev main_call5_c_0 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_call5_v5 : Ref sig .tc := ⟨.hbm, 239, rfl⟩
abbrev main_call5_c_1 : Ref sig .tc := ⟨.hbm, 240, rfl⟩
abbrev main_call5_c_2 : Ref sig .tc := ⟨.hbm, 241, rfl⟩
abbrev main_call5_v6 : Ref sig .tc := ⟨.hbm, 242, rfl⟩
abbrev main_call5_v7 : Ref sig .tc := ⟨.hbm, 243, rfl⟩
abbrev main_call5_v8 : Ref sig .tc := ⟨.hbm, 244, rfl⟩
abbrev main_call5_v9 : Ref sig .tc := ⟨.hbm, 245, rfl⟩
abbrev main_call5_v10 : Ref sig .tc := ⟨.hbm, 246, rfl⟩
abbrev main_call5_v11 : Ref sig .tc := ⟨.hbm, 247, rfl⟩
abbrev main_call5_c_3 : Ref sig .tc := ⟨.hbm, 248, rfl⟩
abbrev main_call5_v12 : Ref sig .tc := ⟨.hbm, 249, rfl⟩
abbrev main_call5_v13 : Ref sig .tc := ⟨.hbm, 250, rfl⟩
abbrev main_call5_cst : Ref sig .tc := ⟨.hbm, 251, rfl⟩
abbrev main_call5_v14 : Ref sig .tc := ⟨.hbm, 252, rfl⟩
abbrev main_v183 : Ref sig .tc := ⟨.hbm, 253, rfl⟩
abbrev main_v184 : Ref sig .tc := ⟨.hbm, 254, rfl⟩
abbrev main_cst_30 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_cst_31 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_cst_32 : Ref sig .tc := ⟨.hbm, 267, rfl⟩
abbrev main_call6_v0 : Ref sig .tc := ⟨.hbm, 268, rfl⟩
abbrev main_call6_v1 : Ref sig .tc := ⟨.hbm, 269, rfl⟩
abbrev main_v195 : Ref sig .tc := ⟨.hbm, 270, rfl⟩
abbrev main_v196 : Ref sig .tc := ⟨.hbm, 271, rfl⟩
abbrev main_call7_v0 : Ref sig .tc := ⟨.hbm, 272, rfl⟩
abbrev main_call7_v1_0 : Ref sig .tc := ⟨.hbm, 273, rfl⟩
abbrev main_v197 : Ref sig .tc := ⟨.hbm, 274, rfl⟩
abbrev main_call8_v0 : Ref sig .tc := ⟨.hbm, 275, rfl⟩
abbrev main_call8_v1_0 : Ref sig .tc := ⟨.hbm, 276, rfl⟩
abbrev main_v198 : Ref sig .tc := ⟨.hbm, 277, rfl⟩
abbrev main_v199 : Ref sig .tc := ⟨.hbm, 278, rfl⟩
abbrev main_c_33 : Ref sig .tc := ⟨.hbm, 279, rfl⟩
abbrev main_v200 : Ref sig .tc := ⟨.hbm, 280, rfl⟩
abbrev main_v201 : Ref sig .tc := ⟨.hbm, 281, rfl⟩
abbrev main_c_34 : Ref sig .tc := ⟨.hbm, 282, rfl⟩
abbrev main_v202 : Ref sig .tc := ⟨.hbm, 283, rfl⟩
abbrev main_v203 : Ref sig .tc := ⟨.hbm, 284, rfl⟩
abbrev main_c_35 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_cst_36 : Ref sig .tc := ⟨.hbm, 291, rfl⟩
abbrev main_call9_v0 : Ref sig .tc := ⟨.hbm, 292, rfl⟩
abbrev main_call9_v1 : Ref sig .tc := ⟨.hbm, 293, rfl⟩
abbrev main_v209 : Ref sig .tc := ⟨.hbm, 294, rfl⟩
abbrev main_cst_37 : Ref sig .tc := ⟨.hbm, 295, rfl⟩
abbrev main_v210 : Ref sig .tc := ⟨.hbm, 296, rfl⟩
abbrev main_c_38 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩

abbrev nD : Nat := 1
abbrev τ : Topo := Topo.v7x

variable {F : FTy → Type} [FloatOps F]
-- ==== Proof.RefOps.lean ====
/- The reference program as a list of its 298 host operations, in windows. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v13`, named. It packs its operands into a list of dependent pairs
    whose shapes a later argument's type mentions, so `simp` cannot rewrite an operand where it stands; applied by
    name, the operands are plain arguments, which the window lemmas below rewrite before the name unfolds. -/
def fn_main_v13 : (⟨S8732x2, .f32⟩ : BufTy).Contents (Elt F) → (⟨S8732x2, .f32⟩ : BufTy).Contents (Elt F) → (⟨S8732x4, .f32⟩ : BufTy).Contents (Elt F) :=
  (fun a b => concatenate S8732x4 1 [⟨S8732x2, a⟩, ⟨S8732x2, b⟩] concatenates_S8732x2_S8732x2_S8732x4_d1)

/-- The function of the operation that writes `main_v89`, named. It packs its operands into a list of dependent pairs
    whose shapes a later argument's type mentions, so `simp` cannot rewrite an operand where it stands; applied by
    name, the operands are plain arguments, which the window lemmas below rewrite before the name unfolds. -/
def fn_main_v89 : (⟨S32x16x1, .i32⟩ : BufTy).Contents (Elt F) → (⟨S32x16x1, .i32⟩ : BufTy).Contents (Elt F) → (⟨S32x16x2, .i32⟩ : BufTy).Contents (Elt F) :=
  (fun a b => concatenate S32x16x2 2 [⟨S32x16x1, a⟩, ⟨S32x16x1, b⟩] concatenates_S32x16x1_S32x16x1_S32x16x2_d2)

/-- The function of the operation that writes `main_v104`, named. It packs its operands into a list of dependent pairs
    whose shapes a later argument's type mentions, so `simp` cannot rewrite an operand where it stands; applied by
    name, the operands are plain arguments, which the window lemmas below rewrite before the name unfolds. -/
def fn_main_v104 : (⟨S32x16x1, .i32⟩ : BufTy).Contents (Elt F) → (⟨S32x16x1, .i32⟩ : BufTy).Contents (Elt F) → (⟨S32x16x2, .i32⟩ : BufTy).Contents (Elt F) :=
  (fun a b => concatenate S32x16x2 2 [⟨S32x16x1, a⟩, ⟨S32x16x1, b⟩] concatenates_S32x16x1_S32x16x1_S32x16x2_d2)

/-- The function of the operation that writes `main_v119`, named. It packs its operands into a list of dependent pairs
    whose shapes a later argument's type mentions, so `simp` cannot rewrite an operand where it stands; applied by
    name, the operands are plain arguments, which the window lemmas below rewrite before the name unfolds. -/
def fn_main_v119 : (⟨S32x8732x1, .i32⟩ : BufTy).Contents (Elt F) → (⟨S32x8732x1, .i32⟩ : BufTy).Contents (Elt F) → (⟨S32x8732x2, .i32⟩ : BufTy).Contents (Elt F) :=
  (fun a b => concatenate S32x8732x2 2 [⟨S32x8732x1, a⟩, ⟨S32x8732x1, b⟩] concatenates_S32x8732x1_S32x8732x1_S32x8732x2_d2)

/-- The function of the operation that writes `main_v134`, named. It packs its operands into a list of dependent pairs
    whose shapes a later argument's type mentions, so `simp` cannot rewrite an operand where it stands; applied by
    name, the operands are plain arguments, which the window lemmas below rewrite before the name unfolds. -/
def fn_main_v134 : (⟨S32x8732x1, .i32⟩ : BufTy).Contents (Elt F) → (⟨S32x8732x1, .i32⟩ : BufTy).Contents (Elt F) → (⟨S32x8732x2, .i32⟩ : BufTy).Contents (Elt F) :=
  (fun a b => concatenate S32x8732x2 2 [⟨S32x8732x1, a⟩, ⟨S32x8732x1, b⟩] concatenates_S32x8732x1_S32x8732x1_S32x8732x2_d2)

/-- The function of the operation that writes `main_v164`, named. It packs its operands into a list of dependent pairs
    whose shapes a later argument's type mentions, so `simp` cannot rewrite an operand where it stands; applied by
    name, the operands are plain arguments, which the window lemmas below rewrite before the name unfolds. -/
def fn_main_v164 : (⟨S32x8732x2, .f32⟩ : BufTy).Contents (Elt F) → (⟨S32x8732x2, .f32⟩ : BufTy).Contents (Elt F) → (⟨S32x8732x4, .f32⟩ : BufTy).Contents (Elt F) :=
  (fun a b => concatenate S32x8732x4 2 [⟨S32x8732x2, a⟩, ⟨S32x8732x2, b⟩] concatenates_S32x8732x2_S32x8732x2_S32x8732x4_d2)

/-- @main's operations 1 … 60 of 298 (window `main_part0`). -/
abbrev ops_part0 : List (HloOp τ sig (Elt F)) :=
  [ unary main_arg3 main_v0 ((extractStridedSlice S32x16x4 ![0, 0, 0] · slices_S32x16x5_S32x16x4_0_0_0) : (⟨S32x16x5, .f32⟩ : BufTy).Contents (Elt F) → (⟨S32x16x4, .f32⟩ : BufTy).Contents (Elt F)),
    unary main_arg3 main_v1 ((extractStridedSlice S32x16x1 ![0, 0, 4] · slices_S32x16x5_S32x16x1_0_0_4) : (⟨S32x16x5, .f32⟩ : BufTy).Contents (Elt F) → (⟨S32x16x1, .f32⟩ : BufTy).Contents (Elt F)),
    reshape main_v1 main_v2 (rfl : (.f32 : EltTy) = .f32) shapeCasts_S32x16x1_S32x16,
    unary main_arg2 main_v3 ((extractStridedSlice S8732x2 ![0, 0] · slices_S8732x4_S8732x2_0_0) : (⟨S8732x4, .f32⟩ : BufTy).Contents (Elt F) → (⟨S8732x2, .f32⟩ : BufTy).Contents (Elt F)),
    unary main_arg2 main_v4 ((extractStridedSlice S8732x2 ![0, 2] · slices_S8732x4_S8732x2_0_2) : (⟨S8732x4, .f32⟩ : BufTy).Contents (Elt F) → (⟨S8732x2, .f32⟩ : BufTy).Contents (Elt F)),
    nullary main_cst (constant S_ .f32 0x40000000#32),
    unary main_cst main_v5 (broadcastInDim S8732x2 ![] bcast_S_S8732x2 : (⟨S_, .f32⟩ : BufTy).Contents (Elt F) → (⟨S8732x2, .f32⟩ : BufTy).Contents (Elt F)),
    binary main_v4 main_v5 main_v6 (Host.divf : (⟨S8732x2, .f32⟩ : BufTy).Contents (Elt F) → (⟨S8732x2, .f32⟩ : BufTy).Contents (Elt F) → (⟨S8732x2, .f32⟩ : BufTy).Contents (Elt F)),
    binary main_v3 main_v6 main_v7 (subf : (⟨S8732x2, .f32⟩ : BufTy).Contents (Elt F) → (⟨S8732x2, .f32⟩ : BufTy).Contents (Elt F) → (⟨S8732x2, .f32⟩ : BufTy).Contents (Elt F)),
    unary main_arg2 main_v8 ((extractStridedSlice S8732x2 ![0, 0] · slices_S8732x4_S8732x2_0_0) : (⟨S8732x4, .f32⟩ : BufTy).Contents (Elt F) → (⟨S8732x2, .f32⟩ : BufTy).Contents (Elt F)),
    unary main_arg2 main_v9 ((extractStridedSlice S8732x2 ![0, 2] · slices_S8732x4_S8732x2_0_2) : (⟨S8732x4, .f32⟩ : BufTy).Contents (Elt F) → (⟨S8732x2, .f32⟩ : BufTy).Contents (Elt F)),
    nullary main_cst_0 (constant S_ .f32 0x40000000#32),
    unary main_cst_0 main_v10 (broadcastInDim S8732x2 ![] bcast_S_S8732x2 : (⟨S_, .f32⟩ : BufTy).Contents (Elt F) → (⟨S8732x2, .f32⟩ : BufTy).Contents (Elt F)),
    binary main_v9 main_v10 main_v11 (Host.divf : (⟨S8732x2, .f32⟩ : BufTy).Contents (Elt F) → (⟨S8732x2, .f32⟩ : BufTy).Contents (Elt F) → (⟨S8732x2, .f32⟩ : BufTy).Contents (Elt F)),
    binary main_v8 main_v11 main_v12 (addf : (⟨S8732x2, .f32⟩ : BufTy).Contents (Elt F) → (⟨S8732x2, .f32⟩ : BufTy).Contents (Elt F) → (⟨S8732x2, .f32⟩ : BufTy).Contents (Elt F)),
    binary main_v7 main_v12 main_v13 (fn_main_v13 (F := F)),
    unary main_v0 main_v14 ((extractStridedSlice S32x16x2 ![0, 0, 2] · slices_S32x16x4_S32x16x2_0_0_2) : (⟨S32x16x4, .f32⟩ : BufTy).Contents (Elt F) → (⟨S32x16x2, .f32⟩ : BufTy).Contents (Elt F)),
    unary main_v14 main_v15 (broadcastInDim S32x16x1x2 ![0, 1, 3] bcast_S32x16x2_S32x16x1x2_0_1_3 : (⟨S32x16x2, .f32⟩ : BufTy).Contents (Elt F) → (⟨S32x16x1x2, .f32⟩ : BufTy).Contents (Elt F)),
    unary main_v13 main_v16 ((extractStridedSlice S8732x2 ![0, 2] · slices_S8732x4_S8732x2_0_2) : (⟨S8732x4, .f32⟩ : BufTy).Contents (Elt F) → (⟨S8732x2, .f32⟩ : BufTy).Contents (Elt F)),
    unary main_v16 main_v17 (broadcastInDim S1x8732x2 ![1, 2] bcast_S8732x2_S1x8732x2_1_2 : (⟨S8732x2, .f32⟩ : BufTy).Contents (Elt F) → (⟨S1x8732x2, .f32⟩ : BufTy).Contents (Elt F)),
    unary main_v17 main_v18 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)),
    unary main_v15 main_v19 (broadcastInDim S32x16x8732x2 ![0, 1, 2, 3] bcast_S32x16x1x2_S32x16x8732x2_0_1_2_3 : (⟨S32x16x1x2, .f32⟩ : BufTy).Contents (Elt F) → (⟨S32x16x8732x2, .f32⟩ : BufTy).Contents (Elt F)),
    unary main_v18 main_v20 (broadcastInDim S32x16x8732x2 ![0, 1, 2, 3] bcast_S1x1x8732x2_S32x16x8732x2_0_1_2_3 : (⟨S1x1x8732x2, .f32⟩ : BufTy).Contents (Elt F) → (⟨S32x16x8732x2, .f32⟩ : BufTy).Contents (Elt F)),
    binary main_v19 main_v20 main_v21 (minimumf : (⟨S32x16x8732x2, .f32⟩ : BufTy).Contents (Elt F) → (⟨S32x16x8732x2, .f32⟩ : BufTy).Contents (Elt F) → (⟨S32x16x8732x2, .f32⟩ : BufTy).Contents (Elt F)),
    unary main_v0 main_v22 ((extractStridedSlice S32x16x2 ![0, 0, 0] · slices_S32x16x4_S32x16x2_0_0_0) : (⟨S32x16x4, .f32⟩ : BufTy).Contents (Elt F) → (⟨S32x16x2, .f32⟩ : BufTy).Contents (Elt F)),
    unary main_v22 main_v23 (broadcastInDim S32x16x1x2 ![0, 1, 3] bcast_S32x16x2_S32x16x1x2_0_1_3 : (⟨S32x16x2, .f32⟩ : BufTy).Contents (Elt F) → (⟨S32x16x1x2, .f32⟩ : BufTy).Contents (Elt F)),
    unary main_v13 main_v24 ((extractStridedSlice S8732x2 ![0, 0] · slices_S8732x4_S8732x2_0_0) : (⟨S8732x4, .f32⟩ : BufTy).Contents (Elt F) → (⟨S8732x2, .f32⟩ : BufTy).Contents (Elt F)),
    unary main_v24 main_v25 (broadcastInDim S1x8732x2 ![1, 2] bcast_S8732x2_S1x8732x2_1_2 : (⟨S8732x2, .f32⟩ : BufTy).Contents (Elt F) → (⟨S1x8732x2, .f32⟩ : BufTy).Contents (Elt F)),
    unary main_v25 main_v26 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)),
    unary main_v23 main_v27 (broadcastInDim S32x16x8732x2 ![0, 1, 2, 3] bcast_S32x16x1x2_S32x16x8732x2_0_1_2_3 : (⟨S32x16x1x2, .f32⟩ : BufTy).Contents (Elt F) → (⟨S32x16x8732x2, .f32⟩ : BufTy).Contents (Elt F)),
    unary main_v26 main_v28 (broadcastInDim S32x16x8732x2 ![0, 1, 2, 3] bcast_S1x1x8732x2_S32x16x8732x2_0_1_2_3 : (⟨S1x1x8732x2, .f32⟩ : BufTy).Contents (Elt F) → (⟨S32x16x8732x2, .f32⟩ : BufTy).Contents (Elt F)),
    binary main_v27 main_v28 main_v29 (maximumf : (⟨S32x16x8732x2, .f32⟩ : BufTy).Contents (Elt F) → (⟨S32x16x8732x2, .f32⟩ : BufTy).Contents (Elt F) → (⟨S32x16x8732x2, .f32⟩ : BufTy).Contents (Elt F)),
    binary main_v21 main_v29 main_v30 (subf : (⟨S32x16x8732x2, .f32⟩ : BufTy).Contents (Elt F) → (⟨S32x16x8732x2, .f32⟩ : BufTy).Contents (Elt F) → (⟨S32x16x8732x2, .f32⟩ : BufTy).Contents (Elt F)),
    nullary main_cst_1 (constant S_ .f32 0x00000000#32),
    unary main_cst_1 main_v31 (broadcastInDim S32x16x8732x2 ![] bcast_S_S32x16x8732x2 : (⟨S_, .f32⟩ : BufTy).Contents (Elt F) → (⟨S32x16x8732x2, .f32⟩ : BufTy).Contents (Elt F)),
    binary main_v30 main_v31 main_v32 (maximumf : (⟨S32x16x8732x2, .f32⟩ : BufTy).Contents (Elt F) → (⟨S32x16x8732x2, .f32⟩ : BufTy).Contents (Elt F) → (⟨S32x16x8732x2, .f32⟩ : BufTy).Contents (Elt F)),
    unary main_v32 main_v33 ((extractStridedSlice S32x16x8732x1 ![0, 0, 0, 0] · slices_S32x16x8732x2_S32x16x8732x1_0_0_0_0) : (⟨S32x16x8732x2, .f32⟩ : BufTy).Contents (Elt F) → (⟨S32x16x8732x1, .f32⟩ : BufTy).Contents (Elt F)),
    reshape main_v33 main_v34 (rfl : (.f32 : EltTy) = .f32) shapeCasts_S32x16x8732x1_S32x16x8732,
    unary main_v32 main_v35 ((extractStridedSlice S32x16x8732x1 ![0, 0, 0, 1] · slices_S32x16x8732x2_S32x16x8732x1_0_0_0_1) : (⟨S32x16x8732x2, .f32⟩ : BufTy).Contents (Elt F) → (⟨S32x16x8732x1, .f32⟩ : BufTy).Contents (Elt F)),
    reshape main_v35 main_v36 (rfl : (.f32 : EltTy) = .f32) shapeCasts_S32x16x8732x1_S32x16x8732,
    binary main_v34 main_v36 main_v37 (mulf : (⟨S32x16x8732, .f32⟩ : BufTy).Contents (Elt F) → (⟨S32x16x8732, .f32⟩ : BufTy).Contents (Elt F) → (⟨S32x16x8732, .f32⟩ : BufTy).Contents (Elt F)),
    unary main_v0 main_v38 ((extractStridedSlice S32x16x1 ![0, 0, 2] · slices_S32x16x4_S32x16x1_0_0_2) : (⟨S32x16x4, .f32⟩ : BufTy).Contents (Elt F) → (⟨S32x16x1, .f32⟩ : BufTy).Contents (Elt F)),
    reshape main_v38 main_v39 (rfl : (.f32 : EltTy) = .f32) shapeCasts_S32x16x1_S32x16,
    unary main_v0 main_v40 ((extractStridedSlice S32x16x1 ![0, 0, 0] · slices_S32x16x4_S32x16x1_0_0_0) : (⟨S32x16x4, .f32⟩ : BufTy).Contents (Elt F) → (⟨S32x16x1, .f32⟩ : BufTy).Contents (Elt F)),
    reshape main_v40 main_v41 (rfl : (.f32 : EltTy) = .f32) shapeCasts_S32x16x1_S32x16,
    binary main_v39 main_v41 main_v42 (subf : (⟨S32x16, .f32⟩ : BufTy).Contents (Elt F) → (⟨S32x16, .f32⟩ : BufTy).Contents (Elt F) → (⟨S32x16, .f32⟩ : BufTy).Contents (Elt F)),
    unary main_v0 main_v43 ((extractStridedSlice S32x16x1 ![0, 0, 3] · slices_S32x16x4_S32x16x1_0_0_3) : (⟨S32x16x4, .f32⟩ : BufTy).Contents (Elt F) → (⟨S32x16x1, .f32⟩ : BufTy).Contents (Elt F)),
    reshape main_v43 main_v44 (rfl : (.f32 : EltTy) = .f32) shapeCasts_S32x16x1_S32x16,
    unary main_v0 main_v45 ((extractStridedSlice S32x16x1 ![0, 0, 1] · slices_S32x16x4_S32x16x1_0_0_1) : (⟨S32x16x4, .f32⟩ : BufTy).Contents (Elt F) → (⟨S32x16x1, .f32⟩ : BufTy).Contents (Elt F)),
    reshape main_v45 main_v46 (rfl : (.f32 : EltTy) = .f32) shapeCasts_S32x16x1_S32x16,
    binary main_v44 main_v46 main_v47 (subf : (⟨S32x16, .f32⟩ : BufTy).Contents (Elt F) → (⟨S32x16, .f32⟩ : BufTy).Contents (Elt F) → (⟨S32x16, .f32⟩ : BufTy).Contents (Elt F)),
    binary main_v42 main_v47 main_v48 (mulf : (⟨S32x16, .f32⟩ : BufTy).Contents (Elt F) → (⟨S32x16, .f32⟩ : BufTy).Contents (Elt F) → (⟨S32x16, .f32⟩ : BufTy).Contents (Elt F)),
    unary main_v48 main_v49 (broadcastInDim S32x16x1 ![0, 1] bcast_S32x16_S32x16x1_0_1 : (⟨S32x16, .f32⟩ : BufTy).Contents (Elt F) → (⟨S32x16x1, .f32⟩ : BufTy).Contents (Elt F)),
    unary main_v13 main_v50 ((extractStridedSlice S8732x1 ![0, 2] · slices_S8732x4_S8732x1_0_2) : (⟨S8732x4, .f32⟩ : BufTy).Contents (Elt F) → (⟨S8732x1, .f32⟩ : BufTy).Contents (Elt F)),
    reshape main_v50 main_v51 (rfl : (.f32 : EltTy) = .f32) shapeCasts_S8732x1_S8732,
    unary main_v13 main_v52 ((extractStridedSlice S8732x1 ![0, 0] · slices_S8732x4_S8732x1_0_0) : (⟨S8732x4, .f32⟩ : BufTy).Contents (Elt F) → (⟨S8732x1, .f32⟩ : BufTy).Contents (Elt F)),
    reshape main_v52 main_v53 (rfl : (.f32 : EltTy) = .f32) shapeCasts_S8732x1_S8732,
    binary main_v51 main_v53 main_v54 (subf : (⟨S8732, .f32⟩ : BufTy).Contents (Elt F) → (⟨S8732, .f32⟩ : BufTy).Contents (Elt F) → (⟨S8732, .f32⟩ : BufTy).Contents (Elt F)),
    unary main_v13 main_v55 ((extractStridedSlice S8732x1 ![0, 3] · slices_S8732x4_S8732x1_0_3) : (⟨S8732x4, .f32⟩ : BufTy).Contents (Elt F) → (⟨S8732x1, .f32⟩ : BufTy).Contents (Elt F)),
    reshape main_v55 main_v56 (rfl : (.f32 : EltTy) = .f32) shapeCasts_S8732x1_S8732 ]

/-- @main's operations 61 … 90 of 298 (window `main_part1`). -/
abbrev ops_part1_0 : List (HloOp τ sig (Elt F)) :=
  [ unary main_v13 main_v57 ((extractStridedSlice S8732x1 ![0, 1] · slices_S8732x4_S8732x1_0_1) : (⟨S8732x4, .f32⟩ : BufTy).Contents (Elt F) → (⟨S8732x1, .f32⟩ : BufTy).Contents (Elt F)),
    reshape main_v57 main_v58 (rfl : (.f32 : EltTy) = .f32) shapeCasts_S8732x1_S8732,
    binary main_v56 main_v58 main_v59 (subf : (⟨S8732, .f32⟩ : BufTy).Contents (Elt F) → (⟨S8732, .f32⟩ : BufTy).Contents (Elt F) → (⟨S8732, .f32⟩ : BufTy).Contents (Elt F)),
    binary main_v54 main_v59 main_v60 (mulf : (⟨S8732, .f32⟩ : BufTy).Contents (Elt F) → (⟨S8732, .f32⟩ : BufTy).Contents (Elt F) → (⟨S8732, .f32⟩ : BufTy).Contents (Elt F)),
    unary main_v60 main_v61 (broadcastInDim S1x8732 ![1] bcast_S8732_S1x8732_1 : (⟨S8732, .f32⟩ : BufTy).Contents (Elt F) → (⟨S1x8732, .f32⟩ : BufTy).Contents (Elt F)),
    unary main_v61 main_v62 (broadcastInDim S1x1x8732 ![1, 2] bcast_S1x8732_S1x1x8732_1_2 : (⟨S1x8732, .f32⟩ : BufTy).Contents (Elt F) → (⟨S1x1x8732, .f32⟩ : BufTy).Contents (Elt F)),
    unary main_v49 main_v63 (broadcastInDim S32x16x8732 ![0, 1, 2] bcast_S32x16x1_S32x16x8732_0_1_2 : (⟨S32x16x1, .f32⟩ : BufTy).Contents (Elt F) → (⟨S32x16x8732, .f32⟩ : BufTy).Contents (Elt F)),
    unary main_v62 main_v64 (broadcastInDim S32x16x8732 ![0, 1, 2] bcast_S1x1x8732_S32x16x8732_0_1_2 : (⟨S1x1x8732, .f32⟩ : BufTy).Contents (Elt F) → (⟨S32x16x8732, .f32⟩ : BufTy).Contents (Elt F)),
    binary main_v63 main_v64 main_v65 (addf : (⟨S32x16x8732, .f32⟩ : BufTy).Contents (Elt F) → (⟨S32x16x8732, .f32⟩ : BufTy).Contents (Elt F) → (⟨S32x16x8732, .f32⟩ : BufTy).Contents (Elt F)),
    binary main_v65 main_v37 main_v66 (subf : (⟨S32x16x8732, .f32⟩ : BufTy).Contents (Elt F) → (⟨S32x16x8732, .f32⟩ : BufTy).Contents (Elt F) → (⟨S32x16x8732, .f32⟩ : BufTy).Contents (Elt F)),
    binary main_v37 main_v66 main_v67 (Host.divf : (⟨S32x16x8732, .f32⟩ : BufTy).Contents (Elt F) → (⟨S32x16x8732, .f32⟩ : BufTy).Contents (Elt F) → (⟨S32x16x8732, .f32⟩ : BufTy).Contents (Elt F)),
    nullary main_cst_2 (constant S_ .f32 0xFF800000#32),
    binary main_v67 main_cst_2 main_v68 ((fun x v => Host.reduce FloatOps.maximumf x v reducesTo_S32x16x8732_S32x16_d2 h_S_) : (⟨S32x16x8732, .f32⟩ : BufTy).Contents (Elt F) → (⟨S_, .f32⟩ : BufTy).Contents (Elt F) → (⟨S32x16, .f32⟩ : BufTy).Contents (Elt F)),
    TRef.nullary (TRef.of (T := ⟨S32x16x8732, .i32⟩) main_call0_v0) (iotaInDim S32x16x8732 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32x16x8732, .f32⟩) main_v67) (TRef.of (T := ⟨S32x16x8732, .i32⟩) main_call0_v0) (TRef.of (T := ⟨S_, .f32⟩) main_call0_cst) (TRef.of (T := ⟨S_, .i32⟩) main_call0_c) (TRef.of (T := ⟨S32x16, .f32⟩) main_call0_v1_0) (fun x y u v j => (Host.argReduce reducer_argmax_f32_i32 x y u v reducesTo_S32x16x8732_S32x16_d2 h_S_ j).1),
    TRef.quaternary (TRef.of (T := ⟨S32x16x8732, .f32⟩) main_v67) (TRef.of (T := ⟨S32x16x8732, .i32⟩) main_call0_v0) (TRef.of (T := ⟨S_, .f32⟩) main_call0_cst) (TRef.of (T := ⟨S_, .i32⟩) main_call0_c) (TRef.of (T := ⟨S32x16, .i32⟩) main_v69) (fun x y u v j => (Host.argReduce reducer_argmax_f32_i32 x y u v reducesTo_S32x16x8732_S32x16_d2 h_S_ j).2),
    nullary main_cst_3 (constant S_ .f32 0xFF800000#32),
    binary main_v67 main_cst_3 main_v70 ((fun x v => Host.reduce FloatOps.maximumf x v reducesTo_S32x16x8732_S32x8732_d1 h_S_) : (⟨S32x16x8732, .f32⟩ : BufTy).Contents (Elt F) → (⟨S_, .f32⟩ : BufTy).Contents (Elt F) → (⟨S32x8732, .f32⟩ : BufTy).Contents (Elt F)),
    TRef.nullary (TRef.of (T := ⟨S32x16x8732, .i32⟩) main_call1_v0) (iotaInDim S32x16x8732 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S32x16x8732, .f32⟩) main_v67) (TRef.of (T := ⟨S32x16x8732, .i32⟩) main_call1_v0) (TRef.of (T := ⟨S_, .f32⟩) main_call1_cst) (TRef.of (T := ⟨S_, .i32⟩) main_call1_c) (TRef.of (T := ⟨S32x8732, .f32⟩) main_call1_v1_0) (fun x y u v j => (Host.argReduce reducer_argmax_f32_i32 x y u v reducesTo_S32x16x8732_S32x8732_d1 h_S_ j).1),
    TRef.quaternary (TRef.of (T := ⟨S32x16x8732, .f32⟩) main_v67) (TRef.of (T := ⟨S32x16x8732, .i32⟩) main_call1_v0) (TRef.of (T := ⟨S_, .f32⟩) main_call1_cst) (TRef.of (T := ⟨S_, .i32⟩) main_call1_c) (TRef.of (T := ⟨S32x8732, .i32⟩) main_v71) (fun x y u v j => (Host.argReduce reducer_argmax_f32_i32 x y u v reducesTo_S32x16x8732_S32x8732_d1 h_S_ j).2),
    nullary main_v72 (iotaInDim S32 32 0),
    unary main_v72 main_v73 (broadcastInDim S32x1 ![0] bcast_S32_S32x1_0 : (⟨S32, .i32⟩ : BufTy).Contents (Elt F) → (⟨S32x1, .i32⟩ : BufTy).Contents (Elt F)),
    nullary main_v74 (iotaInDim S16 32 0),
    unary main_v74 main_v75 (broadcastInDim S32x16 ![1] bcast_S16_S32x16_1 : (⟨S16, .i32⟩ : BufTy).Contents (Elt F) → (⟨S32x16, .i32⟩ : BufTy).Contents (Elt F)),
    nullary main_c (constantI S_ 32 0#32) ]

/-- @main's operations 91 … 120 of 298 (window `main_part1`). -/
abbrev ops_part1_1 : List (HloOp τ sig (Elt F)) :=
  [ unary main_c main_v76 (broadcastInDim S32x1 ![] bcast_S_S32x1 : (⟨S_, .i32⟩ : BufTy).Contents (Elt F) → (⟨S32x1, .i32⟩ : BufTy).Contents (Elt F)),
    binary main_v73 main_v76 main_v77 (cmpi .slt : (⟨S32x1, .i32⟩ : BufTy).Contents (Elt F) → (⟨S32x1, .i32⟩ : BufTy).Contents (Elt F) → (⟨S32x1, .i1⟩ : BufTy).Contents (Elt F)),
    nullary main_c_4 (constantI S_ 32 32#32),
    unary main_c_4 main_v78 (broadcastInDim S32x1 ![] bcast_S_S32x1 : (⟨S_, .i32⟩ : BufTy).Contents (Elt F) → (⟨S32x1, .i32⟩ : BufTy).Contents (Elt F)),
    binary main_v73 main_v78 main_v79 (addi : (⟨S32x1, .i32⟩ : BufTy).Contents (Elt F) → (⟨S32x1, .i32⟩ : BufTy).Contents (Elt F) → (⟨S32x1, .i32⟩ : BufTy).Contents (Elt F)),
    ternary main_v77 main_v79 main_v73 main_v80 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_5 (constantI S_ 32 0#32),
    unary main_c_5 main_v81 (broadcastInDim S32x16 ![] bcast_S_S32x16 : (⟨S_, .i32⟩ : BufTy).Contents (Elt F) → (⟨S32x16, .i32⟩ : BufTy).Contents (Elt F)),
    binary main_v69 main_v81 main_v82 (cmpi .slt : (⟨S32x16, .i32⟩ : BufTy).Contents (Elt F) → (⟨S32x16, .i32⟩ : BufTy).Contents (Elt F) → (⟨S32x16, .i1⟩ : BufTy).Contents (Elt F)),
    nullary main_c_6 (constantI S_ 32 8732#32),
    unary main_c_6 main_v83 (broadcastInDim S32x16 ![] bcast_S_S32x16 : (⟨S_, .i32⟩ : BufTy).Contents (Elt F) → (⟨S32x16, .i32⟩ : BufTy).Contents (Elt F)),
    binary main_v69 main_v83 main_v84 (addi : (⟨S32x16, .i32⟩ : BufTy).Contents (Elt F) → (⟨S32x16, .i32⟩ : BufTy).Contents (Elt F) → (⟨S32x16, .i32⟩ : BufTy).Contents (Elt F)),
    ternary main_v82 main_v84 main_v69 main_v85 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)),
    unary main_v80 main_v86 (broadcastInDim S32x16 ![0, 1] bcast_S32x1_S32x16_0_1 : (⟨S32x1, .i32⟩ : BufTy).Contents (Elt F) → (⟨S32x16, .i32⟩ : BufTy).Contents (Elt F)),
    unary main_v86 main_v87 (broadcastInDim S32x16x1 ![0, 1] bcast_S32x16_S32x16x1_0_1 : (⟨S32x16, .i32⟩ : BufTy).Contents (Elt F) → (⟨S32x16x1, .i32⟩ : BufTy).Contents (Elt F)),
    unary main_v85 main_v88 (broadcastInDim S32x16x1 ![0, 1] bcast_S32x16_S32x16x1_0_1 : (⟨S32x16, .i32⟩ : BufTy).Contents (Elt F) → (⟨S32x16x1, .i32⟩ : BufTy).Contents (Elt F)),
    binary main_v87 main_v88 main_v89 (fn_main_v89 (F := F)),
    ternary main_v71 main_v89 main_v75 main_v90 ((fun x i u => Host.scatter scatter_S32x8732_S32x16x2_S32x16_n_01_01_2 (fun _ b => b) x i u) : (⟨S32x8732, .i32⟩ : BufTy).Contents (Elt F) → (⟨S32x16x2, .i32⟩ : BufTy).Contents (Elt F) → (⟨S32x16, .i32⟩ : BufTy).Contents (Elt F) → (⟨S32x8732, .i32⟩ : BufTy).Contents (Elt F)),
    nullary main_c_7 (constantI S_ 32 0#32),
    unary main_c_7 main_v91 (broadcastInDim S32x1 ![] bcast_S_S32x1 : (⟨S_, .i32⟩ : BufTy).Contents (Elt F) → (⟨S32x1, .i32⟩ : BufTy).Contents (Elt F)),
    binary main_v73 main_v91 main_v92 (cmpi .slt : (⟨S32x1, .i32⟩ : BufTy).Contents (Elt F) → (⟨S32x1, .i32⟩ : BufTy).Contents (Elt F) → (⟨S32x1, .i1⟩ : BufTy).Contents (Elt F)),
    nullary main_c_8 (constantI S_ 32 32#32),
    unary main_c_8 main_v93 (broadcastInDim S32x1 ![] bcast_S_S32x1 : (⟨S_, .i32⟩ : BufTy).Contents (Elt F) → (⟨S32x1, .i32⟩ : BufTy).Contents (Elt F)),
    binary main_v73 main_v93 main_v94 (addi : (⟨S32x1, .i32⟩ : BufTy).Contents (Elt F) → (⟨S32x1, .i32⟩ : BufTy).Contents (Elt F) → (⟨S32x1, .i32⟩ : BufTy).Contents (Elt F)),
    ternary main_v92 main_v94 main_v73 main_v95 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_9 (constantI S_ 32 0#32),
    unary main_c_9 main_v96 (broadcastInDim S32x16 ![] bcast_S_S32x16 : (⟨S_, .i32⟩ : BufTy).Contents (Elt F) → (⟨S32x16, .i32⟩ : BufTy).Contents (Elt F)),
    binary main_v69 main_v96 main_v97 (cmpi .slt : (⟨S32x16, .i32⟩ : BufTy).Contents (Elt F) → (⟨S32x16, .i32⟩ : BufTy).Contents (Elt F) → (⟨S32x16, .i1⟩ : BufTy).Contents (Elt F)),
    nullary main_c_10 (constantI S_ 32 8732#32),
    unary main_c_10 main_v98 (broadcastInDim S32x16 ![] bcast_S_S32x16 : (⟨S_, .i32⟩ : BufTy).Contents (Elt F) → (⟨S32x16, .i32⟩ : BufTy).Contents (Elt F)) ]

/-- @main's operations 121 … 128 of 298 (window `main_part1`). -/
abbrev ops_part1_2 : List (HloOp τ sig (Elt F)) :=
  [ binary main_v69 main_v98 main_v99 (addi : (⟨S32x16, .i32⟩ : BufTy).Contents (Elt F) → (⟨S32x16, .i32⟩ : BufTy).Contents (Elt F) → (⟨S32x16, .i32⟩ : BufTy).Contents (Elt F)),
    ternary main_v97 main_v99 main_v69 main_v100 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)),
    unary main_v95 main_v101 (broadcastInDim S32x16 ![0, 1] bcast_S32x1_S32x16_0_1 : (⟨S32x1, .i32⟩ : BufTy).Contents (Elt F) → (⟨S32x16, .i32⟩ : BufTy).Contents (Elt F)),
    unary main_v101 main_v102 (broadcastInDim S32x16x1 ![0, 1] bcast_S32x16_S32x16x1_0_1 : (⟨S32x16, .i32⟩ : BufTy).Contents (Elt F) → (⟨S32x16x1, .i32⟩ : BufTy).Contents (Elt F)),
    unary main_v100 main_v103 (broadcastInDim S32x16x1 ![0, 1] bcast_S32x16_S32x16x1_0_1 : (⟨S32x16, .i32⟩ : BufTy).Contents (Elt F) → (⟨S32x16x1, .i32⟩ : BufTy).Contents (Elt F)),
    binary main_v102 main_v103 main_v104 (fn_main_v104 (F := F)),
    ternary main_v70 main_v104 main_v68 main_v105 ((fun x i u => Host.scatter scatter_S32x8732_S32x16x2_S32x16_n_01_01_2 (fun _ b => b) x i u) : (⟨S32x8732, .f32⟩ : BufTy).Contents (Elt F) → (⟨S32x16x2, .i32⟩ : BufTy).Contents (Elt F) → (⟨S32x16, .f32⟩ : BufTy).Contents (Elt F) → (⟨S32x8732, .f32⟩ : BufTy).Contents (Elt F)),
    nullary main_c_11 (constantI S_ 32 0#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 129 … 158 of 298 (window `main_part2`). -/
abbrev ops_part2_0 : List (HloOp τ sig (Elt F)) :=
  [ unary main_c_11 main_v106 (broadcastInDim S32x1 ![] bcast_S_S32x1 : (⟨S_, .i32⟩ : BufTy).Contents (Elt F) → (⟨S32x1, .i32⟩ : BufTy).Contents (Elt F)),
    binary main_v73 main_v106 main_v107 (cmpi .slt : (⟨S32x1, .i32⟩ : BufTy).Contents (Elt F) → (⟨S32x1, .i32⟩ : BufTy).Contents (Elt F) → (⟨S32x1, .i1⟩ : BufTy).Contents (Elt F)),
    nullary main_c_12 (constantI S_ 32 32#32),
    unary main_c_12 main_v108 (broadcastInDim S32x1 ![] bcast_S_S32x1 : (⟨S_, .i32⟩ : BufTy).Contents (Elt F) → (⟨S32x1, .i32⟩ : BufTy).Contents (Elt F)),
    binary main_v73 main_v108 main_v109 (addi : (⟨S32x1, .i32⟩ : BufTy).Contents (Elt F) → (⟨S32x1, .i32⟩ : BufTy).Contents (Elt F) → (⟨S32x1, .i32⟩ : BufTy).Contents (Elt F)),
    ternary main_v107 main_v109 main_v73 main_v110 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_13 (constantI S_ 32 0#32),
    unary main_c_13 main_v111 (broadcastInDim S32x8732 ![] bcast_S_S32x8732 : (⟨S_, .i32⟩ : BufTy).Contents (Elt F) → (⟨S32x8732, .i32⟩ : BufTy).Contents (Elt F)),
    binary main_v90 main_v111 main_v112 (cmpi .slt : (⟨S32x8732, .i32⟩ : BufTy).Contents (Elt F) → (⟨S32x8732, .i32⟩ : BufTy).Contents (Elt F) → (⟨S32x8732, .i1⟩ : BufTy).Contents (Elt F)),
    nullary main_c_14 (constantI S_ 32 16#32),
    unary main_c_14 main_v113 (broadcastInDim S32x8732 ![] bcast_S_S32x8732 : (⟨S_, .i32⟩ : BufTy).Contents (Elt F) → (⟨S32x8732, .i32⟩ : BufTy).Contents (Elt F)),
    binary main_v90 main_v113 main_v114 (addi : (⟨S32x8732, .i32⟩ : BufTy).Contents (Elt F) → (⟨S32x8732, .i32⟩ : BufTy).Contents (Elt F) → (⟨S32x8732, .i32⟩ : BufTy).Contents (Elt F)),
    ternary main_v112 main_v114 main_v90 main_v115 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
    unary main_v110 main_v116 (broadcastInDim S32x8732 ![0, 1] bcast_S32x1_S32x8732_0_1 : (⟨S32x1, .i32⟩ : BufTy).Contents (Elt F) → (⟨S32x8732, .i32⟩ : BufTy).Contents (Elt F)),
    unary main_v116 main_v117 (broadcastInDim S32x8732x1 ![0, 1] bcast_S32x8732_S32x8732x1_0_1 : (⟨S32x8732, .i32⟩ : BufTy).Contents (Elt F) → (⟨S32x8732x1, .i32⟩ : BufTy).Contents (Elt F)),
    unary main_v115 main_v118 (broadcastInDim S32x8732x1 ![0, 1] bcast_S32x8732_S32x8732x1_0_1 : (⟨S32x8732, .i32⟩ : BufTy).Contents (Elt F) → (⟨S32x8732x1, .i32⟩ : BufTy).Contents (Elt F)),
    binary main_v117 main_v118 main_v119 (fn_main_v119 (F := F)),
    binary main_v0 main_v119 main_v120 ((fun x i => Host.gather gather_S32x16x4_S32x8732x2_S32x8732x4_2_01_n_n_01_2_114 x i) : (⟨S32x16x4, .f32⟩ : BufTy).Contents (Elt F) → (⟨S32x8732x2, .i32⟩ : BufTy).Contents (Elt F) → (⟨S32x8732x4, .f32⟩ : BufTy).Contents (Elt F)),
    nullary main_c_15 (constantI S_ 32 0#32),
    unary main_c_15 main_v121 (broadcastInDim S32x1 ![] bcast_S_S32x1 : (⟨S_, .i32⟩ : BufTy).Contents (Elt F) → (⟨S32x1, .i32⟩ : BufTy).Contents (Elt F)),
    binary main_v73 main_v121 main_v122 (cmpi .slt : (⟨S32x1, .i32⟩ : BufTy).Contents (Elt F) → (⟨S32x1, .i32⟩ : BufTy).Contents (Elt F) → (⟨S32x1, .i1⟩ : BufTy).Contents (Elt F)),
    nullary main_c_16 (constantI S_ 32 32#32),
    unary main_c_16 main_v123 (broadcastInDim S32x1 ![] bcast_S_S32x1 : (⟨S_, .i32⟩ : BufTy).Contents (Elt F) → (⟨S32x1, .i32⟩ : BufTy).Contents (Elt F)),
    binary main_v73 main_v123 main_v124 (addi : (⟨S32x1, .i32⟩ : BufTy).Contents (Elt F) → (⟨S32x1, .i32⟩ : BufTy).Contents (Elt F) → (⟨S32x1, .i32⟩ : BufTy).Contents (Elt F)),
    ternary main_v122 main_v124 main_v73 main_v125 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_17 (constantI S_ 32 0#32),
    unary main_c_17 main_v126 (broadcastInDim S32x8732 ![] bcast_S_S32x8732 : (⟨S_, .i32⟩ : BufTy).Contents (Elt F) → (⟨S32x8732, .i32⟩ : BufTy).Contents (Elt F)),
    binary main_v90 main_v126 main_v127 (cmpi .slt : (⟨S32x8732, .i32⟩ : BufTy).Contents (Elt F) → (⟨S32x8732, .i32⟩ : BufTy).Contents (Elt F) → (⟨S32x8732, .i1⟩ : BufTy).Contents (Elt F)),
    nullary main_c_18 (constantI S_ 32 16#32),
    unary main_c_18 main_v128 (broadcastInDim S32x8732 ![] bcast_S_S32x8732 : (⟨S_, .i32⟩ : BufTy).Contents (Elt F) → (⟨S32x8732, .i32⟩ : BufTy).Contents (Elt F)) ]

/-- @main's operations 159 … 188 of 298 (window `main_part2`). -/
abbrev ops_part2_1 : List (HloOp τ sig (Elt F)) :=
  [ binary main_v90 main_v128 main_v129 (addi : (⟨S32x8732, .i32⟩ : BufTy).Contents (Elt F) → (⟨S32x8732, .i32⟩ : BufTy).Contents (Elt F) → (⟨S32x8732, .i32⟩ : BufTy).Contents (Elt F)),
    ternary main_v127 main_v129 main_v90 main_v130 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
    unary main_v125 main_v131 (broadcastInDim S32x8732 ![0, 1] bcast_S32x1_S32x8732_0_1 : (⟨S32x1, .i32⟩ : BufTy).Contents (Elt F) → (⟨S32x8732, .i32⟩ : BufTy).Contents (Elt F)),
    unary main_v131 main_v132 (broadcastInDim S32x8732x1 ![0, 1] bcast_S32x8732_S32x8732x1_0_1 : (⟨S32x8732, .i32⟩ : BufTy).Contents (Elt F) → (⟨S32x8732x1, .i32⟩ : BufTy).Contents (Elt F)),
    unary main_v130 main_v133 (broadcastInDim S32x8732x1 ![0, 1] bcast_S32x8732_S32x8732x1_0_1 : (⟨S32x8732, .i32⟩ : BufTy).Contents (Elt F) → (⟨S32x8732x1, .i32⟩ : BufTy).Contents (Elt F)),
    binary main_v132 main_v133 main_v134 (fn_main_v134 (F := F)),
    binary main_v2 main_v134 main_v135 ((fun x i => Host.gather gather_S32x16_S32x8732x2_S32x8732_n_01_n_n_01_2_11 x i) : (⟨S32x16, .f32⟩ : BufTy).Contents (Elt F) → (⟨S32x8732x2, .i32⟩ : BufTy).Contents (Elt F) → (⟨S32x8732, .f32⟩ : BufTy).Contents (Elt F)),
    nullary main_cst_19 (constant S_ .f32 0x3F000000#32),
    unary main_cst_19 main_v136 (broadcastInDim S32x8732 ![] bcast_S_S32x8732 : (⟨S_, .f32⟩ : BufTy).Contents (Elt F) → (⟨S32x8732, .f32⟩ : BufTy).Contents (Elt F)),
    binary main_v105 main_v136 main_v137 (cmpf .olt : (⟨S32x8732, .f32⟩ : BufTy).Contents (Elt F) → (⟨S32x8732, .f32⟩ : BufTy).Contents (Elt F) → (⟨S32x8732, .i1⟩ : BufTy).Contents (Elt F)),
    nullary main_cst_20 (constant S_ .f32 0x00000000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S32x8732, .f32⟩) main_call2_v1) (broadcastInDim S32x8732 ![] bcast_S_S32x8732),
    TRef.ternary (TRef.of (T := ⟨S32x8732, .i1⟩) main_v137) (TRef.of (T := ⟨S32x8732, .f32⟩) main_call2_v1) (TRef.of (T := ⟨S32x8732, .f32⟩) main_v135) (TRef.of (T := ⟨S32x8732, .f32⟩) main_v138) select,
    unary main_v120 main_v139 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
    unary main_v120 main_v140 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
    binary main_v139 main_v140 main_v141 (addf : (⟨S32x8732x2, .f32⟩ : BufTy).Contents (Elt F) → (⟨S32x8732x2, .f32⟩ : BufTy).Contents (Elt F) → (⟨S32x8732x2, .f32⟩ : BufTy).Contents (Elt F)),
    nullary main_cst_21 (constant S_ .f32 0x40000000#32),
    unary main_cst_21 main_v142 (broadcastInDim S32x8732x2 ![] bcast_S_S32x8732x2 : (⟨S_, .f32⟩ : BufTy).Contents (Elt F) → (⟨S32x8732x2, .f32⟩ : BufTy).Contents (Elt F)),
    binary main_v141 main_v142 main_v143 (Host.divf : (⟨S32x8732x2, .f32⟩ : BufTy).Contents (Elt F) → (⟨S32x8732x2, .f32⟩ : BufTy).Contents (Elt F) → (⟨S32x8732x2, .f32⟩ : BufTy).Contents (Elt F)),
    unary main_arg2 main_v144 ((extractStridedSlice S8732x2 ![0, 0] · slices_S8732x4_S8732x2_0_0) : (⟨S8732x4, .f32⟩ : BufTy).Contents (Elt F) → (⟨S8732x2, .f32⟩ : BufTy).Contents (Elt F)),
    unary main_v144 main_v145 (broadcastInDim S1x8732x2 ![1, 2] bcast_S8732x2_S1x8732x2_1_2 : (⟨S8732x2, .f32⟩ : BufTy).Contents (Elt F) → (⟨S1x8732x2, .f32⟩ : BufTy).Contents (Elt F)),
    unary main_v145 main_v146 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v143 main_v146 main_v147 (subf : (⟨S32x8732x2, .f32⟩ : BufTy).Contents (Elt F) → (⟨S32x8732x2, .f32⟩ : BufTy).Contents (Elt F) → (⟨S32x8732x2, .f32⟩ : BufTy).Contents (Elt F)),
    unary main_arg2 main_v148 ((extractStridedSlice S8732x2 ![0, 2] · slices_S8732x4_S8732x2_0_2) : (⟨S8732x4, .f32⟩ : BufTy).Contents (Elt F) → (⟨S8732x2, .f32⟩ : BufTy).Contents (Elt F)),
    nullary main_cst_22 (constant S_ .f32 0x3DCCCCCD#32),
    unary main_cst_22 main_v149 (broadcastInDim S8732x2 ![] bcast_S_S8732x2 : (⟨S_, .f32⟩ : BufTy).Contents (Elt F) → (⟨S8732x2, .f32⟩ : BufTy).Contents (Elt F)),
    binary main_v149 main_v148 main_v150 (mulf : (⟨S8732x2, .f32⟩ : BufTy).Contents (Elt F) → (⟨S8732x2, .f32⟩ : BufTy).Contents (Elt F) → (⟨S8732x2, .f32⟩ : BufTy).Contents (Elt F)),
    unary main_v150 main_v151 (broadcastInDim S1x8732x2 ![1, 2] bcast_S8732x2_S1x8732x2_1_2 : (⟨S8732x2, .f32⟩ : BufTy).Contents (Elt F) → (⟨S1x8732x2, .f32⟩ : BufTy).Contents (Elt F)),
    unary main_v151 main_v152 (broadcastInDim S32x8732x2 ![0, 1, 2] bcast_S1x8732x2_S32x8732x2_0_1_2 : (⟨S1x8732x2, .f32⟩ : BufTy).Contents (Elt F) → (⟨S32x8732x2, .f32⟩ : BufTy).Contents (Elt F)) ]

/-- @main's operations 189 … 190 of 298 (window `main_part2`). -/
abbrev ops_part2_2 : List (HloOp τ sig (Elt F)) :=
  [ binary main_v147 main_v152 main_v153 (Host.divf : (⟨S32x8732x2, .f32⟩ : BufTy).Contents (Elt F) → (⟨S32x8732x2, .f32⟩ : BufTy).Contents (Elt F) → (⟨S32x8732x2, .f32⟩ : BufTy).Contents (Elt F)),
    unary main_v120 main_v154 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 191 … 220 of 298 (window `main_part3`). -/
abbrev ops_part3_0 : List (HloOp τ sig (Elt F)) :=
  [ unary main_v120 main_v155 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
    binary main_v154 main_v155 main_v156 (subf : (⟨S32x8732x2, .f32⟩ : BufTy).Contents (Elt F) → (⟨S32x8732x2, .f32⟩ : BufTy).Contents (Elt F) → (⟨S32x8732x2, .f32⟩ : BufTy).Contents (Elt F)),
    unary main_arg2 main_v157 ((extractStridedSlice S8732x2 ![0, 2] · slices_S8732x4_S8732x2_0_2) : (⟨S8732x4, .f32⟩ : BufTy).Contents (Elt F) → (⟨S8732x2, .f32⟩ : BufTy).Contents (Elt F)),
    unary main_v157 main_v158 (broadcastInDim S1x8732x2 ![1, 2] bcast_S8732x2_S1x8732x2_1_2 : (⟨S8732x2, .f32⟩ : BufTy).Contents (Elt F) → (⟨S1x8732x2, .f32⟩ : BufTy).Contents (Elt F)),
    unary main_v158 main_v159 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v156 main_v159 main_v160 (Host.divf : (⟨S32x8732x2, .f32⟩ : BufTy).Contents (Elt F) → (⟨S32x8732x2, .f32⟩ : BufTy).Contents (Elt F) → (⟨S32x8732x2, .f32⟩ : BufTy).Contents (Elt F)),
    unary main_v160 main_v161 (Host.log : (⟨S32x8732x2, .f32⟩ : BufTy).Contents (Elt F) → (⟨S32x8732x2, .f32⟩ : BufTy).Contents (Elt F)),
    nullary main_cst_23 (constant S_ .f32 0x3E4CCCCD#32),
    unary main_cst_23 main_v162 (broadcastInDim S32x8732x2 ![] bcast_S_S32x8732x2 : (⟨S_, .f32⟩ : BufTy).Contents (Elt F) → (⟨S32x8732x2, .f32⟩ : BufTy).Contents (Elt F)),
    binary main_v161 main_v162 main_v163 (Host.divf : (⟨S32x8732x2, .f32⟩ : BufTy).Contents (Elt F) → (⟨S32x8732x2, .f32⟩ : BufTy).Contents (Elt F) → (⟨S32x8732x2, .f32⟩ : BufTy).Contents (Elt F)),
    binary main_v153 main_v163 main_v164 (fn_main_v164 (F := F)),
    unary main_v138 main_v165 (fptosi 32 : (⟨S32x8732, .f32⟩ : BufTy).Contents (Elt F) → (⟨S32x8732, .i32⟩ : BufTy).Contents (Elt F)),
    nullary main_c_24 (constantI S_ 32 0#32),
    unary main_c_24 main_v166 (broadcastInDim S32x8732 ![] bcast_S_S32x8732 : (⟨S_, .i32⟩ : BufTy).Contents (Elt F) → (⟨S32x8732, .i32⟩ : BufTy).Contents (Elt F)),
    binary main_v165 main_v166 main_v167 (cmpi .sgt : (⟨S32x8732, .i32⟩ : BufTy).Contents (Elt F) → (⟨S32x8732, .i32⟩ : BufTy).Contents (Elt F) → (⟨S32x8732, .i1⟩ : BufTy).Contents (Elt F)),
    binary main_arg0 main_v164 main_v168 (subf : (⟨S32x8732x4, .f32⟩ : BufTy).Contents (Elt F) → (⟨S32x8732x4, .f32⟩ : BufTy).Contents (Elt F) → (⟨S32x8732x4, .f32⟩ : BufTy).Contents (Elt F)),
    unary main_v168 main_v169 (Host.absf : (⟨S32x8732x4, .f32⟩ : BufTy).Contents (Elt F) → (⟨S32x8732x4, .f32⟩ : BufTy).Contents (Elt F)),
    nullary main_cst_25 (constant S_ .f32 0x3F800000#32),
    unary main_cst_25 main_v170 (broadcastInDim S32x8732x4 ![] bcast_S_S32x8732x4 : (⟨S_, .f32⟩ : BufTy).Contents (Elt F) → (⟨S32x8732x4, .f32⟩ : BufTy).Contents (Elt F)),
    binary main_v169 main_v170 main_v171 (cmpf .olt : (⟨S32x8732x4, .f32⟩ : BufTy).Contents (Elt F) → (⟨S32x8732x4, .f32⟩ : BufTy).Contents (Elt F) → (⟨S32x8732x4, .i1⟩ : BufTy).Contents (Elt F)),
    nullary main_cst_26 (constant S_ .f32 0x3F000000#32),
    unary main_cst_26 main_v172 (broadcastInDim S32x8732x4 ![] bcast_S_S32x8732x4 : (⟨S_, .f32⟩ : BufTy).Contents (Elt F) → (⟨S32x8732x4, .f32⟩ : BufTy).Contents (Elt F)),
    binary main_v172 main_v168 main_v173 (mulf : (⟨S32x8732x4, .f32⟩ : BufTy).Contents (Elt F) → (⟨S32x8732x4, .f32⟩ : BufTy).Contents (Elt F) → (⟨S32x8732x4, .f32⟩ : BufTy).Contents (Elt F)),
    binary main_v173 main_v168 main_v174 (mulf : (⟨S32x8732x4, .f32⟩ : BufTy).Contents (Elt F) → (⟨S32x8732x4, .f32⟩ : BufTy).Contents (Elt F) → (⟨S32x8732x4, .f32⟩ : BufTy).Contents (Elt F)),
    nullary main_cst_27 (constant S_ .f32 0x3F000000#32),
    unary main_cst_27 main_v175 (broadcastInDim S32x8732x4 ![] bcast_S_S32x8732x4 : (⟨S_, .f32⟩ : BufTy).Contents (Elt F) → (⟨S32x8732x4, .f32⟩ : BufTy).Contents (Elt F)),
    binary main_v169 main_v175 main_v176 (subf : (⟨S32x8732x4, .f32⟩ : BufTy).Contents (Elt F) → (⟨S32x8732x4, .f32⟩ : BufTy).Contents (Elt F) → (⟨S32x8732x4, .f32⟩ : BufTy).Contents (Elt F)),
    TRef.ternary (TRef.of (T := ⟨S32x8732x4, .i1⟩) main_v171) (TRef.of (T := ⟨S32x8732x4, .f32⟩) main_v174) (TRef.of (T := ⟨S32x8732x4, .f32⟩) main_v176) (TRef.of (T := ⟨S32x8732x4, .f32⟩) main_v177) select,
    unary main_v167 main_v178 (broadcastInDim S32x8732x1 ![0, 1] bcast_S32x8732_S32x8732x1_0_1 : (⟨S32x8732, .i1⟩ : BufTy).Contents (Elt F) → (⟨S32x8732x1, .i1⟩ : BufTy).Contents (Elt F)),
    nullary main_cst_28 (constant S_ .f32 0x00000000#32) ]

/-- @main's operations 221 … 250 of 298 (window `main_part3`). -/
abbrev ops_part3_1 : List (HloOp τ sig (Elt F)) :=
  [ TRef.unary (TRef.of (T := ⟨S_, .f32⟩) main_cst_28) (TRef.of (T := ⟨S_, .f32⟩) main_call4_v0) id,
    TRef.unary (TRef.of (T := ⟨S32x8732x1, .i1⟩) main_v178) (TRef.of (T := ⟨S32x8732x4, .i1⟩) main_call4_v1) (broadcastInDim S32x8732x4 ![0, 1, 2] bcast_S32x8732x1_S32x8732x4_0_1_2),
    TRef.unary (TRef.of (T := ⟨S_, .f32⟩) main_call4_v0) (TRef.of (T := ⟨S32x8732x4, .f32⟩) main_call4_v2) (broadcastInDim S32x8732x4 ![] bcast_S_S32x8732x4),
    TRef.ternary (TRef.of (T := ⟨S32x8732x4, .i1⟩) main_call4_v1) (TRef.of (T := ⟨S32x8732x4, .f32⟩) main_v177) (TRef.of (T := ⟨S32x8732x4, .f32⟩) main_call4_v2) (TRef.of (T := ⟨S32x8732x4, .f32⟩) main_v179) select,
    nullary main_cst_29 (constant S_ .f32 0x00000000#32),
    binary main_v179 main_cst_29 main_v180 ((fun x v => Host.reduceAdd x v reducesTo_S32x8732x4_S_d0_1_2 h_S_) : (⟨S32x8732x4, .f32⟩ : BufTy).Contents (Elt F) → (⟨S_, .f32⟩ : BufTy).Contents (Elt F) → (⟨S_, .f32⟩ : BufTy).Contents (Elt F)),
    reshape main_arg1 main_v181 (rfl : (.f32 : EltTy) = .f32) shapeCasts_S32x8732x21_S279424x21,
    reshape main_v165 main_v182 (rfl : (.i32 : EltTy) = .i32) shapeCasts_S32x8732_S279424x1,
    TRef.nullary (TRef.of (T := ⟨S_, .i32⟩) main_call5_c) (constantI S_ 32 0#32),
    TRef.unary (TRef.of (T := ⟨S_, .i32⟩) main_call5_c) (TRef.of (T := ⟨S279424x1, .i32⟩) main_call5_v0) (broadcastInDim S279424x1 ![] bcast_S_S279424x1),
    TRef.binary (TRef.of (T := ⟨S279424x1, .i32⟩) main_v182) (TRef.of (T := ⟨S279424x1, .i32⟩) main_call5_v0) (TRef.of (T := ⟨S279424x1, .i1⟩) main_call5_v1) (cmpi .slt),
    TRef.nullary (TRef.of (T := ⟨S_, .i32⟩) main_call5_c_0) (constantI S_ 32 21#32),
    TRef.unary (TRef.of (T := ⟨S_, .i32⟩) main_call5_c_0) (TRef.of (T := ⟨S279424x1, .i32⟩) main_call5_v2) (broadcastInDim S279424x1 ![] bcast_S_S279424x1),
    TRef.binary (TRef.of (T := ⟨S279424x1, .i32⟩) main_v182) (TRef.of (T := ⟨S279424x1, .i32⟩) main_call5_v2) (TRef.of (T := ⟨S279424x1, .i32⟩) main_call5_v3) addi,
    TRef.ternary (TRef.of (T := ⟨S279424x1, .i1⟩) main_call5_v1) (TRef.of (T := ⟨S279424x1, .i32⟩) main_call5_v3) (TRef.of (T := ⟨S279424x1, .i32⟩) main_v182) (TRef.of (T := ⟨S279424x1, .i32⟩) main_call5_v4) select,
    TRef.reshape (TRef.of (T := ⟨S279424x1, .i32⟩) main_call5_v4) (TRef.of (T := ⟨S279424x1x1, .i32⟩) main_call5_v5) (rfl : (.i32 : EltTy) = .i32) shapeCasts_S279424x1_S279424x1x1,
    TRef.nullary (TRef.of (T := ⟨S1, .i32⟩) main_call5_c_1) (constantI S1 32 20#32),
    TRef.nullary (TRef.of (T := ⟨S_, .i32⟩) main_call5_c_2) (constantI S_ 32 0#32),
    TRef.unary (TRef.of (T := ⟨S_, .i32⟩) main_call5_c_2) (TRef.of (T := ⟨S279424x1x1, .i32⟩) main_call5_v6) (broadcastInDim S279424x1x1 ![] bcast_S_S279424x1x1),
    TRef.binary (TRef.of (T := ⟨S279424x1x1, .i32⟩) main_call5_v5) (TRef.of (T := ⟨S279424x1x1, .i32⟩) main_call5_v6) (TRef.of (T := ⟨S279424x1x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S279424x1x1, .i32⟩) main_call5_v9) (broadcastInDim S279424x1x1 ![0, 1, 2] bcast_S1x1x1_S279424x1x1_0_1_2),
    TRef.binary (TRef.of (T := ⟨S279424x1x1, .i32⟩) main_call5_v5) (TRef.of (T := ⟨S279424x1x1, .i32⟩) main_call5_v9) (TRef.of (T := ⟨S279424x1x1, .i1⟩) main_call5_v10) (cmpi .sle),
    TRef.binary (TRef.of (T := ⟨S279424x1x1, .i1⟩) main_call5_v7) (TRef.of (T := ⟨S279424x1x1, .i1⟩) main_call5_v10) (TRef.of (T := ⟨S279424x1x1, .i1⟩) main_call5_v11) andi,
    TRef.nullary (TRef.of (T := ⟨S_, .i1⟩) main_call5_c_3) (constantI S_ 1 1#1),
    TRef.binary (TRef.of (T := ⟨S279424x1x1, .i1⟩) main_call5_v11) (TRef.of (T := ⟨S_, .i1⟩) main_call5_c_3) (TRef.of (T := ⟨S279424x1, .i1⟩) main_call5_v12) (fun x v => Host.reduce IntOp.andi x v reducesTo_S279424x1x1_S279424x1_d2 h_S_),
    TRef.binary (TRef.of (T := ⟨S279424x21, .f32⟩) main_v181) (TRef.of (T := ⟨S279424x1x1, .i32⟩) main_call5_v5) (TRef.of (T := ⟨S279424x1, .f32⟩) main_call5_v13) (fun x i => Host.gather gather_S279424x21_S279424x1x1_S279424x1_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S279424x1, .f32⟩) main_call5_v14) (broadcastInDim S279424x1 ![] bcast_S_S279424x1),
    TRef.ternary (TRef.of (T := ⟨S279424x1, .i1⟩) main_call5_v12) (TRef.of (T := ⟨S279424x1, .f32⟩) main_call5_v13) (TRef.of (T := ⟨S279424x1, .f32⟩) main_call5_v14) (TRef.of (T := ⟨S279424x1, .f32⟩) main_v183) select ]

/-- @main's operations 251 … 280 of 298 (window `main_part3`). -/
abbrev ops_part3_2 : List (HloOp τ sig (Elt F)) :=
  [ reshape main_v183 main_v184 (rfl : (.f32 : EltTy) = .f32) shapeCasts_S279424x1_S279424,
    nullary main_cst_30 (constant S_ .f32 0xFF800000#32),
    binary main_v181 main_cst_30 main_v185 ((fun x v => Host.reduce FloatOps.maximumf x v reducesTo_S279424x21_S_d0_1 h_S_) : (⟨S279424x21, .f32⟩ : BufTy).Contents (Elt F) → (⟨S_, .f32⟩ : BufTy).Contents (Elt F) → (⟨S_, .f32⟩ : BufTy).Contents (Elt F)),
    unary main_v185 main_v186 (broadcastInDim S279424x21 ![] bcast_S_S279424x21 : (⟨S_, .f32⟩ : BufTy).Contents (Elt F) → (⟨S279424x21, .f32⟩ : BufTy).Contents (Elt F)),
    binary main_v181 main_v186 main_v187 (subf : (⟨S279424x21, .f32⟩ : BufTy).Contents (Elt F) → (⟨S279424x21, .f32⟩ : BufTy).Contents (Elt F) → (⟨S279424x21, .f32⟩ : BufTy).Contents (Elt F)),
    unary main_v187 main_v188 (Host.exp : (⟨S279424x21, .f32⟩ : BufTy).Contents (Elt F) → (⟨S279424x21, .f32⟩ : BufTy).Contents (Elt F)),
    nullary main_cst_31 (constant S_ .f32 0x00000000#32),
    binary main_v188 main_cst_31 main_v189 ((fun x v => Host.reduceAdd x v reducesTo_S279424x21_S279424_d1 h_S_) : (⟨S279424x21, .f32⟩ : BufTy).Contents (Elt F) → (⟨S_, .f32⟩ : BufTy).Contents (Elt F) → (⟨S279424, .f32⟩ : BufTy).Contents (Elt F)),
    unary main_v189 main_v190 (Host.log : (⟨S279424, .f32⟩ : BufTy).Contents (Elt F) → (⟨S279424, .f32⟩ : BufTy).Contents (Elt F)),
    unary main_v185 main_v191 (broadcastInDim S279424 ![] bcast_S_S279424 : (⟨S_, .f32⟩ : BufTy).Contents (Elt F) → (⟨S279424, .f32⟩ : BufTy).Contents (Elt F)),
    binary main_v190 main_v191 main_v192 (addf : (⟨S279424, .f32⟩ : BufTy).Contents (Elt F) → (⟨S279424, .f32⟩ : BufTy).Contents (Elt F) → (⟨S279424, .f32⟩ : BufTy).Contents (Elt F)),
    binary main_v192 main_v184 main_v193 (subf : (⟨S279424, .f32⟩ : BufTy).Contents (Elt F) → (⟨S279424, .f32⟩ : BufTy).Contents (Elt F) → (⟨S279424, .f32⟩ : BufTy).Contents (Elt F)),
    reshape main_v193 main_v194 (rfl : (.f32 : EltTy) = .f32) shapeCasts_S279424_S32x8732,
    nullary main_cst_32 (constant S_ .f32 0x00000000#32),
    TRef.unary (TRef.of (T := ⟨S_, .f32⟩) main_cst_32) (TRef.of (T := ⟨S_, .f32⟩) main_call6_v0) id,
    TRef.unary (TRef.of (T := ⟨S_, .f32⟩) main_call6_v0) (TRef.of (T := ⟨S32x8732, .f32⟩) main_call6_v1) (broadcastInDim S32x8732 ![] bcast_S_S32x8732),
    TRef.ternary (TRef.of (T := ⟨S32x8732, .i1⟩) main_v167) (TRef.of (T := ⟨S32x8732, .f32⟩) main_call6_v1) (TRef.of (T := ⟨S32x8732, .f32⟩) main_v194) (TRef.of (T := ⟨S32x8732, .f32⟩) main_v195) select,
    unary main_v195 main_v196 (Host.negf : (⟨S32x8732, .f32⟩ : BufTy).Contents (Elt F) → (⟨S32x8732, .f32⟩ : BufTy).Contents (Elt F)),
    TRef.nullary (TRef.of (T := ⟨S32x8732, .i32⟩) main_call7_v0) (iotaInDim S32x8732 32 1),
    TRef.binary (TRef.of (T := ⟨S32x8732, .f32⟩) main_v196) (TRef.of (T := ⟨S32x8732, .i32⟩) main_call7_v0) (TRef.of (T := ⟨S32x8732, .f32⟩) main_call7_v1_0) (fun x y => (Host.sort2 S32x8732 1 comparator_f32_i32_d1 x y).1),
    TRef.binary (TRef.of (T := ⟨S32x8732, .f32⟩) main_v196) (TRef.of (T := ⟨S32x8732, .i32⟩) main_call7_v0) (TRef.of (T := ⟨S32x8732, .i32⟩) main_v197) (fun x y => (Host.sort2 S32x8732 1 comparator_f32_i32_d1 x y).2),
    TRef.nullary (TRef.of (T := ⟨S32x8732, .i32⟩) main_call8_v0) (iotaInDim S32x8732 32 1),
    TRef.binary (TRef.of (T := ⟨S32x8732, .i32⟩) main_v197) (TRef.of (T := ⟨S32x8732, .i32⟩) main_call8_v0) (TRef.of (T := ⟨S32x8732, .i32⟩) main_call8_v1_0) (fun x y => (Host.sort2 S32x8732 1 comparator_i32_i32_d1 x y).1),
    TRef.binary (TRef.of (T := ⟨S32x8732, .i32⟩) main_v197) (TRef.of (T := ⟨S32x8732, .i32⟩) main_call8_v0) (TRef.of (T := ⟨S32x8732, .i32⟩) main_v198) (fun x y => (Host.sort2 S32x8732 1 comparator_i32_i32_d1 x y).2),
    unary main_v167 main_v199 ((extui 32 · natLt_1_32) : (⟨S32x8732, .i1⟩ : BufTy).Contents (Elt F) → (⟨S32x8732, .i32⟩ : BufTy).Contents (Elt F)),
    nullary main_c_33 (constantI S_ 32 0#32),
    binary main_v199 main_c_33 main_v200 ((fun x v => Host.reduce IntOp.addi x v reducesTo_S32x8732_S32_d1 h_S_) : (⟨S32x8732, .i32⟩ : BufTy).Contents (Elt F) → (⟨S_, .i32⟩ : BufTy).Contents (Elt F) → (⟨S32, .i32⟩ : BufTy).Contents (Elt F)),
    unary main_v200 main_v201 (broadcastInDim S32x1 ![0] bcast_S32_S32x1_0 : (⟨S32, .i32⟩ : BufTy).Contents (Elt F) → (⟨S32x1, .i32⟩ : BufTy).Contents (Elt F)),
    nullary main_c_34 (constantI S_ 32 3#32),
    unary main_c_34 main_v202 (broadcastInDim S32x1 ![] bcast_S_S32x1 : (⟨S_, .i32⟩ : BufTy).Contents (Elt F) → (⟨S32x1, .i32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 281 … 298 of 298 (window `main_part4`). -/
abbrev ops_part4 : List (HloOp τ sig (Elt F)) :=
  [ binary main_v202 main_v201 main_v203 (muli : (⟨S32x1, .i32⟩ : BufTy).Contents (Elt F) → (⟨S32x1, .i32⟩ : BufTy).Contents (Elt F) → (⟨S32x1, .i32⟩ : BufTy).Contents (Elt F)),
    nullary main_c_35 (constantI S_ 32 8731#32),
    unary main_c_35 main_v204 (broadcastInDim S32x1 ![] bcast_S_S32x1 : (⟨S_, .i32⟩ : BufTy).Contents (Elt F) → (⟨S32x1, .i32⟩ : BufTy).Contents (Elt F)),
    binary main_v203 main_v204 main_v205 (minsi : (⟨S32x1, .i32⟩ : BufTy).Contents (Elt F) → (⟨S32x1, .i32⟩ : BufTy).Contents (Elt F) → (⟨S32x1, .i32⟩ : BufTy).Contents (Elt F)),
    unary main_v205 main_v206 (broadcastInDim S32x8732 ![0, 1] bcast_S32x1_S32x8732_0_1 : (⟨S32x1, .i32⟩ : BufTy).Contents (Elt F) → (⟨S32x8732, .i32⟩ : BufTy).Contents (Elt F)),
    binary main_v198 main_v206 main_v207 (cmpi .slt : (⟨S32x8732, .i32⟩ : BufTy).Contents (Elt F) → (⟨S32x8732, .i32⟩ : BufTy).Contents (Elt F) → (⟨S32x8732, .i1⟩ : BufTy).Contents (Elt F)),
    binary main_v167 main_v207 main_v208 (ori : (⟨S32x8732, .i1⟩ : BufTy).Contents (Elt F) → (⟨S32x8732, .i1⟩ : BufTy).Contents (Elt F) → (⟨S32x8732, .i1⟩ : BufTy).Contents (Elt F)),
    nullary main_cst_36 (constant S_ .f32 0x00000000#32),
    TRef.unary (TRef.of (T := ⟨S_, .f32⟩) main_cst_36) (TRef.of (T := ⟨S_, .f32⟩) main_call9_v0) id,
    TRef.unary (TRef.of (T := ⟨S_, .f32⟩) main_call9_v0) (TRef.of (T := ⟨S32x8732, .f32⟩) main_call9_v1) (broadcastInDim S32x8732 ![] bcast_S_S32x8732),
    TRef.ternary (TRef.of (T := ⟨S32x8732, .i1⟩) main_v208) (TRef.of (T := ⟨S32x8732, .f32⟩) main_v194) (TRef.of (T := ⟨S32x8732, .f32⟩) main_call9_v1) (TRef.of (T := ⟨S32x8732, .f32⟩) main_v209) select,
    nullary main_cst_37 (constant S_ .f32 0x00000000#32),
    binary main_v209 main_cst_37 main_v210 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F)),
    nullary main_c_38 (constantI S_ 32 0#32),
    binary main_v201 main_c_38 main_v211 ((fun x v => Host.reduce IntOp.addi x v reducesTo_S32x1_S_d0_1 h_S_) : (⟨S32x1, .i32⟩ : BufTy).Contents (Elt F) → (⟨S_, .i32⟩ : BufTy).Contents (Elt F) → (⟨S_, .i32⟩ : BufTy).Contents (Elt F)),
    unary main_v211 main_v212 (sitofp .f32 : (⟨S_, .i32⟩ : BufTy).Contents (Elt F) → (⟨S_, .f32⟩ : BufTy).Contents (Elt F)),
    binary main_v180 main_v212 main_v213 (Host.divf : (⟨S_, .f32⟩ : BufTy).Contents (Elt F) → (⟨S_, .f32⟩ : BufTy).Contents (Elt F) → (⟨S_, .f32⟩ : BufTy).Contents (Elt F)),
    binary main_v210 main_v212 main_v214 (Host.divf : (⟨S_, .f32⟩ : BufTy).Contents (Elt F) → (⟨S_, .f32⟩ : BufTy).Contents (Elt F) → (⟨S_, .f32⟩ : BufTy).Contents (Elt F)) ]

/-- @main's 298 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., unary_bufs_sub .., reshape_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., reshape_bufs_sub .., binary_bufs_sub .., binary_bufs_sub .., unary_bufs_sub .., unary_bufs_sub .., unary_bufs_sub .., unary_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., ternary_bufs_sub .., unary_bufs_sub .., unary_bufs_sub .., unary_bufs_sub .., binary_bufs_sub .., ternary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., unary_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_0_sub : (ops_part3_0 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨unary_bufs_sub .., unary_bufs_sub .., unary_bufs_sub .., ternary_bufs_sub .., nullary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨reshape_bufs_sub .., nullary_bufs_sub .., binary_bufs_sub .., unary_bufs_sub .., binary_bufs_sub .., unary_bufs_sub .., nullary_bufs_sub .., binary_bufs_sub .., unary_bufs_sub .., unary_bufs_sub .., binary_bufs_sub .., binary_bufs_sub .., reshape_bufs_sub .., nullary_bufs_sub .., unary_bufs_sub .., unary_bufs_sub .., ternary_bufs_sub .., unary_bufs_sub .., nullary_bufs_sub .., binary_bufs_sub .., binary_bufs_sub .., nullary_bufs_sub .., binary_bufs_sub .., binary_bufs_sub .., unary_bufs_sub .., nullary_bufs_sub .., binary_bufs_sub .., unary_bufs_sub .., nullary_bufs_sub .., unary_bufs_sub ..⟩
set_option maxRecDepth 8192 in
theorem ops_part3_2_fresh : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨binary_bufs_sub .., nullary_bufs_sub .., unary_bufs_sub .., binary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub .., binary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, ops_part2, ops_part3, List.mem_append, or_assoc] at h
    rcases h with h | h | h | h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]
theorem ops_fresh : ∀ op ∈ (ops : List (HloOp τ sig (Elt F))), op.fresh = ∅ := fun op h => by
    simp only [ops, ops_part1, ops_part2, ops_part3, List.mem_append, or_assoc] at h
    rcases h with h | h | h | h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.Proof.Ref

end
-- ==== Proof.RefTerms.lean ====
/- What the reference's shared intermediate buffers hold, as functions of the launch contents. -/
module

public import proofs.«01_k».proof.Proof.RefOps

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 7 times). -/
def res_main_v0 (V0 : Valuation τ sig (Elt F)) : (Proc.devRef .tc main_v0 : DevRef τ sig).ty.Contents (Elt F) :=
  extractStridedSlice S32x16x4 ![0, 0, 0] (V0 (Proc.devRef .tc main_arg3)) slices_S32x16x5_S32x16x4_0_0_0

set_option maxRecDepth 8192 in
/-- `main_v13`'s composed term of the arguments (named: it is used 6 times). -/
def res_main_v13 (V0 : Valuation τ sig (Elt F)) : (Proc.devRef .tc main_v13 : DevRef τ sig).ty.Contents (Elt F) :=
  concatenate S8732x4 1 [⟨S8732x2, (subf (extractStridedSlice S8732x2 ![0, 0] (V0 (Proc.devRef .tc main_arg2)) slices_S8732x4_S8732x2_0_0) (Host.divf (extractStridedSlice S8732x2 ![0, 2] (V0 (Proc.devRef .tc main_arg2)) slices_S8732x4_S8732x2_0_2) (broadcastInDim S8732x2 ![] bcast_S_S8732x2 (constant S_ .f32 0x40000000#32))))⟩, ⟨S8732x2, (addf (extractStridedSlice S8732x2 ![0, 0] (V0 (Proc.devRef .tc main_arg2)) slices_S8732x4_S8732x2_0_0) (Host.divf (extractStridedSlice S8732x2 ![0, 2] (V0 (Proc.devRef .tc main_arg2)) slices_S8732x4_S8732x2_0_2) (broadcastInDim S8732x2 ![] bcast_S_S8732x2 (constant S_ .f32 0x40000000#32))))⟩] concatenates_S8732x2_S8732x2_S8732x4_d1

set_option maxRecDepth 8192 in
/-- `main_v32`'s composed term of the arguments (named: it is used 2 times). -/
def res_main_v32 (V0 : Valuation τ sig (Elt F)) : (Proc.devRef .tc main_v32 : DevRef τ sig).ty.Contents (Elt F) :=
  maximumf (subf (minimumf (broadcastInDim S32x16x8732x2 ![0, 1, 2, 3] bcast_S32x16x1x2_S32x16x8732x2_0_1_2_3 (broadcastInDim S32x16x1x2 ![0, 1, 3] bcast_S32x16x2_S32x16x1x2_0_1_3 (extractStridedSlice S32x16x2 ![0, 0, 2] (res_main_v0 V0) slices_S32x16x4_S32x16x2_0_0_2))) (broadcastInDim S32x16x8732x2 ![0, 1, 2, 3] bcast_S1x1x8732x2_S32x16x8732x2_0_1_2_3 (broadcastInDim S1x1x8732x2 ![1, 2, 3] bcast_S1x8732x2_S1x1x8732x2_1_2_3 (broadcastInDim S1x8732x2 ![1, 2] bcast_S8732x2_S1x8732x2_1_2 (extractStridedSlice S8732x2 ![0, 2] (res_main_v13 V0) slices_S8732x4_S8732x2_0_2))))) (maximumf (broadcastInDim S32x16x8732x2 ![0, 1, 2, 3] bcast_S32x16x1x2_S32x16x8732x2_0_1_2_3 (broadcastInDim S32x16x1x2 ![0, 1, 3] bcast_S32x16x2_S32x16x1x2_0_1_3 (extractStridedSlice S32x16x2 ![0, 0, 0] (res_main_v0 V0) slices_S32x16x4_S32x16x2_0_0_0))) (broadcastInDim S32x16x8732x2 ![0, 1, 2, 3] bcast_S1x1x8732x2_S32x16x8732x2_0_1_2_3 (broadcastInDim S1x1x8732x2 ![1, 2, 3] bcast_S1x8732x2_S1x1x8732x2_1_2_3 (broadcastInDim S1x8732x2 ![1, 2] bcast_S8732x2_S1x8732x2_1_2 (extractStridedSlice S8732x2 ![0, 0] (res_main_v13 V0) slices_S8732x4_S8732x2_0_0)))))) (broadcastInDim S32x16x8732x2 ![] bcast_S_S32x16x8732x2 (constant S_ .f32 0x00000000#32))

set_option maxRecDepth 8192 in
/-- `main_v37`'s composed term of the arguments (named: it is used 2 times). -/
def res_main_v37 (V0 : Valuation τ sig (Elt F)) : (Proc.devRef .tc main_v37 : DevRef τ sig).ty.Contents (Elt F) :=
  mulf (shapeCast _ (extractStridedSlice S32x16x8732x1 ![0, 0, 0, 0] (res_main_v32 V0) slices_S32x16x8732x2_S32x16x8732x1_0_0_0_0) shapeCasts_S32x16x8732x1_S32x16x8732) (shapeCast _ (extractStridedSlice S32x16x8732x1 ![0, 0, 0, 1] (res_main_v32 V0) slices_S32x16x8732x2_S32x16x8732x1_0_0_0_1) shapeCasts_S32x16x8732x1_S32x16x8732)

set_option maxRecDepth 8192 in
/-- `main_v67`'s composed term of the arguments (named: it is used 6 times). -/
def res_main_v67 (V0 : Valuation τ sig (Elt F)) : (Proc.devRef .tc main_v67 : DevRef τ sig).ty.Contents (Elt F) :=
  Host.divf (res_main_v37 V0) (subf (addf (broadcastInDim S32x16x8732 ![0, 1, 2] bcast_S32x16x1_S32x16x8732_0_1_2 (broadcastInDim S32x16x1 ![0, 1] bcast_S32x16_S32x16x1_0_1 (mulf (subf (shapeCast _ (extractStridedSlice S32x16x1 ![0, 0, 2] (res_main_v0 V0) slices_S32x16x4_S32x16x1_0_0_2) shapeCasts_S32x16x1_S32x16) (shapeCast _ (extractStridedSlice S32x16x1 ![0, 0, 0] (res_main_v0 V0) slices_S32x16x4_S32x16x1_0_0_0) shapeCasts_S32x16x1_S32x16)) (subf (shapeCast _ (extractStridedSlice S32x16x1 ![0, 0, 3] (res_main_v0 V0) slices_S32x16x4_S32x16x1_0_0_3) shapeCasts_S32x16x1_S32x16) (shapeCast _ (extractStridedSlice S32x16x1 ![0, 0, 1] (res_main_v0 V0) slices_S32x16x4_S32x16x1_0_0_1) shapeCasts_S32x16x1_S32x16))))) (broadcastInDim S32x16x8732 ![0, 1, 2] bcast_S1x1x8732_S32x16x8732_0_1_2 (broadcastInDim S1x1x8732 ![1, 2] bcast_S1x8732_S1x1x8732_1_2 (broadcastInDim S1x8732 ![1] bcast_S8732_S1x8732_1 (mulf (subf (shapeCast _ (extractStridedSlice S8732x1 ![0, 2] (res_main_v13 V0) slices_S8732x4_S8732x1_0_2) shapeCasts_S8732x1_S8732) (shapeCast _ (extractStridedSlice S8732x1 ![0, 0] (res_main_v13 V0) slices_S8732x4_S8732x1_0_0) shapeCasts_S8732x1_S8732)) (subf (shapeCast _ (extractStridedSlice S8732x1 ![0, 3] (res_main_v13 V0) slices_S8732x4_S8732x1_0_3) shapeCasts_S8732x1_S8732) (shapeCast _ (extractStridedSlice S8732x1 ![0, 1] (res_main_v13 V0) slices_S8732x4_S8732x1_0_1) shapeCasts_S8732x1_S8732))))))) (res_main_v37 V0))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S32x16x8732 32 2

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v69`'s composed term of the arguments (named: it is used 6 times). -/
def res_main_v69 (V0 : Valuation τ sig (Elt F)) : (Proc.devRef .tc main_v69 : DevRef τ sig).ty.Contents (Elt F) :=
  (fun j => (Host.argReduce reducer_argmax_f32_i32 (res_main_v67 V0) (res_main_call0_v0 V0) (res_main_call0_cst V0) (res_main_call0_c V0) reducesTo_S32x16x8732_S32x16_d2 h_S_ j).2)

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S32x16x8732 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v73`'s composed term of the arguments (named: it is used 12 times). -/
def res_main_v73 (V0 : Valuation τ sig (Elt F)) : (Proc.devRef .tc main_v73 : DevRef τ sig).ty.Contents (Elt F) :=
  broadcastInDim S32x1 ![0] bcast_S32_S32x1_0 (iotaInDim S32 32 0)

set_option maxRecDepth 8192 in
/-- `main_v90`'s composed term of the arguments (named: it is used 6 times). -/
def res_main_v90 (V0 : Valuation τ sig (Elt F)) : (Proc.devRef .tc main_v90 : DevRef τ sig).ty.Contents (Elt F) :=
  Host.scatter scatter_S32x8732_S32x16x2_S32x16_n_01_01_2 (fun _ b => b) ((fun j => (Host.argReduce reducer_argmax_f32_i32 (res_main_v67 V0) (res_main_call1_v0 V0) (res_main_call1_cst V0) (res_main_call1_c V0) reducesTo_S32x16x8732_S32x8732_d1 h_S_ j).2)) (concatenate S32x16x2 2 [⟨S32x16x1, (broadcastInDim S32x16x1 ![0, 1] bcast_S32x16_S32x16x1_0_1 (broadcastInDim S32x16 ![0, 1] bcast_S32x1_S32x16_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x16x1, (broadcastInDim S32x16x1 ![0, 1] bcast_S32x16_S32x16x1_0_1 (select (cmpi .slt (res_main_v69 V0) (broadcastInDim S32x16 ![] bcast_S_S32x16 (constantI S_ 32 0#32))) (addi (res_main_v69 V0) (broadcastInDim S32x16 ![] bcast_S_S32x16 (constantI S_ 32 8732#32))) (res_main_v69 V0)))⟩] concatenates_S32x16x1_S32x16x1_S32x16x2_d2) (broadcastInDim S32x16 ![1] bcast_S16_S32x16_1 (iotaInDim S16 32 0))

set_option maxRecDepth 8192 in
/-- `main_v120`'s composed term of the arguments (named: it is used 4 times). -/
def res_main_v120 (V0 : Valuation τ sig (Elt F)) : (Proc.devRef .tc main_v120 : DevRef τ sig).ty.Contents (Elt F) :=
  Host.gather gather_S32x16x4_S32x8732x2_S32x8732x4_2_01_n_n_01_2_114 (res_main_v0 V0) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x8732x1, (broadcastInDim S32x8732x1 ![0, 1] bcast_S32x8732_S32x8732x1_0_1 (select (cmpi .slt (res_main_v90 V0) (broadcastInDim S32x8732 ![] bcast_S_S32x8732 (constantI S_ 32 0#32))) (addi (res_main_v90 V0) (broadcastInDim S32x8732 ![] bcast_S_S32x8732 (constantI S_ 32 16#32))) (res_main_v90 V0)))⟩] concatenates_S32x8732x1_S32x8732x1_S32x8732x2_d2)

set_option maxRecDepth 8192 in
/-- `main_v165`'s composed term of the arguments (named: it is used 2 times). -/
def res_main_v165 (V0 : Valuation τ sig (Elt F)) : (Proc.devRef .tc main_v165 : DevRef τ sig).ty.Contents (Elt F) :=
  fptosi 32 (select (cmpf .olt (Host.scatter scatter_S32x8732_S32x16x2_S32x16_n_01_01_2 (fun _ b => b) (Host.reduce FloatOps.maximumf (res_main_v67 V0) (constant S_ .f32 0xFF800000#32) reducesTo_S32x16x8732_S32x8732_d1 h_S_) (concatenate S32x16x2 2 [⟨S32x16x1, (broadcastInDim S32x16x1 ![0, 1] bcast_S32x16_S32x16x1_0_1 (broadcastInDim S32x16 ![0, 1] bcast_S32x1_S32x16_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x16x1, (broadcastInDim S32x16x1 ![0, 1] bcast_S32x16_S32x16x1_0_1 (select (cmpi .slt (res_main_v69 V0) (broadcastInDim S32x16 ![] bcast_S_S32x16 (constantI S_ 32 0#32))) (addi (res_main_v69 V0) (broadcastInDim S32x16 ![] bcast_S_S32x16 (constantI S_ 32 8732#32))) (res_main_v69 V0)))⟩] concatenates_S32x16x1_S32x16x1_S32x16x2_d2) (Host.reduce FloatOps.maximumf (res_main_v67 V0) (constant S_ .f32 0xFF800000#32) reducesTo_S32x16x8732_S32x16_d2 h_S_)) (broadcastInDim S32x8732 ![] bcast_S_S32x8732 (constant S_ .f32 0x3F000000#32))) (broadcastInDim S32x8732 ![] bcast_S_S32x8732 (id (constant S_ .f32 0x00000000#32))) (Host.gather gather_S32x16_S32x8732x2_S32x8732_n_01_n_n_01_2_11 (shapeCast _ (extractStridedSlice S32x16x1 ![0, 0, 4] (V0 (Proc.devRef .tc main_arg3)) slices_S32x16x5_S32x16x1_0_0_4) shapeCasts_S32x16x1_S32x16) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x8732x1, (broadcastInDim S32x8732x1 ![0, 1] bcast_S32x8732_S32x8732x1_0_1 (select (cmpi .slt (res_main_v90 V0) (broadcastInDim S32x8732 ![] bcast_S_S32x8732 (constantI S_ 32 0#32))) (addi (res_main_v90 V0) (broadcastInDim S32x8732 ![] bcast_S_S32x8732 (constantI S_ 32 16#32))) (res_main_v90 V0)))⟩] concatenates_S32x8732x1_S32x8732x1_S32x8732x2_d2)))

set_option maxRecDepth 8192 in
/-- `main_v167`'s composed term of the arguments (named: it is used 4 times). -/
def res_main_v167 (V0 : Valuation τ sig (Elt F)) : (Proc.devRef .tc main_v167 : DevRef τ sig).ty.Contents (Elt F) :=
  cmpi .sgt (res_main_v165 V0) (broadcastInDim S32x8732 ![] bcast_S_S32x8732 (constantI S_ 32 0#32))

set_option maxRecDepth 8192 in
/-- `main_v168`'s composed term of the arguments (named: it is used 3 times). -/
def res_main_v168 (V0 : Valuation τ sig (Elt F)) : (Proc.devRef .tc main_v168 : DevRef τ sig).ty.Contents (Elt F) :=
  subf (V0 (Proc.devRef .tc main_arg0)) (concatenate S32x8732x4 2 [⟨S32x8732x2, (Host.divf (subf (Host.divf (addf (extractStridedSlice S32x8732x2 ![0, 0, 0] (res_main_v120 V0) slices_S32x8732x4_S32x8732x2_0_0_0) (extractStridedSlice S32x8732x2 ![0, 0, 2] (res_main_v120 V0) slices_S32x8732x4_S32x8732x2_0_0_2)) (broadcastInDim S32x8732x2 ![] bcast_S_S32x8732x2 (constant S_ .f32 0x40000000#32))) (broadcastInDim S32x8732x2 ![0, 1, 2] bcast_S1x8732x2_S32x8732x2_0_1_2 (broadcastInDim S1x8732x2 ![1, 2] bcast_S8732x2_S1x8732x2_1_2 (extractStridedSlice S8732x2 ![0, 0] (V0 (Proc.devRef .tc main_arg2)) slices_S8732x4_S8732x2_0_0)))) (broadcastInDim S32x8732x2 ![0, 1, 2] bcast_S1x8732x2_S32x8732x2_0_1_2 (broadcastInDim S1x8732x2 ![1, 2] bcast_S8732x2_S1x8732x2_1_2 (mulf (broadcastInDim S8732x2 ![] bcast_S_S8732x2 (constant S_ .f32 0x3DCCCCCD#32)) (extractStridedSlice S8732x2 ![0, 2] (V0 (Proc.devRef .tc main_arg2)) slices_S8732x4_S8732x2_0_2)))))⟩, ⟨S32x8732x2, (Host.divf (Host.log (Host.divf (subf (extractStridedSlice S32x8732x2 ![0, 0, 2] (res_main_v120 V0) slices_S32x8732x4_S32x8732x2_0_0_2) (extractStridedSlice S32x8732x2 ![0, 0, 0] (res_main_v120 V0) slices_S32x8732x4_S32x8732x2_0_0_0)) (broadcastInDim S32x8732x2 ![0, 1, 2] bcast_S1x8732x2_S32x8732x2_0_1_2 (broadcastInDim S1x8732x2 ![1, 2] bcast_S8732x2_S1x8732x2_1_2 (extractStridedSlice S8732x2 ![0, 2] (V0 (Proc.devRef .tc main_arg2)) slices_S8732x4_S8732x2_0_2))))) (broadcastInDim S32x8732x2 ![] bcast_S_S32x8732x2 (constant S_ .f32 0x3E4CCCCD#32)))⟩] concatenates_S32x8732x2_S32x8732x2_S32x8732x4_d2)

set_option maxRecDepth 8192 in
/-- `main_v169`'s composed term of the arguments (named: it is used 2 times). -/
def res_main_v169 (V0 : Valuation τ sig (Elt F)) : (Proc.devRef .tc main_v169 : DevRef τ sig).ty.Contents (Elt F) :=
  Host.absf (res_main_v168 V0)

set_option maxRecDepth 8192 in
/-- `main_v181`'s composed term of the arguments (named: it is used 3 times). -/
def res_main_v181 (V0 : Valuation τ sig (Elt F)) : (Proc.devRef .tc main_v181 : DevRef τ sig).ty.Contents (Elt F) :=
  shapeCast _ (V0 (Proc.devRef .tc main_arg1)) shapeCasts_S32x8732x21_S279424x21

set_option maxRecDepth 8192 in
/-- `main_v182`'s composed term of the arguments (named: it is used 3 times). -/
def res_main_v182 (V0 : Valuation τ sig (Elt F)) : (Proc.devRef .tc main_v182 : DevRef τ sig).ty.Contents (Elt F) :=
  shapeCast _ (res_main_v165 V0) shapeCasts_S32x8732_S279424x1

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  shapeCast _ (select (cmpi .slt (res_main_v182 V0) (broadcastInDim S279424x1 ![] bcast_S_S279424x1 (constantI S_ 32 0#32))) (addi (res_main_v182 V0) (broadcastInDim S279424x1 ![] bcast_S_S279424x1 (constantI S_ 32 21#32))) (res_main_v182 V0)) shapeCasts_S279424x1_S279424x1x1

set_option maxRecDepth 8192 in
/-- `main_v185`'s composed term of the arguments (named: it is used 2 times). -/
def res_main_v185 (V0 : Valuation τ sig (Elt F)) : (Proc.devRef .tc main_v185 : DevRef τ sig).ty.Contents (Elt F) :=
  Host.reduce FloatOps.maximumf (res_main_v181 V0) (constant S_ .f32 0xFF800000#32) reducesTo_S279424x21_S_d0_1 h_S_

set_option maxRecDepth 8192 in
/-- `main_v194`'s composed term of the arguments (named: it is used 2 times). -/
def res_main_v194 (V0 : Valuation τ sig (Elt F)) : (Proc.devRef .tc main_v194 : DevRef τ sig).ty.Contents (Elt F) :=
  shapeCast _ (subf (addf (Host.log (Host.reduceAdd (Host.exp (subf (res_main_v181 V0) (broadcastInDim S279424x21 ![] bcast_S_S279424x21 (res_main_v185 V0)))) (constant S_ .f32 0x00000000#32) reducesTo_S279424x21_S279424_d1 h_S_)) (broadcastInDim S279424 ![] bcast_S_S279424 (res_main_v185 V0))) (shapeCast _ (select (Host.reduce IntOp.andi (andi (cmpi .sge (res_main_call5_v5 V0) (broadcastInDim S279424x1x1 ![] bcast_S_S279424x1x1 (constantI S_ 32 0#32))) (cmpi .sle (res_main_call5_v5 V0) (broadcastInDim S279424x1x1 ![0, 1, 2] bcast_S1x1x1_S279424x1x1_0_1_2 (broadcastInDim S1x1x1 ![2] bcast_S1_S1x1x1_2 (constantI S1 32 20#32))))) (constantI S_ 1 1#1) reducesTo_S279424x1x1_S279424x1_d2 h_S_) (Host.gather gather_S279424x21_S279424x1x1_S279424x1_n_1_0_0_1_2_11 (res_main_v181 V0) (res_main_call5_v5 V0)) (broadcastInDim S279424x1 ![] bcast_S_S279424x1 (constant S_ .f32 0x7FC00000#32))) shapeCasts_S279424x1_S279424)) shapeCasts_S279424_S32x8732

set_option maxRecDepth 8192 in
/-- `main_v196`'s composed term of the arguments (named: it is used 2 times). -/
def res_main_v196 (V0 : Valuation τ sig (Elt F)) : (Proc.devRef .tc main_v196 : DevRef τ sig).ty.Contents (Elt F) :=
  Host.negf (select (res_main_v167 V0) (broadcastInDim S32x8732 ![] bcast_S_S32x8732 (id (constant S_ .f32 0x00000000#32))) (res_main_v194 V0))

set_option maxRecDepth 8192 in
/-- `main_call7_v0`'s composed term of the arguments (named: it is used 2 times). -/
def res_main_call7_v0 (V0 : Valuation τ sig (Elt F)) : (Proc.devRef .tc main_call7_v0 : DevRef τ sig).ty.Contents (Elt F) :=
  iotaInDim S32x8732 32 1

set_option maxRecDepth 8192 in
/-- `main_v197`'s composed term of the arguments (named: it is used 2 times). -/
def res_main_v197 (V0 : Valuation τ sig (Elt F)) : (Proc.devRef .tc main_v197 : DevRef τ sig).ty.Contents (Elt F) :=
  (Host.sort2 S32x8732 1 comparator_f32_i32_d1 (res_main_v196 V0) (res_main_call7_v0 V0)).2

set_option maxRecDepth 8192 in
/-- `main_call8_v0`'s composed term of the arguments (named: it is used 2 times). -/
def res_main_call8_v0 (V0 : Valuation τ sig (Elt F)) : (Proc.devRef .tc main_call8_v0 : DevRef τ sig).ty.Contents (Elt F) :=
  iotaInDim S32x8732 32 1

set_option maxRecDepth 8192 in
/-- `main_v201`'s composed term of the arguments (named: it is used 2 times). -/
def res_main_v201 (V0 : Valuation τ sig (Elt F)) : (Proc.devRef .tc main_v201 : DevRef τ sig).ty.Contents (Elt F) :=
  broadcastInDim S32x1 ![0] bcast_S32_S32x1_0 (Host.reduce IntOp.addi (extui 32 (res_main_v167 V0) natLt_1_32) (constantI S_ 32 0#32) reducesTo_S32x8732_S32_d1 h_S_)

set_option maxRecDepth 8192 in
/-- `main_v212`'s composed term of the arguments (named: it is used 2 times). -/
def res_main_v212 (V0 : Valuation τ sig (Elt F)) : (Proc.devRef .tc main_v212 : DevRef τ sig).ty.Contents (Elt F) :=
  sitofp .f32 (Host.reduce IntOp.addi (res_main_v201 V0) (constantI S_ 32 0#32) reducesTo_S32x1_S_d0_1 h_S_)

end Cert.Proof.Ref

end
-- ==== Proof.RefRunA.lean ====
/- The contents after the first windows of the reference. -/
module

public import proofs.«01_k».proof.Proof.RefTerms

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_cst, main_v5, main_v6, main_v7, main_v8, main_v9, main_cst_0, main_v10, main_v11, main_v12, main_v13, main_v14, main_v15, main_v16, main_v17, main_v18, main_v19, main_v20, main_v21, main_v22, main_v23, main_v24, main_v25, main_v26, main_v27, main_v28, main_v29, main_v30, main_cst_1, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
set_option maxRecDepth 8192 in
set_option maxHeartbeats 2000000 in
theorem val1_main_v0 (V0 : Valuation τ sig (Elt F)) : val1 V0 (no_index (Proc.devRef .tc main_v0)) = res_main_v0 V0 := by
  unfold val1
  simp only [ops_part0]
  after_results_simp
  simp only [val0_main_arg3] <;> rfl
set_option maxRecDepth 8192 in
set_option maxHeartbeats 2000000 in
theorem val1_main_v2 (V0 : Valuation τ sig (Elt F)) : val1 V0 (no_index (Proc.devRef .tc main_v2)) = shapeCast _ (extractStridedSlice S32x16x1 ![0, 0, 4] (V0 (Proc.devRef .tc main_arg3)) slices_S32x16x5_S32x16x1_0_0_4) shapeCasts_S32x16x1_S32x16 := by
  unfold val1
  simp only [ops_part0]
  after_results_simp
  simp only [val0_main_arg3] <;> rfl
set_option maxRecDepth 8192 in
set_option maxHeartbeats 2000000 in
theorem val1_main_v13 (V0 : Valuation τ sig (Elt F)) : val1 V0 (no_index (Proc.devRef .tc main_v13)) = res_main_v13 V0 := by
  unfold val1
  simp only [ops_part0]
  after_results_simp
  simp only [val0_main_arg2] <;> rfl
set_option maxRecDepth 8192 in
set_option maxHeartbeats 2000000 in
theorem val1_main_v37 (V0 : Valuation τ sig (Elt F)) : val1 V0 (no_index (Proc.devRef .tc main_v37)) = res_main_v37 V0 := by
  unfold val1
  simp only [ops_part0]
  after_results_simp
  simp only [val0_main_arg2, val0_main_arg3] <;> rfl
set_option maxRecDepth 8192 in
set_option maxHeartbeats 2000000 in
theorem val1_main_v49 (V0 : Valuation τ sig (Elt F)) : val1 V0 (no_index (Proc.devRef .tc main_v49)) = broadcastInDim S32x16x1 ![0, 1] bcast_S32x16_S32x16x1_0_1 (mulf (subf (shapeCast _ (extractStridedSlice S32x16x1 ![0, 0, 2] (res_main_v0 V0) slices_S32x16x4_S32x16x1_0_0_2) shapeCasts_S32x16x1_S32x16) (shapeCast _ (extractStridedSlice S32x16x1 ![0, 0, 0] (res_main_v0 V0) slices_S32x16x4_S32x16x1_0_0_0) shapeCasts_S32x16x1_S32x16)) (subf (shapeCast _ (extractStridedSlice S32x16x1 ![0, 0, 3] (res_main_v0 V0) slices_S32x16x4_S32x16x1_0_0_3) shapeCasts_S32x16x1_S32x16) (shapeCast _ (extractStridedSlice S32x16x1 ![0, 0, 1] (res_main_v0 V0) slices_S32x16x4_S32x16x1_0_0_1) shapeCasts_S32x16x1_S32x16))) := by
  unfold val1
  simp only [ops_part0]
  after_results_simp
  simp only [val0_main_arg3] <;> rfl
set_option maxRecDepth 8192 in
set_option maxHeartbeats 2000000 in
theorem val1_main_v54 (V0 : Valuation τ sig (Elt F)) : val1 V0 (no_index (Proc.devRef .tc main_v54)) = subf (shapeCast _ (extractStridedSlice S8732x1 ![0, 2] (res_main_v13 V0) slices_S8732x4_S8732x1_0_2) shapeCasts_S8732x1_S8732) (shapeCast _ (extractStridedSlice S8732x1 ![0, 0] (res_main_v13 V0) slices_S8732x4_S8732x1_0_0) shapeCasts_S8732x1_S8732) := by
  unfold val1
  simp only [ops_part0]
  after_results_simp
  simp only [val0_main_arg2] <;> rfl
set_option maxRecDepth 8192 in
set_option maxHeartbeats 2000000 in
theorem val1_main_v56 (V0 : Valuation τ sig (Elt F)) : val1 V0 (no_index (Proc.devRef .tc main_v56)) = shapeCast _ (extractStridedSlice S8732x1 ![0, 3] (res_main_v13 V0) slices_S8732x4_S8732x1_0_3) shapeCasts_S8732x1_S8732 := by
  unfold val1
  simp only [ops_part0]
  after_results_simp
  simp only [val0_main_arg2] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v57, main_v58, main_v59, main_v60, main_v61, main_v62, main_v63, main_v64, main_v65, main_v66, main_v67, main_cst_2, main_v68, main_call0_v0, main_call0_cst, main_call0_c, main_call0_v1_0, main_v69, main_cst_3, main_v70, main_call1_v0, main_call1_cst, main_call1_c, main_call1_v1_0, main_v71, main_v72, main_v73, main_v74, main_v75, main_c]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_v0 (V0 : Valuation τ sig (Elt F)) : val1_1 V0 (no_index (Proc.devRef .tc main_v0)) = res_main_v0 V0 :=
  (val1_1_keep V0 main_v0 (by decide)).trans (val1_main_v0 V0)
theorem val1_1_main_v2 (V0 : Valuation τ sig (Elt F)) : val1_1 V0 (no_index (Proc.devRef .tc main_v2)) = shapeCast _ (extractStridedSlice S32x16x1 ![0, 0, 4] (V0 (Proc.devRef .tc main_arg3)) slices_S32x16x5_S32x16x1_0_0_4) shapeCasts_S32x16x1_S32x16 :=
  (val1_1_keep V0 main_v2 (by decide)).trans (val1_main_v2 V0)
set_option maxRecDepth 8192 in
set_option maxHeartbeats 2000000 in
theorem val1_1_main_v68 (V0 : Valuation τ sig (Elt F)) : val1_1 V0 (no_index (Proc.devRef .tc main_v68)) = Host.reduce FloatOps.maximumf (res_main_v67 V0) (constant S_ .f32 0xFF800000#32) reducesTo_S32x16x8732_S32x16_d2 h_S_ := by
  unfold val1_1
  simp only [ops_part1_0, TRef.nullary, TRef.quaternary, TRef.toBuf, TRef.ofBuf, cast_eq]
  after_results_simp
  simp only [val1_main_v13, val1_main_v56, val1_main_v54, val1_main_v49, val1_main_v37] <;> rfl
set_option maxRecDepth 8192 in
set_option maxHeartbeats 2000000 in
theorem val1_1_main_v69 (V0 : Valuation τ sig (Elt F)) : val1_1 V0 (no_index (Proc.devRef .tc main_v69)) = res_main_v69 V0 := by
  unfold val1_1
  simp only [ops_part1_0, TRef.nullary, TRef.quaternary, TRef.toBuf, TRef.ofBuf, cast_eq]
  after_results_simp
  simp only [val1_main_v13, val1_main_v56, val1_main_v54, val1_main_v49, val1_main_v37] <;> rfl
set_option maxRecDepth 8192 in
set_option maxHeartbeats 2000000 in
theorem val1_1_main_v70 (V0 : Valuation τ sig (Elt F)) : val1_1 V0 (no_index (Proc.devRef .tc main_v70)) = Host.reduce FloatOps.maximumf (res_main_v67 V0) (constant S_ .f32 0xFF800000#32) reducesTo_S32x16x8732_S32x8732_d1 h_S_ := by
  unfold val1_1
  simp only [ops_part1_0, TRef.nullary, TRef.quaternary, TRef.toBuf, TRef.ofBuf, cast_eq]
  after_results_simp
  simp only [val1_main_v13, val1_main_v56, val1_main_v54, val1_main_v49, val1_main_v37] <;> rfl
set_option maxRecDepth 8192 in
set_option maxHeartbeats 2000000 in
theorem val1_1_main_v71 (V0 : Valuation τ sig (Elt F)) : val1_1 V0 (no_index (Proc.devRef .tc main_v71)) = (fun j => (Host.argReduce reducer_argmax_f32_i32 (res_main_v67 V0) (res_main_call1_v0 V0) (res_main_call1_cst V0) (res_main_call1_c V0) reducesTo_S32x16x8732_S32x8732_d1 h_S_ j).2) := by
  unfold val1_1
  simp only [ops_part1_0, TRef.nullary, TRef.quaternary, TRef.toBuf, TRef.ofBuf, cast_eq]
  after_results_simp
  simp only [val1_main_v13, val1_main_v56, val1_main_v54, val1_main_v49, val1_main_v37] <;> rfl
set_option maxRecDepth 8192 in
set_option maxHeartbeats 2000000 in
theorem val1_1_main_v73 (V0 : Valuation τ sig (Elt F)) : val1_1 V0 (no_index (Proc.devRef .tc main_v73)) = res_main_v73 V0 := by
  unfold val1_1
  simp only [ops_part1_0, TRef.nullary, TRef.quaternary, TRef.toBuf, TRef.ofBuf, cast_eq]
  after_results_simp
  all_goals rfl
set_option maxRecDepth 8192 in
set_option maxHeartbeats 2000000 in
theorem val1_1_main_v75 (V0 : Valuation τ sig (Elt F)) : val1_1 V0 (no_index (Proc.devRef .tc main_v75)) = broadcastInDim S32x16 ![1] bcast_S16_S32x16_1 (iotaInDim S16 32 0) := by
  unfold val1_1
  simp only [ops_part1_0, TRef.nullary, TRef.quaternary, TRef.toBuf, TRef.ofBuf, cast_eq]
  after_results_simp
  all_goals rfl
set_option maxRecDepth 8192 in
set_option maxHeartbeats 2000000 in
theorem val1_1_main_c (V0 : Valuation τ sig (Elt F)) : val1_1 V0 (no_index (Proc.devRef .tc main_c)) = constantI S_ 32 0#32 := by
  unfold val1_1
  simp only [ops_part1_0, TRef.nullary, TRef.quaternary, TRef.toBuf, TRef.ofBuf, cast_eq]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v76, main_v77, main_c_4, main_v78, main_v79, main_v80, main_c_5, main_v81, main_v82, main_c_6, main_v83, main_v84, main_v85, main_v86, main_v87, main_v88, main_v89, main_v90, main_c_7, main_v91, main_v92, main_c_8, main_v93, main_v94, main_v95, main_c_9, main_v96, main_v97, main_c_10, main_v98]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_v0 (V0 : Valuation τ sig (Elt F)) : val1_2 V0 (no_index (Proc.devRef .tc main_v0)) = res_main_v0 V0 :=
  (val1_2_keep V0 main_v0 (by decide)).trans (val1_1_main_v0 V0)
theorem val1_2_main_v2 (V0 : Valuation τ sig (Elt F)) : val1_2 V0 (no_index (Proc.devRef .tc main_v2)) = shapeCast _ (extractStridedSlice S32x16x1 ![0, 0, 4] (V0 (Proc.devRef .tc main_arg3)) slices_S32x16x5_S32x16x1_0_0_4) shapeCasts_S32x16x1_S32x16 :=
  (val1_2_keep V0 main_v2 (by decide)).trans (val1_1_main_v2 V0)
theorem val1_2_main_v68 (V0 : Valuation τ sig (Elt F)) : val1_2 V0 (no_index (Proc.devRef .tc main_v68)) = Host.reduce FloatOps.maximumf (res_main_v67 V0) (constant S_ .f32 0xFF800000#32) reducesTo_S32x16x8732_S32x16_d2 h_S_ :=
  (val1_2_keep V0 main_v68 (by decide)).trans (val1_1_main_v68 V0)
theorem val1_2_main_v69 (V0 : Valuation τ sig (Elt F)) : val1_2 V0 (no_index (Proc.devRef .tc main_v69)) = res_main_v69 V0 :=
  (val1_2_keep V0 main_v69 (by decide)).trans (val1_1_main_v69 V0)
theorem val1_2_main_v70 (V0 : Valuation τ sig (Elt F)) : val1_2 V0 (no_index (Proc.devRef .tc main_v70)) = Host.reduce FloatOps.maximumf (res_main_v67 V0) (constant S_ .f32 0xFF800000#32) reducesTo_S32x16x8732_S32x8732_d1 h_S_ :=
  (val1_2_keep V0 main_v70 (by decide)).trans (val1_1_main_v70 V0)
theorem val1_2_main_v73 (V0 : Valuation τ sig (Elt F)) : val1_2 V0 (no_index (Proc.devRef .tc main_v73)) = res_main_v73 V0 :=
  (val1_2_keep V0 main_v73 (by decide)).trans (val1_1_main_v73 V0)
set_option maxRecDepth 8192 in
set_option maxHeartbeats 2000000 in
theorem val1_2_main_v90 (V0 : Valuation τ sig (Elt F)) : val1_2 V0 (no_index (Proc.devRef .tc main_v90)) = res_main_v90 V0 := by
  unfold val1_2
  simp only [ops_part1_1]
  after_results_simp
  simp only [val1_1_main_v75, val1_1_main_v69, val1_1_main_v73, val1_1_main_c, val1_1_main_v71] <;> rfl
set_option maxRecDepth 8192 in
set_option maxHeartbeats 2000000 in
theorem val1_2_main_v95 (V0 : Valuation τ sig (Elt F)) : val1_2 V0 (no_index (Proc.devRef .tc main_v95)) = select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0) := by
  unfold val1_2
  simp only [ops_part1_1]
  after_results_simp
  simp only [val1_1_main_v73] <;> rfl
set_option maxRecDepth 8192 in
set_option maxHeartbeats 2000000 in
theorem val1_2_main_v97 (V0 : Valuation τ sig (Elt F)) : val1_2 V0 (no_index (Proc.devRef .tc main_v97)) = cmpi .slt (res_main_v69 V0) (broadcastInDim S32x16 ![] bcast_S_S32x16 (constantI S_ 32 0#32)) := by
  unfold val1_2
  simp only [ops_part1_1]
  after_results_simp
  simp only [val1_1_main_v69] <;> rfl
set_option maxRecDepth 8192 in
set_option maxHeartbeats 2000000 in
theorem val1_2_main_v98 (V0 : Valuation τ sig (Elt F)) : val1_2 V0 (no_index (Proc.devRef .tc main_v98)) = broadcastInDim S32x16 ![] bcast_S_S32x16 (constantI S_ 32 8732#32) := by
  unfold val1_2
  simp only [ops_part1_1]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v99, main_v100, main_v101, main_v102, main_v103, main_v104, main_v105, main_c_11]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_v0 (V0 : Valuation τ sig (Elt F)) : val2 V0 (no_index (Proc.devRef .tc main_v0)) = res_main_v0 V0 :=
  (val2_keep V0 main_v0 (by decide)).trans (val1_2_main_v0 V0)
theorem val2_main_v2 (V0 : Valuation τ sig (Elt F)) : val2 V0 (no_index (Proc.devRef .tc main_v2)) = shapeCast _ (extractStridedSlice S32x16x1 ![0, 0, 4] (V0 (Proc.devRef .tc main_arg3)) slices_S32x16x5_S32x16x1_0_0_4) shapeCasts_S32x16x1_S32x16 :=
  (val2_keep V0 main_v2 (by decide)).trans (val1_2_main_v2 V0)
theorem val2_main_v73 (V0 : Valuation τ sig (Elt F)) : val2 V0 (no_index (Proc.devRef .tc main_v73)) = res_main_v73 V0 :=
  (val2_keep V0 main_v73 (by decide)).trans (val1_2_main_v73 V0)
theorem val2_main_v90 (V0 : Valuation τ sig (Elt F)) : val2 V0 (no_index (Proc.devRef .tc main_v90)) = res_main_v90 V0 :=
  (val2_keep V0 main_v90 (by decide)).trans (val1_2_main_v90 V0)
set_option maxRecDepth 8192 in
theorem val2_main_v105 (V0 : Valuation τ sig (Elt F)) : val2 V0 (no_index (Proc.devRef .tc main_v105)) = Host.scatter scatter_S32x8732_S32x16x2_S32x16_n_01_01_2 (fun _ b => b) (Host.reduce FloatOps.maximumf (res_main_v67 V0) (constant S_ .f32 0xFF800000#32) reducesTo_S32x16x8732_S32x8732_d1 h_S_) (concatenate S32x16x2 2 [⟨S32x16x1, (broadcastInDim S32x16x1 ![0, 1] bcast_S32x16_S32x16x1_0_1 (broadcastInDim S32x16 ![0, 1] bcast_S32x1_S32x16_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x16x1, (broadcastInDim S32x16x1 ![0, 1] bcast_S32x16_S32x16x1_0_1 (select (cmpi .slt (res_main_v69 V0) (broadcastInDim S32x16 ![] bcast_S_S32x16 (constantI S_ 32 0#32))) (addi (res_main_v69 V0) (broadcastInDim S32x16 ![] bcast_S_S32x16 (constantI S_ 32 8732#32))) (res_main_v69 V0)))⟩] concatenates_S32x16x1_S32x16x1_S32x16x2_d2) (Host.reduce FloatOps.maximumf (res_main_v67 V0) (constant S_ .f32 0xFF800000#32) reducesTo_S32x16x8732_S32x16_d2 h_S_) := by
  unfold val2
  simp only [ops_part1_2]
  after_results_simp
  simp only [val1_2_main_v68, val1_2_main_v69, val1_2_main_v98, val1_2_main_v97, val1_2_main_v95, val1_2_main_v70] <;> rfl
set_option maxRecDepth 8192 in
theorem val2_main_c_11 (V0 : Valuation τ sig (Elt F)) : val2 V0 (no_index (Proc.devRef .tc main_c_11)) = constantI S_ 32 0#32 := by
  unfold val2
  simp only [ops_part1_2]
  after_results_simp
  all_goals rfl

/-- The device's buffer contents after @main's first 158 operations. -/
def val2_1 (V0 : Valuation τ sig (Elt F)) : Valuation τ sig (Elt F) := after ops_part2_0 (val2 V0)
/-- The buffers that window `ops_part2_0`'s operations write. -/
abbrev ops_part2_0_W : List (Ref sig .tc) := [main_v106, main_v107, main_c_12, main_v108, main_v109, main_v110, main_c_13, main_v111, main_v112, main_c_14, main_v113, main_v114, main_v115, main_v116, main_v117, main_v118, main_v119, main_v120, main_c_15, main_v121, main_v122, main_c_16, main_v123, main_v124, main_v125, main_c_17, main_v126, main_v127, main_c_18, main_v128]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_v2 (V0 : Valuation τ sig (Elt F)) : val2_1 V0 (no_index (Proc.devRef .tc main_v2)) = shapeCast _ (extractStridedSlice S32x16x1 ![0, 0, 4] (V0 (Proc.devRef .tc main_arg3)) slices_S32x16x5_S32x16x1_0_0_4) shapeCasts_S32x16x1_S32x16 :=
  (val2_1_keep V0 main_v2 (by decide)).trans (val2_main_v2 V0)
theorem val2_1_main_v90 (V0 : Valuation τ sig (Elt F)) : val2_1 V0 (no_index (Proc.devRef .tc main_v90)) = res_main_v90 V0 :=
  (val2_1_keep V0 main_v90 (by decide)).trans (val2_main_v90 V0)
theorem val2_1_main_v105 (V0 : Valuation τ sig (Elt F)) : val2_1 V0 (no_index (Proc.devRef .tc main_v105)) = Host.scatter scatter_S32x8732_S32x16x2_S32x16_n_01_01_2 (fun _ b => b) (Host.reduce FloatOps.maximumf (res_main_v67 V0) (constant S_ .f32 0xFF800000#32) reducesTo_S32x16x8732_S32x8732_d1 h_S_) (concatenate S32x16x2 2 [⟨S32x16x1, (broadcastInDim S32x16x1 ![0, 1] bcast_S32x16_S32x16x1_0_1 (broadcastInDim S32x16 ![0, 1] bcast_S32x1_S32x16_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x16x1, (broadcastInDim S32x16x1 ![0, 1] bcast_S32x16_S32x16x1_0_1 (select (cmpi .slt (res_main_v69 V0) (broadcastInDim S32x16 ![] bcast_S_S32x16 (constantI S_ 32 0#32))) (addi (res_main_v69 V0) (broadcastInDim S32x16 ![] bcast_S_S32x16 (constantI S_ 32 8732#32))) (res_main_v69 V0)))⟩] concatenates_S32x16x1_S32x16x1_S32x16x2_d2) (Host.reduce FloatOps.maximumf (res_main_v67 V0) (constant S_ .f32 0xFF800000#32) reducesTo_S32x16x8732_S32x16_d2 h_S_) :=
  (val2_1_keep V0 main_v105 (by decide)).trans (val2_main_v105 V0)
set_option maxRecDepth 8192 in
set_option maxHeartbeats 2000000 in
theorem val2_1_main_v120 (V0 : Valuation τ sig (Elt F)) : val2_1 V0 (no_index (Proc.devRef .tc main_v120)) = res_main_v120 V0 := by
  unfold val2_1
  simp only [ops_part2_0]
  after_results_simp
  simp only [val2_main_v90, val2_main_v73, val2_main_c_11, val2_main_v0] <;> rfl
set_option maxRecDepth 8192 in
set_option maxHeartbeats 2000000 in
theorem val2_1_main_v125 (V0 : Valuation τ sig (Elt F)) : val2_1 V0 (no_index (Proc.devRef .tc main_v125)) = select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0) := by
  unfold val2_1
  simp only [ops_part2_0]
  after_results_simp
  simp only [val2_main_v73] <;> rfl
set_option maxRecDepth 8192 in
set_option maxHeartbeats 2000000 in
theorem val2_1_main_v127 (V0 : Valuation τ sig (Elt F)) : val2_1 V0 (no_index (Proc.devRef .tc main_v127)) = cmpi .slt (res_main_v90 V0) (broadcastInDim S32x8732 ![] bcast_S_S32x8732 (constantI S_ 32 0#32)) := by
  unfold val2_1
  simp only [ops_part2_0]
  after_results_simp
  simp only [val2_main_v90] <;> rfl
set_option maxRecDepth 8192 in
set_option maxHeartbeats 2000000 in
theorem val2_1_main_v128 (V0 : Valuation τ sig (Elt F)) : val2_1 V0 (no_index (Proc.devRef .tc main_v128)) = broadcastInDim S32x8732 ![] bcast_S_S32x8732 (constantI S_ 32 16#32) := by
  unfold val2_1
  simp only [ops_part2_0]
  after_results_simp
  all_goals rfl

/-- The device's buffer contents after @main's first 188 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v129, main_v130, main_v131, main_v132, main_v133, main_v134, main_v135, main_cst_19, main_v136, main_v137, main_cst_20, main_call2_v0, main_call2_v1, main_v138, main_v139, main_v140, main_v141, main_cst_21, main_v142, main_v143, main_v144, main_v145, main_v146, main_v147, main_v148, main_cst_22, main_v149, main_v150, main_v151, main_v152]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_v120 (V0 : Valuation τ sig (Elt F)) : val2_2 V0 (no_index (Proc.devRef .tc main_v120)) = res_main_v120 V0 :=
  (val2_2_keep V0 main_v120 (by decide)).trans (val2_1_main_v120 V0)
set_option maxRecDepth 8192 in
set_option maxHeartbeats 2000000 in
theorem val2_2_main_v138 (V0 : Valuation τ sig (Elt F)) : val2_2 V0 (no_index (Proc.devRef .tc main_v138)) = select (cmpf .olt (Host.scatter scatter_S32x8732_S32x16x2_S32x16_n_01_01_2 (fun _ b => b) (Host.reduce FloatOps.maximumf (res_main_v67 V0) (constant S_ .f32 0xFF800000#32) reducesTo_S32x16x8732_S32x8732_d1 h_S_) (concatenate S32x16x2 2 [⟨S32x16x1, (broadcastInDim S32x16x1 ![0, 1] bcast_S32x16_S32x16x1_0_1 (broadcastInDim S32x16 ![0, 1] bcast_S32x1_S32x16_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x16x1, (broadcastInDim S32x16x1 ![0, 1] bcast_S32x16_S32x16x1_0_1 (select (cmpi .slt (res_main_v69 V0) (broadcastInDim S32x16 ![] bcast_S_S32x16 (constantI S_ 32 0#32))) (addi (res_main_v69 V0) (broadcastInDim S32x16 ![] bcast_S_S32x16 (constantI S_ 32 8732#32))) (res_main_v69 V0)))⟩] concatenates_S32x16x1_S32x16x1_S32x16x2_d2) (Host.reduce FloatOps.maximumf (res_main_v67 V0) (constant S_ .f32 0xFF800000#32) reducesTo_S32x16x8732_S32x16_d2 h_S_)) (broadcastInDim S32x8732 ![] bcast_S_S32x8732 (constant S_ .f32 0x3F000000#32))) (broadcastInDim S32x8732 ![] bcast_S_S32x8732 (id (constant S_ .f32 0x00000000#32))) (Host.gather gather_S32x16_S32x8732x2_S32x8732_n_01_n_n_01_2_11 (shapeCast _ (extractStridedSlice S32x16x1 ![0, 0, 4] (V0 (Proc.devRef .tc main_arg3)) slices_S32x16x5_S32x16x1_0_0_4) shapeCasts_S32x16x1_S32x16) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x8732x1, (broadcastInDim S32x8732x1 ![0, 1] bcast_S32x8732_S32x8732x1_0_1 (select (cmpi .slt (res_main_v90 V0) (broadcastInDim S32x8732 ![] bcast_S_S32x8732 (constantI S_ 32 0#32))) (addi (res_main_v90 V0) (broadcastInDim S32x8732 ![] bcast_S_S32x8732 (constantI S_ 32 16#32))) (res_main_v90 V0)))⟩] concatenates_S32x8732x1_S32x8732x1_S32x8732x2_d2)) := by
  unfold val2_2
  simp only [ops_part2_1, TRef.ternary, TRef.unary, TRef.toBuf, TRef.ofBuf, cast_eq]
  after_results_simp
  simp only [val2_1_main_v90, val2_1_main_v128, val2_1_main_v127, val2_1_main_v125, val2_1_main_v2, val2_1_main_v105] <;> rfl
set_option maxRecDepth 8192 in
set_option maxHeartbeats 2000000 in
theorem val2_2_main_v147 (V0 : Valuation τ sig (Elt F)) : val2_2 V0 (no_index (Proc.devRef .tc main_v147)) = subf (Host.divf (addf (extractStridedSlice S32x8732x2 ![0, 0, 0] (res_main_v120 V0) slices_S32x8732x4_S32x8732x2_0_0_0) (extractStridedSlice S32x8732x2 ![0, 0, 2] (res_main_v120 V0) slices_S32x8732x4_S32x8732x2_0_0_2)) (broadcastInDim S32x8732x2 ![] bcast_S_S32x8732x2 (constant S_ .f32 0x40000000#32))) (broadcastInDim S32x8732x2 ![0, 1, 2] bcast_S1x8732x2_S32x8732x2_0_1_2 (broadcastInDim S1x8732x2 ![1, 2] bcast_S8732x2_S1x8732x2_1_2 (extractStridedSlice S8732x2 ![0, 0] (V0 (Proc.devRef .tc main_arg2)) slices_S8732x4_S8732x2_0_0))) := by
  unfold val2_2
  simp only [ops_part2_1, TRef.ternary, TRef.unary, TRef.toBuf, TRef.ofBuf, cast_eq]
  after_results_simp
  simp only [val2_1_main_arg2, val2_1_main_v120] <;> rfl
set_option maxRecDepth 8192 in
set_option maxHeartbeats 2000000 in
theorem val2_2_main_v152 (V0 : Valuation τ sig (Elt F)) : val2_2 V0 (no_index (Proc.devRef .tc main_v152)) = broadcastInDim S32x8732x2 ![0, 1, 2] bcast_S1x8732x2_S32x8732x2_0_1_2 (broadcastInDim S1x8732x2 ![1, 2] bcast_S8732x2_S1x8732x2_1_2 (mulf (broadcastInDim S8732x2 ![] bcast_S_S8732x2 (constant S_ .f32 0x3DCCCCCD#32)) (extractStridedSlice S8732x2 ![0, 2] (V0 (Proc.devRef .tc main_arg2)) slices_S8732x4_S8732x2_0_2))) := by
  unfold val2_2
  simp only [ops_part2_1, TRef.ternary, TRef.unary, TRef.toBuf, TRef.ofBuf, cast_eq]
  after_results_simp
  simp only [val2_1_main_arg2] <;> rfl

end Cert.Proof.Ref

end
-- ==== Proof.RefRun.lean ====
/- The contents after the last windows of the reference, and its run. -/
module

public import proofs.«01_k».proof.Proof.RefRunA

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v153, main_v154]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_v120 (V0 : Valuation τ sig (Elt F)) : val3 V0 (no_index (Proc.devRef .tc main_v120)) = res_main_v120 V0 :=
  (val3_keep V0 main_v120 (by decide)).trans (val2_2_main_v120 V0)
theorem val3_main_v138 (V0 : Valuation τ sig (Elt F)) : val3 V0 (no_index (Proc.devRef .tc main_v138)) = select (cmpf .olt (Host.scatter scatter_S32x8732_S32x16x2_S32x16_n_01_01_2 (fun _ b => b) (Host.reduce FloatOps.maximumf (res_main_v67 V0) (constant S_ .f32 0xFF800000#32) reducesTo_S32x16x8732_S32x8732_d1 h_S_) (concatenate S32x16x2 2 [⟨S32x16x1, (broadcastInDim S32x16x1 ![0, 1] bcast_S32x16_S32x16x1_0_1 (broadcastInDim S32x16 ![0, 1] bcast_S32x1_S32x16_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x16x1, (broadcastInDim S32x16x1 ![0, 1] bcast_S32x16_S32x16x1_0_1 (select (cmpi .slt (res_main_v69 V0) (broadcastInDim S32x16 ![] bcast_S_S32x16 (constantI S_ 32 0#32))) (addi (res_main_v69 V0) (broadcastInDim S32x16 ![] bcast_S_S32x16 (constantI S_ 32 8732#32))) (res_main_v69 V0)))⟩] concatenates_S32x16x1_S32x16x1_S32x16x2_d2) (Host.reduce FloatOps.maximumf (res_main_v67 V0) (constant S_ .f32 0xFF800000#32) reducesTo_S32x16x8732_S32x16_d2 h_S_)) (broadcastInDim S32x8732 ![] bcast_S_S32x8732 (constant S_ .f32 0x3F000000#32))) (broadcastInDim S32x8732 ![] bcast_S_S32x8732 (id (constant S_ .f32 0x00000000#32))) (Host.gather gather_S32x16_S32x8732x2_S32x8732_n_01_n_n_01_2_11 (shapeCast _ (extractStridedSlice S32x16x1 ![0, 0, 4] (V0 (Proc.devRef .tc main_arg3)) slices_S32x16x5_S32x16x1_0_0_4) shapeCasts_S32x16x1_S32x16) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x8732x1, (broadcastInDim S32x8732x1 ![0, 1] bcast_S32x8732_S32x8732x1_0_1 (select (cmpi .slt (res_main_v90 V0) (broadcastInDim S32x8732 ![] bcast_S_S32x8732 (constantI S_ 32 0#32))) (addi (res_main_v90 V0) (broadcastInDim S32x8732 ![] bcast_S_S32x8732 (constantI S_ 32 16#32))) (res_main_v90 V0)))⟩] concatenates_S32x8732x1_S32x8732x1_S32x8732x2_d2)) :=
  (val3_keep V0 main_v138 (by decide)).trans (val2_2_main_v138 V0)
set_option maxRecDepth 8192 in
theorem val3_main_v153 (V0 : Valuation τ sig (Elt F)) : val3 V0 (no_index (Proc.devRef .tc main_v153)) = Host.divf (subf (Host.divf (addf (extractStridedSlice S32x8732x2 ![0, 0, 0] (res_main_v120 V0) slices_S32x8732x4_S32x8732x2_0_0_0) (extractStridedSlice S32x8732x2 ![0, 0, 2] (res_main_v120 V0) slices_S32x8732x4_S32x8732x2_0_0_2)) (broadcastInDim S32x8732x2 ![] bcast_S_S32x8732x2 (constant S_ .f32 0x40000000#32))) (broadcastInDim S32x8732x2 ![0, 1, 2] bcast_S1x8732x2_S32x8732x2_0_1_2 (broadcastInDim S1x8732x2 ![1, 2] bcast_S8732x2_S1x8732x2_1_2 (extractStridedSlice S8732x2 ![0, 0] (V0 (Proc.devRef .tc main_arg2)) slices_S8732x4_S8732x2_0_0)))) (broadcastInDim S32x8732x2 ![0, 1, 2] bcast_S1x8732x2_S32x8732x2_0_1_2 (broadcastInDim S1x8732x2 ![1, 2] bcast_S8732x2_S1x8732x2_1_2 (mulf (broadcastInDim S8732x2 ![] bcast_S_S8732x2 (constant S_ .f32 0x3DCCCCCD#32)) (extractStridedSlice S8732x2 ![0, 2] (V0 (Proc.devRef .tc main_arg2)) slices_S8732x4_S8732x2_0_2)))) := by
  unfold val3
  simp only [ops_part2_2]
  after_results_simp
  simp only [val2_2_main_v152, val2_2_main_v147] <;> rfl
set_option maxRecDepth 8192 in
theorem val3_main_v154 (V0 : Valuation τ sig (Elt F)) : val3 V0 (no_index (Proc.devRef .tc main_v154)) = extractStridedSlice S32x8732x2 ![0, 0, 2] (res_main_v120 V0) slices_S32x8732x4_S32x8732x2_0_0_2 := by
  unfold val3
  simp only [ops_part2_2]
  after_results_simp
  simp only [val2_2_main_v120] <;> rfl

/-- The device's buffer contents after @main's first 220 operations. -/
def val3_1 (V0 : Valuation τ sig (Elt F)) : Valuation τ sig (Elt F) := after ops_part3_0 (val3 V0)
/-- The buffers that window `ops_part3_0`'s operations write. -/
abbrev ops_part3_0_W : List (Ref sig .tc) := [main_v155, main_v156, main_v157, main_v158, main_v159, main_v160, main_v161, main_cst_23, main_v162, main_v163, main_v164, main_v165, main_c_24, main_v166, main_v167, main_v168, main_v169, main_cst_25, main_v170, main_v171, main_cst_26, main_v172, main_v173, main_v174, main_cst_27, main_v175, main_v176, main_v177, main_v178, main_cst_28]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
set_option maxRecDepth 8192 in
set_option maxHeartbeats 2000000 in
theorem val3_1_main_v165 (V0 : Valuation τ sig (Elt F)) : val3_1 V0 (no_index (Proc.devRef .tc main_v165)) = res_main_v165 V0 := by
  unfold val3_1
  simp only [ops_part3_0, TRef.ternary, TRef.toBuf, TRef.ofBuf, cast_eq]
  after_results_simp
  simp only [val3_main_v138] <;> rfl
set_option maxRecDepth 8192 in
set_option maxHeartbeats 2000000 in
theorem val3_1_main_v167 (V0 : Valuation τ sig (Elt F)) : val3_1 V0 (no_index (Proc.devRef .tc main_v167)) = res_main_v167 V0 := by
  unfold val3_1
  simp only [ops_part3_0, TRef.ternary, TRef.toBuf, TRef.ofBuf, cast_eq]
  after_results_simp
  simp only [val3_main_v138] <;> rfl
set_option maxRecDepth 8192 in
set_option maxHeartbeats 2000000 in
theorem val3_1_main_v177 (V0 : Valuation τ sig (Elt F)) : val3_1 V0 (no_index (Proc.devRef .tc main_v177)) = select (cmpf .olt (res_main_v169 V0) (broadcastInDim S32x8732x4 ![] bcast_S_S32x8732x4 (constant S_ .f32 0x3F800000#32))) (mulf (mulf (broadcastInDim S32x8732x4 ![] bcast_S_S32x8732x4 (constant S_ .f32 0x3F000000#32)) (res_main_v168 V0)) (res_main_v168 V0)) (subf (res_main_v169 V0) (broadcastInDim S32x8732x4 ![] bcast_S_S32x8732x4 (constant S_ .f32 0x3F000000#32))) := by
  unfold val3_1
  simp only [ops_part3_0, TRef.ternary, TRef.toBuf, TRef.ofBuf, cast_eq]
  after_results_simp
  simp only [val3_main_arg2, val3_main_v120, val3_main_v154, val3_main_v153, val3_main_arg0] <;> rfl
set_option maxRecDepth 8192 in
set_option maxHeartbeats 2000000 in
theorem val3_1_main_v178 (V0 : Valuation τ sig (Elt F)) : val3_1 V0 (no_index (Proc.devRef .tc main_v178)) = broadcastInDim S32x8732x1 ![0, 1] bcast_S32x8732_S32x8732x1_0_1 (res_main_v167 V0) := by
  unfold val3_1
  simp only [ops_part3_0, TRef.ternary, TRef.toBuf, TRef.ofBuf, cast_eq]
  after_results_simp
  simp only [val3_main_v138] <;> rfl
set_option maxRecDepth 8192 in
set_option maxHeartbeats 2000000 in
theorem val3_1_main_cst_28 (V0 : Valuation τ sig (Elt F)) : val3_1 V0 (no_index (Proc.devRef .tc main_cst_28)) = constant S_ .f32 0x00000000#32 := by
  unfold val3_1
  simp only [ops_part3_0, TRef.ternary, TRef.toBuf, TRef.ofBuf, cast_eq]
  after_results_simp
  all_goals rfl

/-- The device's buffer contents after @main's first 250 operations. -/
def val3_2 (V0 : Valuation τ sig (Elt F)) : Valuation τ sig (Elt F) := after ops_part3_1 (val3_1 V0)
/-- The buffers that window `ops_part3_1`'s operations write. -/
abbrev ops_part3_1_W : List (Ref sig .tc) := [main_call4_v0, main_call4_v1, main_call4_v2, main_v179, main_cst_29, main_v180, main_v181, main_v182, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v183]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_v167 (V0 : Valuation τ sig (Elt F)) : val3_2 V0 (no_index (Proc.devRef .tc main_v167)) = res_main_v167 V0 :=
  (val3_2_keep V0 main_v167 (by decide)).trans (val3_1_main_v167 V0)
set_option maxRecDepth 8192 in
set_option maxHeartbeats 2000000 in
theorem val3_2_main_v180 (V0 : Valuation τ sig (Elt F)) : val3_2 V0 (no_index (Proc.devRef .tc main_v180)) = Host.reduceAdd (select (broadcastInDim S32x8732x4 ![0, 1, 2] bcast_S32x8732x1_S32x8732x4_0_1_2 (broadcastInDim S32x8732x1 ![0, 1] bcast_S32x8732_S32x8732x1_0_1 (res_main_v167 V0))) (select (cmpf .olt (res_main_v169 V0) (broadcastInDim S32x8732x4 ![] bcast_S_S32x8732x4 (constant S_ .f32 0x3F800000#32))) (mulf (mulf (broadcastInDim S32x8732x4 ![] bcast_S_S32x8732x4 (constant S_ .f32 0x3F000000#32)) (res_main_v168 V0)) (res_main_v168 V0)) (subf (res_main_v169 V0) (broadcastInDim S32x8732x4 ![] bcast_S_S32x8732x4 (constant S_ .f32 0x3F000000#32)))) (broadcastInDim S32x8732x4 ![] bcast_S_S32x8732x4 (id (constant S_ .f32 0x00000000#32)))) (constant S_ .f32 0x00000000#32) reducesTo_S32x8732x4_S_d0_1_2 h_S_ := by
  unfold val3_2
  simp only [ops_part3_1, TRef.binary, TRef.nullary, TRef.reshape, TRef.ternary, TRef.unary, TRef.toBuf, TRef.ofBuf, cast_eq]
  after_results_simp
  simp only [val3_1_main_cst_28, val3_1_main_v177, val3_1_main_v178] <;> rfl
set_option maxRecDepth 8192 in
set_option maxHeartbeats 2000000 in
theorem val3_2_main_v181 (V0 : Valuation τ sig (Elt F)) : val3_2 V0 (no_index (Proc.devRef .tc main_v181)) = res_main_v181 V0 := by
  unfold val3_2
  simp only [ops_part3_1, TRef.binary, TRef.nullary, TRef.reshape, TRef.ternary, TRef.unary, TRef.toBuf, TRef.ofBuf, cast_eq]
  after_results_simp
  simp only [val3_1_main_arg1] <;> rfl
set_option maxRecDepth 8192 in
set_option maxHeartbeats 2000000 in
theorem val3_2_main_v183 (V0 : Valuation τ sig (Elt F)) : val3_2 V0 (no_index (Proc.devRef .tc main_v183)) = select (Host.reduce IntOp.andi (andi (cmpi .sge (res_main_call5_v5 V0) (broadcastInDim S279424x1x1 ![] bcast_S_S279424x1x1 (constantI S_ 32 0#32))) (cmpi .sle (res_main_call5_v5 V0) (broadcastInDim S279424x1x1 ![0, 1, 2] bcast_S1x1x1_S279424x1x1_0_1_2 (broadcastInDim S1x1x1 ![2] bcast_S1_S1x1x1_2 (constantI S1 32 20#32))))) (constantI S_ 1 1#1) reducesTo_S279424x1x1_S279424x1_d2 h_S_) (Host.gather gather_S279424x21_S279424x1x1_S279424x1_n_1_0_0_1_2_11 (res_main_v181 V0) (res_main_call5_v5 V0)) (broadcastInDim S279424x1 ![] bcast_S_S279424x1 (constant S_ .f32 0x7FC00000#32)) := by
  unfold val3_2
  simp only [ops_part3_1, TRef.binary, TRef.nullary, TRef.reshape, TRef.ternary, TRef.unary, TRef.toBuf, TRef.ofBuf, cast_eq]
  after_results_simp
  simp only [val3_1_main_v165, val3_1_main_arg1] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v184, main_cst_30, main_v185, main_v186, main_v187, main_v188, main_cst_31, main_v189, main_v190, main_v191, main_v192, main_v193, main_v194, main_cst_32, main_call6_v0, main_call6_v1, main_v195, main_v196, main_call7_v0, main_call7_v1_0, main_v197, main_call8_v0, main_call8_v1_0, main_v198, main_v199, main_c_33, main_v200, main_v201, main_c_34, main_v202]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_arg3 (V0 : Valuation τ sig (Elt F)) : val4 V0 (no_index (Proc.devRef .tc main_arg3)) = V0 (Proc.devRef .tc main_arg3) :=
  (val4_keep V0 main_arg3 (by decide)).trans (val3_2_main_arg3 V0)
theorem val4_main_v167 (V0 : Valuation τ sig (Elt F)) : val4 V0 (no_index (Proc.devRef .tc main_v167)) = res_main_v167 V0 :=
  (val4_keep V0 main_v167 (by decide)).trans (val3_2_main_v167 V0)
theorem val4_main_v180 (V0 : Valuation τ sig (Elt F)) : val4 V0 (no_index (Proc.devRef .tc main_v180)) = Host.reduceAdd (select (broadcastInDim S32x8732x4 ![0, 1, 2] bcast_S32x8732x1_S32x8732x4_0_1_2 (broadcastInDim S32x8732x1 ![0, 1] bcast_S32x8732_S32x8732x1_0_1 (res_main_v167 V0))) (select (cmpf .olt (res_main_v169 V0) (broadcastInDim S32x8732x4 ![] bcast_S_S32x8732x4 (constant S_ .f32 0x3F800000#32))) (mulf (mulf (broadcastInDim S32x8732x4 ![] bcast_S_S32x8732x4 (constant S_ .f32 0x3F000000#32)) (res_main_v168 V0)) (res_main_v168 V0)) (subf (res_main_v169 V0) (broadcastInDim S32x8732x4 ![] bcast_S_S32x8732x4 (constant S_ .f32 0x3F000000#32)))) (broadcastInDim S32x8732x4 ![] bcast_S_S32x8732x4 (id (constant S_ .f32 0x00000000#32)))) (constant S_ .f32 0x00000000#32) reducesTo_S32x8732x4_S_d0_1_2 h_S_ :=
  (val4_keep V0 main_v180 (by decide)).trans (val3_2_main_v180 V0)
set_option maxRecDepth 8192 in
set_option maxHeartbeats 2000000 in
theorem val4_main_v194 (V0 : Valuation τ sig (Elt F)) : val4 V0 (no_index (Proc.devRef .tc main_v194)) = res_main_v194 V0 := by
  unfold val4
  simp only [ops_part3_2, TRef.binary, TRef.nullary, TRef.ternary, TRef.unary, TRef.toBuf, TRef.ofBuf, cast_eq]
  after_results_simp
  simp only [val3_2_main_v183, val3_2_main_v181] <;> rfl
set_option maxRecDepth 8192 in
set_option maxHeartbeats 2000000 in
theorem val4_main_v198 (V0 : Valuation τ sig (Elt F)) : val4 V0 (no_index (Proc.devRef .tc main_v198)) = (Host.sort2 S32x8732 1 comparator_i32_i32_d1 (res_main_v197 V0) (res_main_call8_v0 V0)).2 := by
  unfold val4
  simp only [ops_part3_2, TRef.binary, TRef.nullary, TRef.ternary, TRef.unary, TRef.toBuf, TRef.ofBuf, cast_eq]
  after_results_simp
  simp only [val3_2_main_v183, val3_2_main_v181, val3_2_main_v167] <;> rfl
set_option maxRecDepth 8192 in
set_option maxHeartbeats 2000000 in
theorem val4_main_v201 (V0 : Valuation τ sig (Elt F)) : val4 V0 (no_index (Proc.devRef .tc main_v201)) = res_main_v201 V0 := by
  unfold val4
  simp only [ops_part3_2, TRef.binary, TRef.nullary, TRef.ternary, TRef.unary, TRef.toBuf, TRef.ofBuf, cast_eq]
  after_results_simp
  simp only [val3_2_main_v167] <;> rfl
set_option maxRecDepth 8192 in
set_option maxHeartbeats 2000000 in
theorem val4_main_v202 (V0 : Valuation τ sig (Elt F)) : val4 V0 (no_index (Proc.devRef .tc main_v202)) = broadcastInDim S32x1 ![] bcast_S_S32x1 (constantI S_ 32 3#32) := by
  unfold val4
  simp only [ops_part3_2, TRef.binary, TRef.nullary, TRef.ternary, TRef.unary, TRef.toBuf, TRef.ofBuf, cast_eq]
  after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v203, main_c_35, main_v204, main_v205, main_v206, main_v207, main_v208, main_cst_36, main_call9_v0, main_call9_v1, main_v209, main_cst_37, main_v210, main_c_38, main_v211, main_v212, main_v213, main_v214]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
set_option maxRecDepth 8192 in
set_option maxHeartbeats 1800000 in
theorem val5_main_v213 (V0 : Valuation τ sig (Elt F)) : val5 V0 (no_index (Proc.devRef .tc main_v213)) = Host.divf (Host.reduceAdd (select (broadcastInDim S32x8732x4 ![0, 1, 2] bcast_S32x8732x1_S32x8732x4_0_1_2 (broadcastInDim S32x8732x1 ![0, 1] bcast_S32x8732_S32x8732x1_0_1 (res_main_v167 V0))) (select (cmpf .olt (res_main_v169 V0) (broadcastInDim S32x8732x4 ![] bcast_S_S32x8732x4 (constant S_ .f32 0x3F800000#32))) (mulf (mulf (broadcastInDim S32x8732x4 ![] bcast_S_S32x8732x4 (constant S_ .f32 0x3F000000#32)) (res_main_v168 V0)) (res_main_v168 V0)) (subf (res_main_v169 V0) (broadcastInDim S32x8732x4 ![] bcast_S_S32x8732x4 (constant S_ .f32 0x3F000000#32)))) (broadcastInDim S32x8732x4 ![] bcast_S_S32x8732x4 (id (constant S_ .f32 0x00000000#32)))) (constant S_ .f32 0x00000000#32) reducesTo_S32x8732x4_S_d0_1_2 h_S_) (res_main_v212 V0) := by
  unfold val5
  simp only [ops_part4, TRef.ternary, TRef.unary, TRef.toBuf, TRef.ofBuf, cast_eq]
  after_results_simp
  simp only [val4_main_v201, val4_main_v180] <;> rfl
set_option maxRecDepth 8192 in
set_option maxHeartbeats 1800000 in
theorem val5_main_v214 (V0 : Valuation τ sig (Elt F)) : val5 V0 (no_index (Proc.devRef .tc main_v214)) = Host.divf (Host.reduceAdd (select (ori (res_main_v167 V0) (cmpi .slt ((Host.sort2 S32x8732 1 comparator_i32_i32_d1 (res_main_v197 V0) (res_main_call8_v0 V0)).2) (broadcastInDim S32x8732 ![0, 1] bcast_S32x1_S32x8732_0_1 (minsi (muli (broadcastInDim S32x1 ![] bcast_S_S32x1 (constantI S_ 32 3#32)) (res_main_v201 V0)) (broadcastInDim S32x1 ![] bcast_S_S32x1 (constantI S_ 32 8731#32)))))) (res_main_v194 V0) (broadcastInDim S32x8732 ![] bcast_S_S32x8732 (id (constant S_ .f32 0x00000000#32)))) (constant S_ .f32 0x00000000#32) reducesTo_S32x8732_S_d0_1 h_S_) (res_main_v212 V0) := by
  unfold val5
  simp only [ops_part4, TRef.ternary, TRef.unary, TRef.toBuf, TRef.ofBuf, cast_eq]
  after_results_simp
  simp only [val4_main_v201, val4_main_v194, val4_main_v202, val4_main_v198, val4_main_v167] <;> rfl

theorem after_ops (V0 : Valuation τ sig (Elt F)) : after ops V0 = val5 V0 := by
  simp only [ops, ops_part1, ops_part2, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v213) = Host.divf (Host.reduceAdd (select (broadcastInDim S32x8732x4 ![0, 1, 2] bcast_S32x8732x1_S32x8732x4_0_1_2 (broadcastInDim S32x8732x1 ![0, 1] bcast_S32x8732_S32x8732x1_0_1 (res_main_v167 (launchContents m c)))) (select (cmpf .olt (res_main_v169 (launchContents m c)) (broadcastInDim S32x8732x4 ![] bcast_S_S32x8732x4 (constant S_ .f32 0x3F800000#32))) (mulf (mulf (broadcastInDim S32x8732x4 ![] bcast_S_S32x8732x4 (constant S_ .f32 0x3F000000#32)) (res_main_v168 (launchContents m c))) (res_main_v168 (launchContents m c))) (subf (res_main_v169 (launchContents m c)) (broadcastInDim S32x8732x4 ![] bcast_S_S32x8732x4 (constant S_ .f32 0x3F000000#32)))) (broadcastInDim S32x8732x4 ![] bcast_S_S32x8732x4 (id (constant S_ .f32 0x00000000#32)))) (constant S_ .f32 0x00000000#32) reducesTo_S32x8732x4_S_d0_1_2 h_S_) (res_main_v212 (launchContents m c))
      ∧ r.2.mem ((c.tc : Thread nD τ).loc main_v214) = Host.divf (Host.reduceAdd (select (ori (res_main_v167 (launchContents m c)) (cmpi .slt ((Host.sort2 S32x8732 1 comparator_i32_i32_d1 (res_main_v197 (launchContents m c)) (res_main_call8_v0 (launchContents m c))).2) (broadcastInDim S32x8732 ![0, 1] bcast_S32x1_S32x8732_0_1 (minsi (muli (broadcastInDim S32x1 ![] bcast_S_S32x1 (constantI S_ 32 3#32)) (res_main_v201 (launchContents m c))) (broadcastInDim S32x1 ![] bcast_S_S32x1 (constantI S_ 32 8731#32)))))) (res_main_v194 (launchContents m c)) (broadcastInDim S32x8732 ![] bcast_S_S32x8732 (id (constant S_ .f32 0x00000000#32)))) (constant S_ .f32 0x00000000#32) reducesTo_S32x8732_S_d0_1 h_S_) (res_main_v212 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v213).trans ((congrFun (after_ops (launchContents m c)) (Proc.devRef .tc main_v213)).trans (val5_main_v213 (launchContents m c))),
      (h c main_v214).trans ((congrFun (after_ops (launchContents m c)) (Proc.devRef .tc main_v214)).trans (val5_main_v214 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c)))⟩)
    (run_seq scopedRefs_eq scopedSems_eq defs main (fun _ => ops) main_eq (fun _ => ops_sub) m ρ fun _ => ops_fresh)

end Cert.Proof.Ref

end
-- ==== Proof.Spec.lean ====
/- What the loss means: the overlap of a truth box and a prior, which truth a prior is matched to, the class and the
   regression targets it gets, and the losses of one prior, all over the extended reals. -/
module

public import Idealize.ShloMosaic.Lib.Pointwise

@[expose] public section

set_option maxRecDepth 16384

noncomputable section

namespace Cert.Proof.Spec

open Idealize.ShloMosaic

/-! ### First and last indices -/

/-- `k` is the first index at which `P` holds. -/
def IsFirst {n : ℕ} (P : Fin n → Prop) (k : Fin n) : Prop := P k ∧ ∀ j, P j → k ≤ j

/-- `k` is the last index at which `P` holds. -/
def IsLast {n : ℕ} (P : Fin n → Prop) (k : Fin n) : Prop := P k ∧ ∀ j, P j → j ≤ k

theorem IsFirst.unique {n : ℕ} {P : Fin n → Prop} {k l : Fin n} (hk : IsFirst P k) (hl : IsFirst P l) : k = l :=
  le_antisymm (hk.2 l hl.1) (hl.2 k hk.1)

theorem IsLast.unique {n : ℕ} {P : Fin n → Prop} {k l : Fin n} (hk : IsLast P k) (hl : IsLast P l) : k = l :=
  le_antisymm (hl.2 k hk.1) (hk.2 l hl.1)

theorem exists_isFirst {n : ℕ} {P : Fin n → Prop} (h : ∃ k, P k) : ∃ k, IsFirst P k := by
  classical
  obtain ⟨k, hk, hm⟩ := Finset.exists_min_image (Finset.univ.filter P) id (by obtain ⟨k, hk⟩ := h; exact ⟨k, by simpa using hk⟩)
  exact ⟨k, by simpa using hk, fun j hj => hm j (by simpa using hj)⟩

theorem exists_isLast {n : ℕ} {P : Fin n → Prop} (h : ∃ k, P k) : ∃ k, IsLast P k := by
  classical
  obtain ⟨k, hk, hm⟩ := Finset.exists_max_image (Finset.univ.filter P) id (by obtain ⟨k, hk⟩ := h; exact ⟨k, by simpa using hk⟩)
  exact ⟨k, by simpa using hk, fun j hj => hm j (by simpa using hj)⟩

/-! ### The greatest value of a family -/

/-- The greatest value of a finite family. -/
def top {n : ℕ} (f : Fin n → EReal) : EReal := Finset.univ.fold max ⊥ f

theorem top_eq_sup {n : ℕ} (f : Fin n → EReal) : top f = Finset.univ.sup f := rfl

theorem le_top {n : ℕ} (f : Fin n → EReal) (k : Fin n) : f k ≤ top f := by
  rw [top_eq_sup]; exact Finset.le_sup (Finset.mem_univ k)

theorem exists_eq_top {n : ℕ} [NeZero n] (f : Fin n → EReal) : ∃ k, f k = top f := by
  obtain ⟨k, -, hk⟩ := Finset.exists_mem_eq_sup Finset.univ ⟨(0 : Fin n), Finset.mem_univ _⟩ f
  exact ⟨k, by rw [top_eq_sup]; exact hk.symm⟩

theorem eq_top_iff {n : ℕ} (f : Fin n → EReal) (k : Fin n) : f k = top f ↔ ∀ j, f j ≤ f k :=
  ⟨fun h j => h ▸ le_top f j, fun h => le_antisymm (le_top f k) (by rw [top_eq_sup]; exact Finset.sup_le fun j _ => h j)⟩

/-! ### The constants -/

/-- One half, as the programs write it. -/
def half : EReal := Ideal.ofBits .f32 0x3F000000#32

theorem half_eq : half = ((1 / 2 : ℝ) : EReal) := by
  unfold half; simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem three_eq : Ideal.ofBits .f32 0x40400000#32 = ((3 : ℝ) : EReal) := by
  simp [Ideal.ofBits, Ideal.ieee, -EReal.coe_mul]; norm_num

theorem negInf_eq : Ideal.ofBits .f32 0xFF800000#32 = ⊥ := by
  simp [Ideal.ofBits, Ideal.ieee]

theorem one_eq : Ideal.ofBits .f32 0x3F800000#32 = 1 := by
  simp [Ideal.ofBits, Ideal.ieee, -EReal.coe_mul]; norm_num

/-- Dividing by two is multiplying by one half. -/
theorem div_two (x : EReal) : Ideal.div x (Ideal.ofBits .f32 0x40000000#32) = x * half := by
  rw [two_eq, half_eq, Ideal.div, if_neg (by rw [← EReal.coe_zero, EReal.coe_eq_coe_iff]; norm_num), ← EReal.coe_inv]
  norm_num

/-- A sum of real numbers, read as extended reals, is the sum. -/
theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-! ### Overlaps -/

/-- The length two intervals share: `[lo, hi]` and the one of size `s` centred at `c`. -/
def shared (lo hi c s : EReal) : EReal := max (min hi (c + s * half) - max lo (c - s * half)) 0

/-- The overlap (intersection over union) of truth box `t` and prior `q`. -/
def iou (t : Fin 5 → EReal) (q : Fin 4 → EReal) : EReal :=
  Ideal.div (shared (t 0) (t 2) (q 0) (q 2) * shared (t 1) (t 3) (q 1) (q 3))
    ((t 2 - t 0) * (t 3 - t 1)
      + ((q 0 + q 2 * half) - (q 0 - q 2 * half)) * ((q 1 + q 3 * half) - (q 1 - q 3 * half))
      - shared (t 0) (t 2) (q 0) (q 2) * shared (t 1) (t 3) (q 1) (q 3))

/-- The overlaps of one image's truths with the priors. -/
def overlaps (t : Fin 16 → Fin 5 → EReal) (q : Fin 8732 → Fin 4 → EReal) (o : Fin 16) (p : Fin 8732) : EReal :=
  iou (t o) (q p)

/-! ### The match -/

section Match
variable (v : Fin 16 → Fin 8732 → EReal)

/-- The greatest overlap of truth `o`. -/
def rowTop (o : Fin 16) : EReal := top (v o)

/-- The greatest overlap of prior `p`. -/
def colTop (p : Fin 8732) : EReal := top fun o => v o p

/-- Prior `p` is the best prior of truth `o`: the first of greatest overlap. -/
def Best (o : Fin 16) (p : Fin 8732) : Prop := IsFirst (fun q => v o q = rowTop v o) p

theorem exists_best (o : Fin 16) : ∃ p, Best v o p := exists_isFirst (exists_eq_top (v o))

/-- Prior `p` is the best prior of some truth. -/
def Forced (p : Fin 8732) : Prop := ∃ o, Best v o p

/-- Truth `o` is the one prior `p` is matched to: the last whose best prior is `p` if there is one, else the first of
    greatest overlap with `p`. -/
def Owns (p : Fin 8732) (o : Fin 16) : Prop :=
  IsLast (fun o' => Best v o' p) o ∨ ¬ Forced v p ∧ IsFirst (fun o' => v o' p = colTop v p) o

theorem exists_owns (p : Fin 8732) : ∃ o, Owns v p o := by
  by_cases h : Forced v p
  · obtain ⟨o, ho⟩ := exists_isLast h; exact ⟨o, .inl ho⟩
  · obtain ⟨o, ho⟩ := exists_isFirst (exists_eq_top fun o => v o p); exact ⟨o, .inr ⟨h, ho⟩⟩

theorem Owns.unique {p : Fin 8732} {o o' : Fin 16} (h : Owns v p o) (h' : Owns v p o') : o = o' := by
  rcases h with h | ⟨hn, h⟩ <;> rcases h' with h' | ⟨hn', h'⟩
  · exact h.unique h'
  · exact absurd ⟨o, h.1⟩ hn'
  · exact absurd ⟨o', h'.1⟩ hn
  · exact h.unique h'

/-- The truth prior `p` is matched to. -/
def owner (p : Fin 8732) : Fin 16 := (exists_owns v p).choose

theorem owner_owns (p : Fin 8732) : Owns v p (owner v p) := (exists_owns v p).choose_spec

theorem Owns.eq_owner {p : Fin 8732} {o : Fin 16} (h : Owns v p o) : o = owner v p := h.unique v (owner_owns v p)

open Classical in
/-- The overlap the match of prior `p` is judged by: its owner's greatest if `p` is a best prior, else `p`'s greatest. -/
def quality (p : Fin 8732) : EReal := if Forced v p then rowTop v (owner v p) else colTop v p

end Match

/-! ### Targets and losses of one prior -/

/-- The class of prior `p`: its owner's label, zero (background) where the overlap is less than one half. -/
def label (t : Fin 16 → Fin 5 → EReal) (v : Fin 16 → Fin 8732 → EReal) (p : Fin 8732) : EReal :=
  if quality v p < half then 0 else t (owner v p) 4

/-- The regression targets of truth box `m` against prior `q`. -/
def target (m : Fin 5 → EReal) (q : Fin 4 → EReal) : Fin 4 → EReal :=
  ![Ideal.div ((m 0 + m 2) * half - q 0) (Ideal.ofBits .f32 0x3DCCCCCD#32 * q 2),
    Ideal.div ((m 1 + m 3) * half - q 1) (Ideal.ofBits .f32 0x3DCCCCCD#32 * q 3),
    Ideal.div (Ideal.log (Ideal.div (m 2 - m 0) (q 2))) (Ideal.ofBits .f32 0x3E4CCCCD#32),
    Ideal.div (Ideal.log (Ideal.div (m 3 - m 1) (q 3))) (Ideal.ofBits .f32 0x3E4CCCCD#32)]

/-- The smooth absolute value. -/
def smooth (d : EReal) : EReal :=
  if max d (-d) < 1 then half * d * d else max d (-d) - half

/-- The entry of a class vector that a class word names; zero if it names none. -/
def pick (x : Fin 21 → EReal) (w : BitVec 32) : EReal := ∑ c : Fin 21, if BitVec.ofNat 32 c.val = w then x c else 0

/-- The cross-entropy of class vector `x` at class word `w`, computed about the shift `s`. -/
def entropy (x : Fin 21 → EReal) (s : EReal) (w : BitVec 32) : EReal :=
  Ideal.log (∑ c, Ideal.exp (x c - s)) + s - pick x w

/-- About any two real shifts, of real entries, the cross-entropy is one real number. -/
theorem entropy_shift (x : Fin 21 → ℝ) (w : BitVec 32) : ∃ e : ℝ, ∀ s : ℝ, entropy (fun c => (x c : EReal)) s w = e := by
  have hp : ∃ g : ℝ, pick (fun c => (x c : EReal)) w = g :=
    ⟨∑ c : Fin 21, if BitVec.ofNat 32 c.val = w then x c else 0, by
      have h : ∀ c : Fin 21, (if BitVec.ofNat 32 c.val = w then (x c : EReal) else 0)
          = ((if BitVec.ofNat 32 c.val = w then x c else 0 : ℝ) : EReal) := fun c => by split_ifs <;> simp
      unfold pick; rw [Finset.sum_congr rfl fun c _ => h c, coe_sum]⟩
  obtain ⟨g, hg⟩ := hp
  refine ⟨Real.log (∑ c, Real.exp (x c)) - g, fun s => ?_⟩
  have h1 : ∀ c, Ideal.exp ((x c : EReal) - (s : EReal)) = ((Real.exp (x c - s) : ℝ) : EReal) := fun c => by
    rw [← EReal.coe_sub]; rfl
  have h2 : (∑ c, ((Real.exp (x c - s) : ℝ) : EReal)) = ((∑ c, Real.exp (x c - s) : ℝ) : EReal) := by push_cast; rfl
  have hpos : 0 < ∑ c, Real.exp (x c - s) := Finset.sum_pos (fun c _ => Real.exp_pos _) ⟨0, Finset.mem_univ _⟩
  have hsum : ∑ c, Real.exp (x c - s) = (∑ c, Real.exp (x c)) * Real.exp (-s) := by
    rw [Finset.sum_mul]; exact Finset.sum_congr rfl fun c _ => by rw [← Real.exp_add, sub_eq_add_neg]
  have hpos' : 0 < ∑ c, Real.exp (x c) := Finset.sum_pos (fun c _ => Real.exp_pos _) ⟨0, Finset.mem_univ _⟩
  have h3 : Ideal.log ((∑ c, Real.exp (x c - s) : ℝ) : EReal) = ((Real.log (∑ c, Real.exp (x c - s)) : ℝ) : EReal) := by
    show (if _ then _ else _) = _
    rw [if_neg (not_le.2 hpos)]
  unfold entropy
  rw [Finset.sum_congr rfl fun c _ => h1 c, h2, h3, hg, hsum, Real.log_mul hpos'.ne' (Real.exp_pos _).ne', Real.log_exp]
  rw [← EReal.coe_add, ← EReal.coe_sub]
  congr 1; ring

/-! ### Folds of words -/

/-- A signed minimum of words has the minimum of their integers. -/
theorem toInt_fold_minsi {ι : Type} (s : Finset ι) (b : BitVec 32) (f : ι → BitVec 32) :
    (s.fold IntOp.minsi b f).toInt = s.fold min b.toInt fun i => (f i).toInt :=
  (Finset.fold_hom (m := BitVec.toInt) (op := IntOp.minsi) (op' := min) fun x y => by
    simp only [IntOp.minsi, BitVec.slt, decide_eq_true_eq]; split_ifs <;> omega).symm

/-- A signed maximum of words has the maximum of their integers. -/
theorem toInt_fold_maxsi {ι : Type} (s : Finset ι) (b : BitVec 32) (f : ι → BitVec 32) :
    (s.fold IntOp.maxsi b f).toInt = s.fold max b.toInt fun i => (f i).toInt :=
  (Finset.fold_hom (m := BitVec.toInt) (op := IntOp.maxsi) (op' := max) fun x y => by
    simp only [IntOp.maxsi, BitVec.slt, decide_eq_true_eq]; split_ifs <;> omega).symm

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- The least of the indices at which `P` holds, `n` standing where it does not, is the first one. -/
theorem fold_first {n : ℕ} (hn : n < 2 ^ 31) (P : Fin n → Prop) [DecidablePred P] {k : Fin n} (hk : IsFirst P k) :
    Finset.univ.fold IntOp.minsi 2147483647#32 (fun j : Fin n => if P j then BitVec.ofNat 32 j.val else BitVec.ofNat 32 n)
      = BitVec.ofNat 32 k.val := by
  have hkn := k.isLt
  apply BitVec.eq_of_toInt_eq
  rw [toInt_fold_minsi, toInt_ofNat (n := k.val) (by omega)]
  apply le_antisymm
  · rw [Finset.fold_min_le]
    exact .inr ⟨k, Finset.mem_univ _, by rw [if_pos hk.1, toInt_ofNat (by omega)]⟩
  · rw [Finset.le_fold_min]
    refine ⟨?_, fun j _ => ?_⟩
    · have : (2147483647#32).toInt = 2147483647 := by decide
      rw [this]; omega
    · have hj := j.isLt
      split_ifs with h
      · rw [toInt_ofNat (by omega)]; exact_mod_cast hk.2 j h
      · rw [toInt_ofNat (by omega)]; omega

/-- The greatest of the indices at which `P` holds, minus one standing where it does not, is the last one. -/
theorem fold_last {n : ℕ} (hn : n < 2 ^ 31) (P : Fin n → Prop) [DecidablePred P] {k : Fin n} (hk : IsLast P k) :
    Finset.univ.fold IntOp.maxsi 2147483648#32 (fun j : Fin n => if P j then BitVec.ofNat 32 j.val else 4294967295#32)
      = BitVec.ofNat 32 k.val := by
  have hkn := k.isLt
  have hm : (4294967295#32).toInt = -1 := by decide
  apply BitVec.eq_of_toInt_eq
  rw [toInt_fold_maxsi, toInt_ofNat (n := k.val) (by omega)]
  apply le_antisymm
  · rw [Finset.fold_max_le]
    refine ⟨?_, fun j _ => ?_⟩
    · have : (2147483648#32).toInt = -2147483648 := by decide
      rw [this]; omega
    · have hj := j.isLt
      split_ifs with h
      · rw [toInt_ofNat (by omega)]; exact_mod_cast hk.2 j h
      · rw [hm]; omega
  · rw [Finset.le_fold_max]
    exact .inr ⟨k, Finset.mem_univ _, by rw [if_pos hk.1, toInt_ofNat (by omega)]⟩

/-- If `P` holds nowhere that fold is minus one. -/
theorem fold_last_none {n : ℕ} [NeZero n] (P : Fin n → Prop) [DecidablePred P] (h : ¬ ∃ j, P j) :
    Finset.univ.fold IntOp.maxsi 2147483648#32 (fun j : Fin n => if P j then BitVec.ofNat 32 j.val else 4294967295#32)
      = 4294967295#32 := by
  have hm : (4294967295#32).toInt = -1 := by decide
  have hb : (2147483648#32).toInt = -2147483648 := by decide
  push Not at h
  apply BitVec.eq_of_toInt_eq
  rw [toInt_fold_maxsi, hm, hb]
  apply le_antisymm
  · rw [Finset.fold_max_le]
    exact ⟨by omega, fun j _ => by rw [if_neg (h j), hm]⟩
  · rw [Finset.le_fold_max]
    exact .inr ⟨0, Finset.mem_univ _, by rw [if_neg (h 0), hm]⟩

/-- A one-hot row picks one value of a family. -/
theorem sum_pick {n : ℕ} (f : Fin n → EReal) (k : Fin n) : ∑ j, f j * (if j = k then (1 : EReal) else 0) = f k := by
  rw [Finset.sum_eq_single k]
  · rw [if_pos rfl, mul_one]
  · intro j _ hj; rw [if_neg hj, mul_zero]
  · intro h; exact absurd (Finset.mem_univ k) h

end Cert.Proof.Spec

end
-- ==== Proof.Loss.lean ====
/- The loss of a whole batch: every image's labels, regression loss and cross-entropies, from the batch's arrays. -/
module

public import proofs.«01_k».proof.Proof.Spec

@[expose] public section

noncomputable section

namespace Cert.Proof.Loss

open Idealize.ShloMosaic Cert.Proof.Spec

variable (t : Fin 32 → Fin 16 → Fin 5 → EReal) (q : Fin 8732 → Fin 4 → EReal) (l : Fin 32 → Fin 8732 → Fin 4 → EReal)
  (x : Fin 32 → Fin 8732 → Fin 21 → EReal)

/-- Image `b`'s overlaps. -/
def over (b : Fin 32) : Fin 16 → Fin 8732 → EReal := overlaps (t b) q

/-- The label of prior `p` of image `b`. -/
def lab (b : Fin 32) (p : Fin 8732) : EReal := label (t b) (over t q b) p

/-- The regression loss of prior `p` of image `b`. -/
def reg (b : Fin 32) (p : Fin 8732) : EReal :=
  ∑ k : Fin 4, smooth (l b p k - target (t b (owner (over t q b) p)) (q p) k)

/-- Image `b`'s regression loss, over its positive priors. -/
def regSum (b : Fin 32) : EReal := ∑ p : Fin 8732, if 0 < lab t q b p then reg t q l b p else 0

/-- The number of positive priors of image `b`. -/
def count (b : Fin 32) : ℕ := (Finset.univ.filter fun p => 0 < lab t q b p).card

/-- The cross-entropy of prior `p` of image `b` at its label, about its greatest entry. -/
def ent (b : Fin 32) (p : Fin 8732) : EReal :=
  entropy (x b p) (top (x b p)) (FloatOps.fptosi (F := Ideal) (φ := .f32) 32 (lab t q b p))

/-- The positive priors' cross-entropies of image `b`. -/
def posSum (b : Fin 32) : EReal := ∑ p : Fin 8732, if 0 < lab t q b p then ent t q x b p else 0

/-- The loss prior `p` of image `b` is mined by: zero if it is positive. -/
def mine (b : Fin 32) (p : Fin 8732) : EReal := if 0 < lab t q b p then 0 else ent t q x b p

theorem count_le (b : Fin 32) : count t q b ≤ 8732 := (Finset.card_le_univ _).trans (by simp)

end Cert.Proof.Loss
end
-- ==== Proof.RefOver.lean ====
/- What the reference's overlaps are at an index. -/
module

public import proofs.«01_k».proof.Proof.RefTerms
public import proofs.«01_k».proof.Proof.Loss
public import Idealize.ShloMosaic.Lib.Pointwise
public import Idealize.ShloMosaic.Lib.WordCmp
public import Idealize.ShloMosaic.Lib.Pipeline.Value

@[expose] public section

set_option maxRecDepth 16384

noncomputable section

namespace Cert.Proof.RefOver

open Idealize.ShloMosaic Idealize.ShloMosaic.WordCmp Cert.ReferenceIdeal Cert.ReferenceIdeal.Gen Cert.Proof.Spec Cert.Proof.Ref

variable (V0 : Valuation τ sig (Elt Ideal))

/-- Image `b`'s truths, as the reference's argument holds them. -/
def t (b : Fin 32) (o : Fin 16) (k : Fin 5) : EReal := V0 (Proc.devRef .tc main_arg3) (ix3 b o k)

/-- The priors, as the reference's argument holds them. -/
def q (p : Fin 8732) (k : Fin 4) : EReal := V0 (Proc.devRef .tc main_arg2) (ix2 p k)

theorem box_at (b : Fin 32) (o : Fin 16) (k : Fin 4) : res_main_v0 V0 (ix3 b o k) = t V0 b o ⟨k.val, by omega⟩ := by
  pointwise [res_main_v0, t]

theorem lo_at (p : Fin 8732) : res_main_v13 V0 (ix2 p 0) = q V0 p 0 - q V0 p 2 * half
    ∧ res_main_v13 V0 (ix2 p 1) = q V0 p 1 - q V0 p 3 * half := by
  refine ⟨?_, ?_⟩ <;> (pointwise [res_main_v13, q]; simp [div_two])

theorem hi_at (p : Fin 8732) : res_main_v13 V0 (ix2 p 2) = q V0 p 0 + q V0 p 2 * half
    ∧ res_main_v13 V0 (ix2 p 3) = q V0 p 1 + q V0 p 3 * half := by
  refine ⟨?_, ?_⟩ <;> (pointwise [res_main_v13, q]; simp [div_two])

/-- The lengths a truth box and a prior share on the two axes. -/
theorem shared_at (b : Fin 32) (o : Fin 16) (p : Fin 8732) :
    res_main_v32 V0 (ix4 b o p 0) = shared (t V0 b o 0) (t V0 b o 2) (q V0 p 0) (q V0 p 2)
    ∧ res_main_v32 V0 (ix4 b o p 1) = shared (t V0 b o 1) (t V0 b o 3) (q V0 p 1) (q V0 p 3) := by
  have l := lo_at V0 p
  have h := hi_at V0 p
  refine ⟨?_, ?_⟩
  · pointwise [res_main_v32]
    rw [l.1, h.1]
    pointwise [res_main_v0, t, shared]
  · pointwise [res_main_v32]
    rw [l.2, h.2]
    pointwise [res_main_v0, t, shared]

theorem inter_at (b : Fin 32) (o : Fin 16) (p : Fin 8732) :
    res_main_v37 V0 (ix3 b o p) = shared (t V0 b o 0) (t V0 b o 2) (q V0 p 0) (q V0 p 2) * shared (t V0 b o 1) (t V0 b o 3) (q V0 p 1) (q V0 p 3) := by
  have h := shared_at V0 b o p
  rw [← h.1, ← h.2]
  pointwise [res_main_v37]

/-- The reference's overlaps. -/
theorem over_at (b : Fin 32) (o : Fin 16) (p : Fin 8732) : res_main_v67 V0 (ix3 b o p) = Loss.over (t V0) (q V0) b o p := by
  have l := lo_at V0 p
  have h := hi_at V0 p
  pointwise [res_main_v67]
  rw [l.1, l.2, h.1, h.2, inter_at]
  pointwise [res_main_v0, Loss.over, overlaps, iou, t]

end Cert.Proof.RefOver
end
-- ==== Proof.RefArg.lean ====
/- What the reference's two arg-max reductions are: the first prior of a truth's greatest overlap, the first truth of a
   prior's. -/
module

public import proofs.«01_k».proof.Proof.RefOver

@[expose] public section

set_option maxRecDepth 16384

noncomputable section

namespace Cert.Proof.RefArg

open Idealize.ShloMosaic Idealize.ShloMosaic.WordCmp Cert.ReferenceIdeal Cert.ReferenceIdeal.Gen Cert.Proof.Spec Cert.Proof.Ref Cert.Proof.RefOver

/-- Pair `r` is at least pair `p`: of greater value, or of the same value and no later index. -/
def Beats (r p : EReal × BitVec 32) : Prop := p.1 < r.1 ∨ p.1 = r.1 ∧ r.2.toInt ≤ p.2.toInt

theorem Beats.refl (p : EReal × BitVec 32) : Beats p p := .inr ⟨rfl, le_rfl⟩

theorem Beats.trans {a b c : EReal × BitVec 32} (h : Beats a b) (h' : Beats b c) : Beats a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- The reducer of an arg-max gives back one of its two pairs, which is at least both. -/
theorem reducer_spec (a b : EReal × BitVec 32) : (reducer_argmax_f32_i32 (F := Ideal) a b = a ∨ reducer_argmax_f32_i32 (F := Ideal) a b = b)
    ∧ Beats (reducer_argmax_f32_i32 (F := Ideal) a b) a ∧ Beats (reducer_argmax_f32_i32 (F := Ideal) a b) b := by
  obtain ⟨x, i⟩ := a
  obtain ⟨y, j⟩ := b
  have hr : reducer_argmax_f32_i32 (F := Ideal) (x, i) (y, j)
      = (if y < x then x else y, if y < x ∨ x = y ∧ i.toInt < j.toInt then i else j) := by
    simp only [reducer_argmax_f32_i32, Ideal.cmpf_def, Ideal.cmp, IntOp.cmpi, IntOp.ori, IntOp.andi, BitVec.slt]
    by_cases h1 : y < x <;> by_cases h2 : x = y <;> by_cases h3 : i.toInt < j.toInt <;> simp [h1, h2, h3, Scalar.select]
  rw [hr]
  unfold Beats
  rcases lt_trichotomy x y with h | h | h
  · have h1 : ¬ y < x := not_lt.2 h.le
    have h2 : x ≠ y := h.ne
    simp [h1, h2, h]
  · subst h
    by_cases h3 : i.toInt < j.toInt
    · simp [h3, h3.le]
    · simp [h3, not_lt.1 h3]
  · simp [h]

/-- A fold of the reducer gives back its start or one of the pairs, at least every one. -/
theorem fold_spec (l : List (EReal × BitVec 32)) : ∀ i : EReal × BitVec 32,
    (l.foldl (reducer_argmax_f32_i32 (F := Ideal)) i = i ∨ l.foldl (reducer_argmax_f32_i32 (F := Ideal)) i ∈ l)
    ∧ Beats (l.foldl (reducer_argmax_f32_i32 (F := Ideal)) i) i
    ∧ ∀ p ∈ l, Beats (l.foldl (reducer_argmax_f32_i32 (F := Ideal)) i) p := by
  induction l with
  | nil => exact fun i => ⟨.inl rfl, .refl i, fun p hp => absurd hp List.not_mem_nil⟩
  | cons a l ih =>
    intro i
    obtain ⟨h1, h2, h3⟩ := ih (reducer_argmax_f32_i32 (F := Ideal) i a)
    obtain ⟨g1, g2, g3⟩ := reducer_spec i a
    rw [List.foldl_cons]
    refine ⟨?_, h2.trans g2, fun p hp => ?_⟩
    · rcases h1 with h1 | h1
      · rw [h1]
        rcases g1 with g1 | g1
        · exact .inl g1
        · exact .inr (by rw [g1]; exact List.mem_cons_self)
      · exact .inr (List.mem_cons_of_mem _ h1)
    · rcases List.mem_cons.1 hp with rfl | hp
      · exact h2.trans g3
      · exact h3 p hp

/-- The fold over the pairs of a family's values and indices names the first index of its greatest value. -/
theorem fold_first {n : ℕ} [NeZero n] (hn : n < 2 ^ 31) (v : Fin n → EReal) (l : List (EReal × BitVec 32))
    (hl : ∀ p, p ∈ l ↔ ∃ k : Fin n, p = (v k, BitVec.ofNat 32 k.val)) :
    ∃ k : Fin n, (l.foldl (reducer_argmax_f32_i32 (F := Ideal)) (⊥, 0#32)).2 = BitVec.ofNat 32 k.val ∧ IsFirst (fun k => v k = top v) k := by
  obtain ⟨h1, -, h3⟩ := fold_spec l (⊥, 0#32)
  generalize l.foldl (reducer_argmax_f32_i32 (F := Ideal)) (⊥, 0#32) = r at *
  have hm : r ∈ l := by
    rcases h1 with rfl | h1
    · have h0 := h3 _ ((hl _).2 ⟨0, rfl⟩)
      refine (hl _).2 ⟨0, ?_⟩
      rcases h0 with h0 | ⟨h0, -⟩
      · exact absurd h0 not_lt_bot
      · rw [Prod.mk.injEq]; exact ⟨h0.symm, rfl⟩
    · exact h1
  obtain ⟨k, rfl⟩ := (hl _).1 hm
  refine ⟨k, rfl, (eq_top_iff v k).2 fun j => ?_, fun j hj => ?_⟩
  · rcases h3 _ ((hl _).2 ⟨j, rfl⟩) with h | ⟨h, -⟩
    · exact h.le
    · exact h.le
  · rcases h3 _ ((hl _).2 ⟨j, rfl⟩) with h | ⟨-, h⟩
    · exact absurd (hj ▸ Spec.le_top v k) (not_le.2 h)
    · have := k.isLt
      have := j.isLt
      simp only [toInt_ofNat (n := k.val) (by omega), toInt_ofNat (n := j.val) (by omega)] at h
      exact Fin.le_def.2 (by omega)

/-- An arg-max reduction at an index whose fiber lists a family's values with their positions. -/
theorem argReduce_first {s t u : Shape} {axes : List (Fin s.rank)} (x : FVec Ideal s .f32) (y : s.Idx → BitVec 32) (ix : u.Idx → EReal)
    (iy : u.Idx → BitVec 32) (h : s.ReducesTo axes t) (hu : 0 < u.numel) (j : t.Idx) {n : ℕ} [NeZero n] (hn : n < 2 ^ 31)
    (v : Fin n → EReal) (g : Fin n → s.Idx) (hg : ∀ i, h.drop i = j ↔ ∃ k, g k = i) (hx : ∀ k, x (g k) = v k)
    (hy : ∀ k, y (g k) = BitVec.ofNat 32 k.val) (hix : ix (Shape.Idx.first hu) = ⊥) (hiy : iy (Shape.Idx.first hu) = 0#32) :
    ∃ k : Fin n, (Host.argReduce (F := Ideal) (reducer_argmax_f32_i32 (F := Ideal)) x y ix iy h hu j).2 = BitVec.ofNat 32 k.val
      ∧ IsFirst (fun k => v k = top v) k := by
  rw [Ideal.argReduce_eq_reduce2, Host.reduce2_eq_foldl_fiber, hix, hiy]
  refine fold_first hn v _ fun pr => ?_
  simp only [Host.argReduceFiber, List.mem_map, List.mem_filter, List.mem_finRange, true_and, decide_eq_true_eq]
  constructor
  · rintro ⟨m, hm, rfl⟩
    obtain ⟨k, hk⟩ := (hg _).1 hm
    exact ⟨k, by rw [← hk, hx, hy]⟩
  · rintro ⟨k, rfl⟩
    refine ⟨s.rowMajor (g k), ?_, ?_⟩
    · rw [Equiv.symm_apply_apply]; exact (hg _).2 ⟨k, rfl⟩
    · rw [Equiv.symm_apply_apply, hx, hy]

variable (V0 : Valuation τ sig (Elt Ideal))

theorem best_eq : res_main_v69 V0 = fun j => (Host.argReduce reducer_argmax_f32_i32 (res_main_v67 V0) (res_main_call0_v0 V0)
    (res_main_call0_cst V0) (res_main_call0_c V0) reducesTo_S32x16x8732_S32x16_d2 h_S_ j).2 := rfl

/-- The arg-max over the priors names the best prior of a truth. -/
theorem best_at (b : Fin 32) (o : Fin 16) :
    ∃ p, res_main_v69 V0 (ix2 b o) = BitVec.ofNat 32 p.val ∧ Best (Loss.over (t V0) (q V0) b) o p := by
  obtain ⟨k, hk, hf⟩ := argReduce_first (res_main_v67 V0) (res_main_call0_v0 V0) (res_main_call0_cst V0) (res_main_call0_c V0)
    reducesTo_S32x16x8732_S32x16_d2 h_S_ (ix2 b o) (by decide) (Loss.over (t V0) (q V0) b o) (fun k => ix3 b o k)
    (fun i => Shape.ReducesTo.fiber_r3_a2 reducesTo_S32x16x8732_S32x16_d2 (ix2 b o) i) (fun k => over_at V0 b o k)
    (fun k => by unfold res_main_call0_v0; pointwise) (by unfold res_main_call0_cst; exact negInf_eq) (by unfold res_main_call0_c; rfl)
  exact ⟨k, (congrFun (best_eq V0) (ix2 b o)).trans hk, hf⟩

/-- The arg-max over the truths names the first truth of a prior's greatest overlap. -/
theorem owner_at (b : Fin 32) (p : Fin 8732) :
    ∃ o, (Host.argReduce (F := Ideal) (reducer_argmax_f32_i32 (F := Ideal)) (res_main_v67 V0) (res_main_call1_v0 V0) (res_main_call1_cst V0)
        (res_main_call1_c V0) reducesTo_S32x16x8732_S32x8732_d1 h_S_ (ix2 b p)).2 = BitVec.ofNat 32 o.val
      ∧ IsFirst (fun o => Loss.over (t V0) (q V0) b o p = colTop (Loss.over (t V0) (q V0) b) p) o := by
  unfold res_main_call1_v0 res_main_call1_cst res_main_call1_c
  have hx : ∀ k : Fin 16, res_main_v67 V0 (ix3 b k p) = Loss.over (t V0) (q V0) b k p := fun k => over_at V0 b k p
  generalize res_main_v67 V0 = x at hx ⊢
  generalize Loss.over (t V0) (q V0) b = v at hx ⊢
  exact argReduce_first x _ _ _ reducesTo_S32x16x8732_S32x8732_d1 h_S_ (ix2 b p) (by decide) (fun k => v k p) (fun k => ix3 b k p)
    (fun i => Shape.ReducesTo.fiber_r3_a1 reducesTo_S32x16x8732_S32x8732_d1 (ix2 b p) i) hx (fun k => by pointwise) negInf_eq rfl

/-- The greatest overlap of a truth. -/
theorem rowTop_at (b : Fin 32) (o : Fin 16) :
    Host.reduce (FloatOps.maximumf (F := Ideal) (φ := .f32)) (res_main_v67 V0) (constant (F := Ideal) S_ .f32 0xFF800000#32)
      reducesTo_S32x16x8732_S32x16_d2 h_S_ (ix2 b o) = rowTop (Loss.over (t V0) (q V0) b) o := by
  rw [Host.reduce_eq_fold]
  refine (Shape.ReducesTo.fold_fiber_r3_a2 reducesTo_S32x16x8732_S32x16_d2 (ix2 b o) _ _ _).trans ?_
  unfold rowTop top
  rw [← funext (f := fun k => res_main_v67 V0 (ix3 b o k)) fun k => over_at V0 b o k, ← negInf_eq]
  rfl

/-- The greatest overlap of a prior. -/
theorem colTop_at (b : Fin 32) (p : Fin 8732) :
    Host.reduce (FloatOps.maximumf (F := Ideal) (φ := .f32)) (res_main_v67 V0) (constant (F := Ideal) S_ .f32 0xFF800000#32)
      reducesTo_S32x16x8732_S32x8732_d1 h_S_ (ix2 b p) = colTop (Loss.over (t V0) (q V0) b) p := by
  rw [Host.reduce_eq_fold]
  refine (Shape.ReducesTo.fold_fiber_r3_a1 reducesTo_S32x16x8732_S32x8732_d1 (ix2 b p) _ _ _).trans ?_
  unfold colTop top
  rw [← funext (f := fun k => res_main_v67 V0 (ix3 b k p)) fun k => over_at V0 b k p, ← negInf_eq]
  rfl

end Cert.Proof.RefArg
end
-- ==== Proof.RefPick.lean ====
/- The reference's gathers by a pair of index words and its scatters by one, the last update standing, at an index. -/
module

public import proofs.«01_k».proof.Proof.RefOver
public import Idealize.ShloMosaic.Lib.Routing.OpsSet

@[expose] public section

set_option maxRecDepth 16384

noncomputable section

namespace Cert.Proof.RefPick

open Idealize.ShloMosaic Idealize.ShloMosaic.WordCmp Cert.ReferenceIdeal Cert.ReferenceIdeal.Gen Cert.Proof.Spec

/-- A fold that takes an update wherever it lands ends at the last one's, at its start if none lands. -/
theorem foldl_last {α : Type} : ∀ {N : ℕ} (P : Fin N → Prop) [DecidablePred P] (g : Fin N → α) (a : α),
    (∀ n, IsLast P n → (List.finRange N).foldl (fun a n => if P n then g n else a) a = g n)
    ∧ ((¬ ∃ n, P n) → (List.finRange N).foldl (fun a n => if P n then g n else a) a = a)
  | 0, P, _, g, a => ⟨fun n => n.elim0, fun _ => rfl⟩
  | N + 1, P, _, g, a => by
    obtain ⟨h1, h2⟩ := foldl_last (fun n : Fin N => P n.castSucc) (fun n => g n.castSucc) a
    rw [List.finRange_succ_last, List.foldl_append, List.foldl_map]
    refine ⟨fun n hn => ?_, fun hn => ?_⟩
    · show (if P (Fin.last N) then _ else _) = _
      by_cases hl : P (Fin.last N)
      · rw [if_pos hl, le_antisymm (Fin.le_last n) (hn.2 _ hl)]
      · rw [if_neg hl]
        obtain ⟨m, rfl⟩ : ∃ m : Fin N, m.castSucc = n := ⟨n.castPred (fun h => hl (h ▸ hn.1)), by simp⟩
        exact h1 m ⟨hn.1, fun j hj => by simpa using hn.2 _ hj⟩
    · show (if P (Fin.last N) then _ else _) = _
      rw [if_neg fun h => hn ⟨_, h⟩]
      exact h2 fun ⟨m, hm⟩ => hn ⟨_, hm⟩

/-- The scatter of one word per truth of every image, the last of an entry's updates standing. -/
theorem scatter_last {α : Type} (x0 : S32x8732.Idx → α) (idx : IVec S32x16x2 32) (upd : S32x16.Idx → α) (g : Fin 32 → Fin 16 → Fin 8732)
    (h0 : ∀ b o, idx (ix3 b o 0) = BitVec.ofNat 32 b.val) (h1 : ∀ b o, idx (ix3 b o 1) = BitVec.ofNat 32 (g b o).val)
    (b : Fin 32) (p : Fin 8732) :
    (∀ o, IsLast (fun o => g b o = p) o →
      Host.scatter scatter_S32x8732_S32x16x2_S32x16_n_01_01_2 (fun _ b => b) x0 idx upd (ix2 b p) = upd (ix2 b o))
    ∧ ((¬ ∃ o, g b o = p) → Host.scatter scatter_S32x8732_S32x16x2_S32x16_n_01_01_2 (fun _ b => b) x0 idx upd (ix2 b p) = x0 (ix2 b p)) := by
  classical
  have hland : ∀ (b' : Fin 32) (o : Fin 16), scatter_S32x8732_S32x16x2_S32x16_n_01_01_2.resultIdx? (ix2 b' o) idx = some (ix2 b p)
      ↔ b' = b ∧ g b' o = p := fun b' o => by
    have hb := b'.isLt
    have hg := (g b' o).isLt
    refine (Routing.scatter_lands2 (R := 32) (C := 8732) (A := 32) (B := 16) scatter_S32x8732_S32x16x2_S32x16_n_01_01_2 rfl rfl rfl idx b' o b p).trans ?_
    have e0 := h0 b' o
    have e1 := h1 b' o
    rw [← BitVec.toInt_inj, toInt_ofNat (n := b'.val) (by omega)] at e0
    rw [← BitVec.toInt_inj, toInt_ofNat (n := (g b' o).val) (by omega)] at e1
    rw [Fin.ext_iff, Fin.ext_iff]
    constructor
    · rintro ⟨x, y⟩
      have x' := e0.symm.trans x
      have y' := e1.symm.trans y
      exact ⟨by exact_mod_cast x', by exact_mod_cast y'⟩
    · rintro ⟨x, y⟩
      exact ⟨e0.trans (by exact_mod_cast x), e1.trans (by exact_mod_cast y)⟩
  have hsym : ∀ n : Fin S32x16.numel, ∃ (b' : Fin 32) (o : Fin 16), S32x16.rowMajor.symm n = ix2 b' o ∧ n.val = b'.val * 16 + o.val := fun n => by
    have hn : n.val < 512 := n.isLt
    exact ⟨⟨n.val / 16, by omega⟩, ⟨n.val % 16, by omega⟩, Routing.symm22 (A := 32) (B := 16) n (by omega) (by omega),
      by show n.val = n.val / 16 * 16 + n.val % 16; omega⟩
  have hsym' : ∀ (o : Fin 16), ∃ n : Fin S32x16.numel, S32x16.rowMajor.symm n = ix2 b o := fun o =>
    ⟨S32x16.rowMajor (ix2 b o), Equiv.symm_apply_apply _ _⟩
  have key := foldl_last (fun n : Fin S32x16.numel => scatter_S32x8732_S32x16x2_S32x16_n_01_01_2.resultIdx? (S32x16.rowMajor.symm n) idx = some (ix2 b p))
    (fun n => upd (S32x16.rowMajor.symm n)) (x0 (ix2 b p))
  rw [Routing.scatter_at]
  refine ⟨fun o ho => ?_, fun hn => ?_⟩
  · obtain ⟨n, hn⟩ := hsym' o
    refine (key.1 n ⟨?_, fun m hm => ?_⟩).trans (congrArg upd hn)
    · show _ = _
      rw [hn]
      exact (hland b o).2 ⟨rfl, ho.1⟩
    · obtain ⟨b1, o1, e1, v1⟩ := hsym m
      obtain ⟨b2, o2, e2, v2⟩ := hsym n
      have hm' : scatter_S32x8732_S32x16x2_S32x16_n_01_01_2.resultIdx? (S32x16.rowMajor.symm m) idx = some (ix2 b p) := hm
      rw [e1] at hm'
      obtain ⟨rfl, hg⟩ := (hland b1 o1).1 hm'
      have hb : b2 = b1 := congrFun (e2.symm.trans hn) 0
      have ho2 : o2 = o := congrFun (e2.symm.trans hn) 1
      have := Fin.le_def.1 (ho.2 o1 hg)
      subst hb ho2
      exact Fin.le_def.2 (by omega)
  · refine key.2 ?_
    rintro ⟨m, hm⟩
    obtain ⟨b1, o1, e1, v1⟩ := hsym m
    have hm' : scatter_S32x8732_S32x16x2_S32x16_n_01_01_2.resultIdx? (S32x16.rowMajor.symm m) idx = some (ix2 b p) := hm
    rw [e1] at hm'
    obtain ⟨rfl, hg⟩ := (hland b1 o1).1 hm'
    exact hn ⟨o1, hg⟩

/-- The gather of one number by an image's and a truth's word. -/
theorem gather_number {α : Type} (x : S32x16.Idx → α) (idx : IVec S32x8732x2 32) (b : Fin 32) (p : Fin 8732) (o : Fin 16)
    (h0 : idx (ix3 b p 0) = BitVec.ofNat 32 b.val) (h1 : idx (ix3 b p 1) = BitVec.ofNat 32 o.val) :
    Host.gather gather_S32x16_S32x8732x2_S32x8732_n_01_n_n_01_2_11 x idx (ix2 b p) = x (ix2 b o) := by
  have hb := b.isLt
  have ho := o.isLt
  unfold Host.gather
  refine congrArg x (funext fun a => Fin.ext ?_)
  match a with
  | ⟨0, _⟩ =>
    show min (idx (gather_S32x16_S32x8732x2_S32x8732_n_01_n_n_01_2_11.siIdx (ix2 b p) ⟨0, by decide⟩)).toInt.toNat (32 - 1) + 0 + 0 = b.val
    have hs : gather_S32x16_S32x8732x2_S32x8732_n_01_n_n_01_2_11.siIdx (ix2 b p) ⟨0, by decide⟩ = ix3 b p 0 := by
      funext a; match a with | ⟨0, _⟩ => rfl | ⟨1, _⟩ => rfl | ⟨2, _⟩ => rfl
    rw [hs, h0, toInt_ofNat (n := b.val) (by omega)]
    omega
  | ⟨1, _⟩ =>
    show min (idx (gather_S32x16_S32x8732x2_S32x8732_n_01_n_n_01_2_11.siIdx (ix2 b p) ⟨1, by decide⟩)).toInt.toNat (16 - 1) + 0 + 0 = o.val
    have hs : gather_S32x16_S32x8732x2_S32x8732_n_01_n_n_01_2_11.siIdx (ix2 b p) ⟨1, by decide⟩ = ix3 b p 1 := by
      funext a; match a with | ⟨0, _⟩ => rfl | ⟨1, _⟩ => rfl | ⟨2, _⟩ => rfl
    rw [hs, h1, toInt_ofNat (n := o.val) (by omega)]
    omega

/-- The gather of a box by an image's and a truth's word. -/
theorem gather_box {α : Type} (x : S32x16x4.Idx → α) (idx : IVec S32x8732x2 32) (b : Fin 32) (p : Fin 8732) (k : Fin 4) (o : Fin 16)
    (h0 : idx (ix3 b p 0) = BitVec.ofNat 32 b.val) (h1 : idx (ix3 b p 1) = BitVec.ofNat 32 o.val) :
    Host.gather gather_S32x16x4_S32x8732x2_S32x8732x4_2_01_n_n_01_2_114 x idx (ix3 b p k) = x (ix3 b o k) := by
  have hb := b.isLt
  have ho := o.isLt
  unfold Host.gather
  refine congrArg x (funext fun a => Fin.ext ?_)
  match a with
  | ⟨0, _⟩ =>
    show min (idx (gather_S32x16x4_S32x8732x2_S32x8732x4_2_01_n_n_01_2_114.siIdx (ix3 b p k) ⟨0, by decide⟩)).toInt.toNat (32 - 1) + 0 + 0 = b.val
    have hs : gather_S32x16x4_S32x8732x2_S32x8732x4_2_01_n_n_01_2_114.siIdx (ix3 b p k) ⟨0, by decide⟩ = ix3 b p 0 := by
      funext a; match a with | ⟨0, _⟩ => rfl | ⟨1, _⟩ => rfl | ⟨2, _⟩ => rfl
    rw [hs, h0, toInt_ofNat (n := b.val) (by omega)]
    omega
  | ⟨1, _⟩ =>
    show min (idx (gather_S32x16x4_S32x8732x2_S32x8732x4_2_01_n_n_01_2_114.siIdx (ix3 b p k) ⟨1, by decide⟩)).toInt.toNat (16 - 1) + 0 + 0 = o.val
    have hs : gather_S32x16x4_S32x8732x2_S32x8732x4_2_01_n_n_01_2_114.siIdx (ix3 b p k) ⟨1, by decide⟩ = ix3 b p 1 := by
      funext a; match a with | ⟨0, _⟩ => rfl | ⟨1, _⟩ => rfl | ⟨2, _⟩ => rfl
    rw [hs, h1, toInt_ofNat (n := o.val) (by omega)]
    omega
  | ⟨2, _⟩ =>
    show 0 + 0 + k.val = k.val
    omega

end Cert.Proof.RefPick
end
-- ==== Proof.RefMatch.lean ====
/- What the reference's match is at an index: the owner, the quality and the label of a prior, and its regression targets. -/
module

public import proofs.«01_k».proof.Proof.RefArg
public import proofs.«01_k».proof.Proof.RefPick

@[expose] public section

set_option maxRecDepth 16384

noncomputable section

namespace Cert.Proof.RefMatch

open Idealize.ShloMosaic Idealize.ShloMosaic.WordCmp Cert.ReferenceIdeal Cert.ReferenceIdeal.Gen Cert.Proof.Spec Cert.Proof.Ref Cert.Proof.RefOver
  Cert.Proof.RefArg Cert.Proof.RefPick

variable (V0 : Valuation τ sig (Elt Ideal))

/-- A word that is not negative is left by the wrap of an index. -/
theorem wrap {n : ℕ} (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

theorem batch_at (b : Fin 32) : res_main_v73 V0 (ix2 b 0) = BitVec.ofNat 32 b.val := by
  pointwise [res_main_v73]

/-- The words of the two scatters: the image's and its truth's best prior's. -/
def bestIdx : IVec S32x16x2 32 :=
  concatenate S32x16x2 2 [⟨S32x16x1, (broadcastInDim S32x16x1 ![0, 1] bcast_S32x16_S32x16x1_0_1 (broadcastInDim S32x16 ![0, 1] bcast_S32x1_S32x16_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x16x1, (broadcastInDim S32x16x1 ![0, 1] bcast_S32x16_S32x16x1_0_1 (select (cmpi .slt (res_main_v69 V0) (broadcastInDim S32x16 ![] bcast_S_S32x16 (constantI S_ 32 0#32))) (addi (res_main_v69 V0) (broadcastInDim S32x16 ![] bcast_S_S32x16 (constantI S_ 32 8732#32))) (res_main_v69 V0)))⟩] concatenates_S32x16x1_S32x16x1_S32x16x2_d2

/-- The words of the two gathers: the image's and the prior's truth's. -/
def ownIdx : IVec S32x8732x2 32 :=
  concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v73 V0) (broadcastInDim S32x1 ![] bcast_S_S32x1 (constantI S_ 32 0#32))) (addi (res_main_v73 V0) (broadcastInDim S32x1 ![] bcast_S_S32x1 (constantI S_ 32 32#32))) (res_main_v73 V0))))⟩, ⟨S32x8732x1, (broadcastInDim S32x8732x1 ![0, 1] bcast_S32x8732_S32x8732x1_0_1 (select (cmpi .slt (res_main_v90 V0) (broadcastInDim S32x8732 ![] bcast_S_S32x8732 (constantI S_ 32 0#32))) (addi (res_main_v90 V0) (broadcastInDim S32x8732 ![] bcast_S_S32x8732 (constantI S_ 32 16#32))) (res_main_v90 V0)))⟩] concatenates_S32x8732x1_S32x8732x1_S32x8732x2_d2

/-- The best prior of a truth. -/
def bp (b : Fin 32) (o : Fin 16) : Fin 8732 := (best_at V0 b o).choose

theorem bp_word (b : Fin 32) (o : Fin 16) : res_main_v69 V0 (ix2 b o) = BitVec.ofNat 32 (bp V0 b o).val := (best_at V0 b o).choose_spec.1

theorem bp_iff (b : Fin 32) (o : Fin 16) (p : Fin 8732) : bp V0 b o = p ↔ Best (Loss.over (t V0) (q V0) b) o p :=
  ⟨fun h => h ▸ (best_at V0 b o).choose_spec.2, fun h => (best_at V0 b o).choose_spec.2.unique h⟩

theorem bestIdx_at (b : Fin 32) (o : Fin 16) : bestIdx V0 (ix3 b o 0) = BitVec.ofNat 32 b.val
    ∧ bestIdx V0 (ix3 b o 1) = BitVec.ofNat 32 (bp V0 b o).val := by
  have hb := b.isLt
  have hp := (bp V0 b o).isLt
  have e0 := batch_at V0 b
  have e1 := bp_word V0 b o
  unfold bestIdx
  generalize bp V0 b o = g at e1 hp ⊢
  generalize res_main_v69 V0 = x at e1 ⊢
  generalize res_main_v73 V0 = y at e0 ⊢
  refine ⟨?_, ?_⟩
  · pointwise
    rw [e0, wrap (by omega)]
  · pointwise
    rw [e1, wrap (by omega)]

theorem owner_eq : res_main_v90 V0 = Host.scatter scatter_S32x8732_S32x16x2_S32x16_n_01_01_2 (fun _ b => b)
    (fun j => (Host.argReduce reducer_argmax_f32_i32 (res_main_v67 V0) (res_main_call1_v0 V0) (res_main_call1_cst V0) (res_main_call1_c V0)
      reducesTo_S32x16x8732_S32x8732_d1 h_S_ j).2) (bestIdx V0) (broadcastInDim S32x16 ![1] bcast_S16_S32x16_1 (iotaInDim S16 32 0)) := rfl

/-- The forced entries of a scatter by best prior, and the others. -/
theorem scatter_best {α : Type} (x0 : S32x8732.Idx → α) (upd : S32x16.Idx → α) (b : Fin 32) (p : Fin 8732) :
    (Forced (Loss.over (t V0) (q V0) b) p →
      Host.scatter scatter_S32x8732_S32x16x2_S32x16_n_01_01_2 (fun _ b => b) x0 (bestIdx V0) upd (ix2 b p)
        = upd (ix2 b (owner (Loss.over (t V0) (q V0) b) p)))
    ∧ (¬ Forced (Loss.over (t V0) (q V0) b) p →
      Host.scatter scatter_S32x8732_S32x16x2_S32x16_n_01_01_2 (fun _ b => b) x0 (bestIdx V0) upd (ix2 b p) = x0 (ix2 b p)) := by
  have h := scatter_last x0 (bestIdx V0) upd (bp V0) (fun b o => (bestIdx_at V0 b o).1) (fun b o => (bestIdx_at V0 b o).2) b p
  refine ⟨fun hf => h.1 _ ?_, fun hf => h.2 fun ⟨o, ho⟩ => hf ⟨o, (bp_iff V0 b o p).1 ho⟩⟩
  rcases owner_owns (Loss.over (t V0) (q V0) b) p with ho | ⟨hn, -⟩
  · exact ⟨(bp_iff V0 b _ p).2 ho.1, fun o hj => ho.2 o ((bp_iff V0 b o p).1 hj)⟩
  · exact absurd hf hn

/-- The word of the truth a prior is matched to. -/
theorem owner_word (b : Fin 32) (p : Fin 8732) : res_main_v90 V0 (ix2 b p) = BitVec.ofNat 32 (owner (Loss.over (t V0) (q V0) b) p).val := by
  have hs := scatter_best V0 (fun j => (Host.argReduce reducer_argmax_f32_i32 (res_main_v67 V0) (res_main_call1_v0 V0) (res_main_call1_cst V0)
    (res_main_call1_c V0) reducesTo_S32x16x8732_S32x8732_d1 h_S_ j).2) (broadcastInDim S32x16 ![1] bcast_S16_S32x16_1 (iotaInDim S16 32 0)) b p
  refine (congrFun (owner_eq V0) (ix2 b p)).trans ?_
  by_cases hf : Forced (Loss.over (t V0) (q V0) b) p
  · refine (hs.1 hf).trans ?_
    generalize owner (Loss.over (t V0) (q V0) b) p = o
    pointwise
  · refine (hs.2 hf).trans ?_
    obtain ⟨o, ho, hf'⟩ := owner_at V0 b p
    rw [← Owns.eq_owner _ (.inr ⟨hf, hf'⟩)]
    exact ho

theorem ownIdx_at (b : Fin 32) (p : Fin 8732) : ownIdx V0 (ix3 b p 0) = BitVec.ofNat 32 b.val
    ∧ ownIdx V0 (ix3 b p 1) = BitVec.ofNat 32 (owner (Loss.over (t V0) (q V0) b) p).val := by
  have hb := b.isLt
  have hp := (owner (Loss.over (t V0) (q V0) b) p).isLt
  have e0 := batch_at V0 b
  have e1 := owner_word V0 b p
  unfold ownIdx
  generalize owner (Loss.over (t V0) (q V0) b) p = g at e1 hp ⊢
  generalize res_main_v90 V0 = x at e1 ⊢
  generalize res_main_v73 V0 = y at e0 ⊢
  refine ⟨?_, ?_⟩
  · pointwise
    rw [e0, wrap (by omega)]
  · pointwise
    rw [e1, wrap (by omega)]

/-- The overlaps the matches are judged by. -/
def qual : FVec Ideal S32x8732 .f32 :=
  Host.scatter scatter_S32x8732_S32x16x2_S32x16_n_01_01_2 (fun _ b => b) (Host.reduce (FloatOps.maximumf (F := Ideal) (φ := .f32)) (res_main_v67 V0) (constant (F := Ideal) S_ .f32 0xFF800000#32) reducesTo_S32x16x8732_S32x8732_d1 h_S_) (bestIdx V0)
    (Host.reduce (FloatOps.maximumf (F := Ideal) (φ := .f32)) (res_main_v67 V0) (constant (F := Ideal) S_ .f32 0xFF800000#32) reducesTo_S32x16x8732_S32x16_d2 h_S_)

theorem qual_at (b : Fin 32) (p : Fin 8732) : qual V0 (ix2 b p) = quality (Loss.over (t V0) (q V0) b) p := by
  classical
  unfold qual quality
  by_cases hf : Forced (Loss.over (t V0) (q V0) b) p
  · rw [(scatter_best V0 _ _ b p).1 hf, rowTop_at, if_pos hf]
  · rw [(scatter_best V0 _ _ b p).2 hf, colTop_at, if_neg hf]

theorem label_eq : res_main_v165 V0 = fptosi 32 (select (cmpf .olt (qual V0) (broadcastInDim S32x8732 ![] bcast_S_S32x8732 (constant (F := Ideal) S_ .f32 0x3F000000#32)))
    (broadcastInDim S32x8732 ![] bcast_S_S32x8732 (id (constant (F := Ideal) S_ .f32 0x00000000#32)))
    (Host.gather gather_S32x16_S32x8732x2_S32x8732_n_01_n_n_01_2_11 (shapeCast S32x16 (extractStridedSlice S32x16x1 ![0, 0, 4]
      (V0 (Proc.devRef .tc main_arg3)) slices_S32x16x5_S32x16x1_0_0_4) shapeCasts_S32x16x1_S32x16) (ownIdx V0))) := rfl

/-- A label cut where its quality is low, at an index. -/
theorem cut_at (x y : FVec Ideal S32x8732 .f32) (b : Fin 32) (p : Fin 8732) :
    select (cmpf .olt x (broadcastInDim S32x8732 ![] bcast_S_S32x8732 (constant (F := Ideal) S_ .f32 0x3F000000#32)))
      (broadcastInDim S32x8732 ![] bcast_S_S32x8732 (id (constant (F := Ideal) S_ .f32 0x00000000#32))) y (ix2 b p)
      = if x (ix2 b p) < half then (0 : EReal) else y (ix2 b p) := by
  simp only [id_eq]
  pointwise [half]

theorem number_at (x : FVec Ideal S32x16x5 .f32) (b : Fin 32) (o : Fin 16) :
    shapeCast S32x16 (extractStridedSlice S32x16x1 ![0, 0, 4] x slices_S32x16x5_S32x16x1_0_0_4) shapeCasts_S32x16x1_S32x16 (ix2 b o)
      = x (ix3 b o 4) := by
  pointwise

/-- The class word of a prior. -/
theorem label_at (b : Fin 32) (p : Fin 8732) :
    res_main_v165 V0 (ix2 b p) = FloatOps.fptosi (F := Ideal) (φ := .f32) 32 (Loss.lab (t V0) (q V0) b p) := by
  have hg := gather_number (shapeCast S32x16 (extractStridedSlice S32x16x1 ![0, 0, 4] (V0 (Proc.devRef .tc main_arg3))
    slices_S32x16x5_S32x16x1_0_0_4) shapeCasts_S32x16x1_S32x16) (ownIdx V0) b p _ (ownIdx_at V0 b p).1 (ownIdx_at V0 b p).2
  refine (congrFun (label_eq V0) (ix2 b p)).trans (congrArg (FloatOps.fptosi (F := Ideal) (φ := .f32) 32) ((cut_at _ _ b p).trans ?_))
  unfold Loss.lab label
  rw [qual_at]
  exact congrArg _ (hg.trans (number_at _ b _))

/-- The truth box a prior is matched to. -/
theorem mbox_at (b : Fin 32) (p : Fin 8732) (k : Fin 4) :
    res_main_v120 V0 (ix3 b p k) = t V0 b (owner (Loss.over (t V0) (q V0) b) p) ⟨k.val, by omega⟩ :=
  (gather_box (res_main_v0 V0) (ownIdx V0) b p k _ (ownIdx_at V0 b p).1 (ownIdx_at V0 b p).2).trans (box_at V0 b _ k)

end Cert.Proof.RefMatch
end
-- ==== Proof.RefLoc.lean ====
/- What the reference's regression loss and its positive mask are. -/
module

public import proofs.«01_k».proof.Proof.RefMatch

@[expose] public section

set_option maxRecDepth 16384

noncomputable section

namespace Cert.Proof.RefLoc

open Idealize.ShloMosaic Idealize.ShloMosaic.WordCmp Cert.ReferenceIdeal Cert.ReferenceIdeal.Gen Cert.Proof.Spec Cert.Proof.Ref Cert.Proof.RefOver
  Cert.Proof.RefMatch

/-- A label that is zero or between one and twenty has a small class word, positive exactly if the label is. -/
theorem class_word (y : EReal) (h : y = 0 ∨ 1 ≤ y ∧ y ≤ ((20 : ℝ) : EReal)) :
    ∃ n : ℕ, n ≤ 20 ∧ FloatOps.fptosi (F := Ideal) (φ := .f32) 32 y = BitVec.ofNat 32 n ∧ (0 < n ↔ 0 < y) := by
  have key : ∀ r : ℝ, 0 ≤ r → r ≤ 20 → FloatOps.fptosi (F := Ideal) (φ := .f32) 32 (r : EReal) = BitVec.ofNat 32 ⌊r⌋₊ := fun r h0 h1 => by
    have hf : ⌊r⌋ ≤ 20 := Int.floor_le_iff.2 (by push_cast; linarith)
    have hn : (0 : ℤ) ≤ ⌊r⌋ := Int.floor_nonneg.2 h0
    show BitVec.ofInt 32 (Ideal.toIntClamped _ _ (r : EReal)) = _
    rw [Ideal.toIntClamped_coe, if_pos h0, ← Int.floor_toNat, min_eq_right (by norm_num; omega), max_eq_right (by norm_num; omega)]
    obtain ⟨k, hk⟩ := Int.eq_ofNat_of_zero_le hn
    rw [hk]; simp
  rcases h with rfl | ⟨h1, h2⟩
  · refine ⟨0, by omega, ?_, by simp⟩
    have := key 0 le_rfl (by norm_num)
    simpa using this
  · obtain ⟨r, rfl⟩ : ∃ r : ℝ, (r : EReal) = y := by
      induction y using EReal.rec with
      | bot => exact absurd h1 (by rw [le_bot_iff]; exact EReal.coe_ne_bot 1)
      | coe r => exact ⟨r, rfl⟩
      | top => exact absurd h2 (by simp)
    have h1' : (1 : ℝ) ≤ r := by exact_mod_cast h1
    have h2' : r ≤ 20 := by exact_mod_cast h2
    refine ⟨⌊r⌋₊, ?_, key r (by linarith) h2', ?_⟩
    · have := Nat.floor_le_floor h2'; simpa using this
    · have h3 : 0 < ⌊r⌋₊ := Nat.floor_pos.2 h1'
      have h4 : (0 : EReal) < (r : EReal) := by exact_mod_cast (by linarith : (0 : ℝ) < r)
      exact ⟨fun _ => h4, fun _ => h3⟩

variable (V0 : Valuation τ sig (Elt Ideal))

/-- Image `b`'s regression data, as the reference's argument holds them. -/
def l (b : Fin 32) (p : Fin 8732) (k : Fin 4) : EReal := V0 (Proc.devRef .tc main_arg0) (ix3 b p k)

theorem diff_at (b : Fin 32) (p : Fin 8732) (k : Fin 4) :
    res_main_v168 V0 (ix3 b p k) = l V0 b p k - target (t V0 b (owner (Loss.over (t V0) (q V0) b) p)) (q V0 p) k := by
  have hm := mbox_at V0 b p
  generalize owner (Loss.over (t V0) (q V0) b) p = o at hm ⊢
  unfold res_main_v168
  generalize res_main_v120 V0 = x at hm ⊢
  have h0 := hm 0
  have h1 := hm 1
  have h2 := hm 2
  have h3 := hm 3
  fin_cases k
  · pointwise [l, q, target]
    simp [h0, h2, div_two]
  · pointwise [l, q, target]
    simp [h1, h3, div_two]
  · pointwise [l, q, target]
    simp [h0, h2]
  · pointwise [l, q, target]
    simp [h1, h3]

/-- A sum over a whole array of three axes is the sum over its coordinates. -/
theorem sum3_at (x : FVec Ideal S32x8732x4 .f32) (j : S_.Idx) :
    Host.reduceAdd x (constant (F := Ideal) S_ .f32 0x00000000#32) reducesTo_S32x8732x4_S_d0_1_2 h_S_ j
      = ∑ b : Fin 32, ∑ p : Fin 8732, ∑ k : Fin 4, x (ix3 b p k) := by
  pointwise

/-- A sum over a whole array of two axes is the sum over its coordinates. -/
theorem sum2_at (x : FVec Ideal S32x8732 .f32) (j : S_.Idx) :
    Host.reduceAdd x (constant (F := Ideal) S_ .f32 0x00000000#32) reducesTo_S32x8732_S_d0_1 h_S_ j
      = ∑ b : Fin 32, ∑ p : Fin 8732, x (ix2 b p) := by
  pointwise

variable (hT : ∀ b o, 1 ≤ t V0 b o 4 ∧ t V0 b o 4 ≤ ((20 : ℝ) : EReal))
include hT

/-- The class word of a prior is a class number, positive exactly if the label is. -/
theorem word_at (b : Fin 32) (p : Fin 8732) :
    ∃ n : ℕ, n ≤ 20 ∧ res_main_v165 V0 (ix2 b p) = BitVec.ofNat 32 n ∧ (0 < n ↔ 0 < Loss.lab (t V0) (q V0) b p) := by
  rw [label_at]
  refine class_word _ ?_
  unfold Loss.lab label
  split_ifs with h
  · exact .inl rfl
  · exact .inr (hT b _)

/-- The positive mask is the labels above zero. -/
theorem pos_at (b : Fin 32) (p : Fin 8732) [Decidable (0 < Loss.lab (t V0) (q V0) b p)] :
    res_main_v167 V0 (ix2 b p) = BitVec.ofBool (decide (0 < Loss.lab (t V0) (q V0) b p)) := by
  obtain ⟨n, hn, hw, hp⟩ := word_at V0 hT b p
  unfold res_main_v167
  generalize res_main_v165 V0 = x at hw ⊢
  pointwise
  rw [hw, cmpi_sgt_eq]
  congr 1
  refine decide_eq_decide.2 (Iff.trans ?_ hp)
  rw [toInt_ofNat (n := n) (by omega), BitVec.toInt_zero]
  omega

theorem term_at (b : Fin 32) (p : Fin 8732) (k : Fin 4) :
    select (broadcastInDim S32x8732x4 ![0, 1, 2] bcast_S32x8732x1_S32x8732x4_0_1_2 (broadcastInDim S32x8732x1 ![0, 1] bcast_S32x8732_S32x8732x1_0_1 (res_main_v167 V0)))
      (select (cmpf .olt (res_main_v169 V0) (broadcastInDim S32x8732x4 ![] bcast_S_S32x8732x4 (constant (F := Ideal) S_ .f32 0x3F800000#32)))
        (mulf (mulf (broadcastInDim S32x8732x4 ![] bcast_S_S32x8732x4 (constant (F := Ideal) S_ .f32 0x3F000000#32)) (res_main_v168 V0)) (res_main_v168 V0))
        (subf (res_main_v169 V0) (broadcastInDim S32x8732x4 ![] bcast_S_S32x8732x4 (constant (F := Ideal) S_ .f32 0x3F000000#32))))
      (broadcastInDim S32x8732x4 ![] bcast_S_S32x8732x4 (id (constant (F := Ideal) S_ .f32 0x00000000#32))) (ix3 b p k)
    = if 0 < Loss.lab (t V0) (q V0) b p
      then smooth (l V0 b p k - target (t V0 b (owner (Loss.over (t V0) (q V0) b) p)) (q V0 p) k) else 0 := by
  have hp := pos_at V0 hT b p
  have hd := diff_at V0 b p k
  generalize l V0 b p k - target (t V0 b (owner (Loss.over (t V0) (q V0) b) p)) (q V0 p) k = d at hd ⊢
  generalize Loss.lab (t V0) (q V0) b p = y at hp ⊢
  unfold res_main_v169
  generalize res_main_v168 V0 = x at hd ⊢
  generalize res_main_v167 V0 = z at hp ⊢
  simp only [id_eq]
  pointwise
  rw [hp, hd]
  simp only [select_decide, smooth, half, one_eq, show FloatOps.absf (F := Ideal) (φ := .f32) d = max d (-d) from rfl]

/-- The reference's first result: the regression losses of the positive priors over their number. -/
theorem sum_at (j : S_.Idx) :
    Host.reduceAdd (select (broadcastInDim S32x8732x4 ![0, 1, 2] bcast_S32x8732x1_S32x8732x4_0_1_2 (broadcastInDim S32x8732x1 ![0, 1] bcast_S32x8732_S32x8732x1_0_1 (res_main_v167 V0)))
      (select (cmpf .olt (res_main_v169 V0) (broadcastInDim S32x8732x4 ![] bcast_S_S32x8732x4 (constant (F := Ideal) S_ .f32 0x3F800000#32)))
        (mulf (mulf (broadcastInDim S32x8732x4 ![] bcast_S_S32x8732x4 (constant (F := Ideal) S_ .f32 0x3F000000#32)) (res_main_v168 V0)) (res_main_v168 V0))
        (subf (res_main_v169 V0) (broadcastInDim S32x8732x4 ![] bcast_S_S32x8732x4 (constant (F := Ideal) S_ .f32 0x3F000000#32))))
      (broadcastInDim S32x8732x4 ![] bcast_S_S32x8732x4 (id (constant (F := Ideal) S_ .f32 0x00000000#32))))
      (constant (F := Ideal) S_ .f32 0x00000000#32) reducesTo_S32x8732x4_S_d0_1_2 h_S_ j
    = ∑ b, Loss.regSum (t V0) (q V0) (l V0) b := by
  refine (sum3_at _ j).trans (Finset.sum_congr rfl fun b _ => ?_)
  unfold Loss.regSum
  refine Finset.sum_congr rfl fun p _ => ?_
  refine (Finset.sum_congr rfl fun k _ => term_at V0 hT b p k).trans ?_
  unfold Loss.reg
  split_ifs with h
  · rfl
  · exact Finset.sum_const_zero

end Cert.Proof.RefLoc
end
-- ==== Proof.RefCount.lean ====
/- The reference's counts of positive priors. -/
module

public import proofs.«01_k».proof.Proof.RefLoc
public import Idealize.ShloMosaic.Lib.IndicatorCount

@[expose] public section

set_option maxRecDepth 16384

noncomputable section

namespace Cert.Proof.RefCount

open Idealize.ShloMosaic Idealize.ShloMosaic.WordCmp Cert.ReferenceIdeal Cert.ReferenceIdeal.Gen Cert.Proof.Spec Cert.Proof.Ref Cert.Proof.RefOver
  Cert.Proof.RefLoc

/-- A fold of words' sums over words of naturals is the word of the naturals' sum. -/
theorem fold_addi {ι : Type} (s : Finset ι) (f : ι → BitVec 32) (n : ι → ℕ) (h : ∀ i ∈ s, f i = BitVec.ofNat 32 (n i)) :
    s.fold IntOp.addi 0#32 f = BitVec.ofNat 32 (∑ i ∈ s, n i) := by
  classical
  induction s using Finset.induction with
  | empty => rfl
  | insert a s ha ih =>
    rw [Finset.fold_insert ha, Finset.sum_insert ha, h a (Finset.mem_insert_self a s), ih fun i hi => h i (Finset.mem_insert_of_mem hi)]
    simp [IntOp.addi, BitVec.ofNat_add]

variable (V0 : Valuation τ sig (Elt Ideal)) (hT : ∀ b o, 1 ≤ t V0 b o 4 ∧ t V0 b o 4 ≤ ((20 : ℝ) : EReal))
include hT

/-- The count word of an image. -/
theorem count_at (b : Fin 32) : res_main_v201 V0 (ix2 b 0) = BitVec.ofNat 32 (Loss.count (t V0) (q V0) b) := by
  classical
  have hp : ∀ p, res_main_v167 V0 (ix2 b p) = BitVec.ofBool (decide (0 < Loss.lab (t V0) (q V0) b p)) := fun p => pos_at V0 hT b p
  unfold res_main_v201 Loss.count
  generalize Loss.lab (t V0) (q V0) b = y at hp ⊢
  generalize res_main_v167 V0 = z at hp ⊢
  have hs : broadcastInDim S32x1 ![0] bcast_S32_S32x1_0 (Host.reduce IntOp.addi (extui 32 z natLt_1_32) (constantI S_ 32 0#32)
      reducesTo_S32x8732_S32_d1 h_S_) (ix2 b 0)
      = Host.reduce IntOp.addi (extui 32 z natLt_1_32) (constantI S_ 32 0#32) reducesTo_S32x8732_S32_d1 h_S_ (ix1 b) := by
    generalize Host.reduce IntOp.addi (extui 32 z natLt_1_32) (constantI S_ 32 0#32) reducesTo_S32x8732_S32_d1 h_S_ = x
    pointwise
  refine hs.trans ?_
  rw [Host.reduce_eq_fold]
  refine (Shape.ReducesTo.fold_fiber_r2_a1 reducesTo_S32x8732_S32_d1 (ix1 b) _ _ _).trans ?_
  refine (fold_addi Finset.univ _ (fun p => if 0 < y p then 1 else 0) fun p _ => ?_).trans ?_
  · show BitVec.setWidth 32 (z (ix2 b p)) = _
    rw [hp]
    by_cases h : 0 < y p <;> simp [h]
  · rw [Finset.card_filter]

/-- The total, as a number. -/
theorem total_at (j : S_.Idx) : res_main_v212 V0 j = ∑ b, ((Loss.count (t V0) (q V0) b : ℕ) : EReal) := by
  have hc := count_at V0 hT
  have hl : ∀ b, Loss.count (t V0) (q V0) b ≤ 8732 := fun b => Loss.count_le _ _ b
  unfold res_main_v212
  generalize Loss.count (t V0) (q V0) = n at hc hl ⊢
  generalize res_main_v201 V0 = x at hc ⊢
  have hn : ∑ b, n b ≤ 279424 := by
    have := Finset.sum_le_sum (s := Finset.univ) fun b (_ : b ∈ Finset.univ) => hl b
    simpa using this
  have hs : Host.reduce IntOp.addi x (constantI S_ 32 0#32) reducesTo_S32x1_S_d0_1 h_S_ j = BitVec.ofNat 32 (∑ b, n b) := by
    rw [Host.reduce_eq_fold]
    refine (Shape.ReducesTo.fold_fiber_r2_a01 reducesTo_S32x1_S_d0_1 j _ _ _).trans ?_
    refine (fold_addi Finset.univ _ (fun i : Fin 32 × Fin 1 => n i.1) fun i _ => ?_).trans ?_
    · obtain ⟨b, z⟩ := i
      have hz : z = 0 := Subsingleton.elim _ _
      subst hz
      exact hc b
    · rw [Fintype.sum_prod_type]
      simp
  show FloatOps.sitofp (F := Ideal) .f32 (Host.reduce IntOp.addi x (constantI S_ 32 0#32) reducesTo_S32x1_S_d0_1 h_S_ j) = _
  rw [hs]
  show (((BitVec.ofNat 32 (∑ b, n b)).toInt : ℝ) : EReal) = _
  rw [toInt_ofNat (n := ∑ b, n b) (by omega)]
  push_cast
  rfl

end Cert.Proof.RefCount
end
-- ==== Proof.RefConf.lean ====
/- What the reference's cross-entropy of a prior is. -/
module

public import proofs.«01_k».proof.Proof.RefCount

@[expose] public section

set_option maxRecDepth 16384

noncomputable section

namespace Cert.Proof.RefConf

open Idealize.ShloMosaic Idealize.ShloMosaic.WordCmp Cert.ReferenceIdeal Cert.ReferenceIdeal.Gen Cert.Proof.Spec Cert.Proof.Ref Cert.Proof.RefOver
  Cert.Proof.RefLoc Cert.Proof.RefMatch

/-- The row of prior `p` of image `b` among all rows. -/
def row (b : Fin 32) (p : Fin 8732) : Fin 279424 := ⟨b.val * 8732 + p.val, by omega⟩

/-- The gather of a row's entry by its class word. -/
theorem gather_class {α : Type} (x : S279424x21.Idx → α) (w : IVec S279424x1x1 32) (r : Fin 279424) (n : Fin 21)
    (h : w (ix3 r 0 0) = BitVec.ofNat 32 n.val) :
    Host.gather gather_S279424x21_S279424x1x1_S279424x1_n_1_0_0_1_2_11 x w (ix2 r 0) = x (ix2 r n) := by
  have hn := n.isLt
  unfold Host.gather
  refine congrArg x (funext fun a => Fin.ext ?_)
  match a with
  | ⟨0, _⟩ =>
    show 0 + r.val + 0 = r.val
    omega
  | ⟨1, _⟩ =>
    show min (w (gather_S279424x21_S279424x1x1_S279424x1_n_1_0_0_1_2_11.siIdx (ix2 r 0) ⟨0, by decide⟩)).toInt.toNat (21 - 1) + 0 + 0 = n.val
    have hs : gather_S279424x21_S279424x1x1_S279424x1_n_1_0_0_1_2_11.siIdx (ix2 r 0) ⟨0, by decide⟩ = ix3 r 0 0 := by
      funext a; match a with | ⟨0, _⟩ => rfl | ⟨1, _⟩ => rfl | ⟨2, _⟩ => rfl
    rw [hs, h, toInt_ofNat (n := n.val) (by omega)]
    omega

/-- The mask of class words in range is one at a class number's. -/
theorem mask_at (w : IVec S279424x1x1 32) (r : Fin 279424) (n : Fin 21) (h : w (ix3 r 0 0) = BitVec.ofNat 32 n.val) :
    Host.reduce IntOp.andi (andi (cmpi .sge w (broadcastInDim S279424x1x1 ![] bcast_S_S279424x1x1 (constantI S_ 32 0#32)))
      (cmpi .sle w (broadcastInDim S279424x1x1 ![0, 1, 2] bcast_S1x1x1_S279424x1x1_0_1_2 (broadcastInDim S1x1x1 ![2] bcast_S1_S1x1x1_2 (constantI S1 32 20#32)))))
      (constantI S_ 1 1#1) reducesTo_S279424x1x1_S279424x1_d2 h_S_ (ix2 r 0) = 1#1 := by
  rw [Host.reduce_eq_fold]
  refine (Shape.ReducesTo.fold_fiber_r3_a2 reducesTo_S279424x1x1_S279424x1_d2 (ix2 r 0) _ _ _).trans ?_
  have hu : (Finset.univ : Finset (Fin 1)) = {0} := rfl
  rw [hu, Finset.fold_singleton]
  show IntOp.andi (IntOp.andi (IntOp.cmpi .sge (w (ix3 r 0 0)) 0#32) (IntOp.cmpi .sle (w (ix3 r 0 0)) 20#32)) 1#1 = 1#1
  rw [h]
  clear h
  revert n
  decide

/-- A class word picks its own entry. -/
theorem pick_word (x : Fin 21 → EReal) (n : Fin 21) : pick x (BitVec.ofNat 32 n.val) = x n := by
  unfold pick
  rw [Finset.sum_eq_single n]
  · rw [if_pos rfl]
  · intro c _ hc
    refine if_neg fun h => hc (Fin.ext ?_)
    have := congrArg BitVec.toNat h
    rwa [toNat_ofNat_of_lt (by omega), toNat_ofNat_of_lt (by omega)] at this
  · exact fun h => absurd (Finset.mem_univ n) h

/-- The cross-entropy of a row about any shift. -/
theorem ce_at (x : FVec Ideal S279424x21 .f32) (w : IVec S279424x1x1 32) (s : FVec Ideal S_ .f32) (b : Fin 32) (p : Fin 8732) (n : Fin 21)
    (h : w (ix3 (row b p) 0 0) = BitVec.ofNat 32 n.val) :
    shapeCast S32x8732 (subf (addf (Host.log (Host.reduceAdd (Host.exp (subf x (broadcastInDim S279424x21 ![] bcast_S_S279424x21 s))) (constant (F := Ideal) S_ .f32 0x00000000#32) reducesTo_S279424x21_S279424_d1 h_S_)) (broadcastInDim S279424 ![] bcast_S_S279424 s)) (shapeCast S279424 (select (Host.reduce IntOp.andi (andi (cmpi .sge w (broadcastInDim S279424x1x1 ![] bcast_S_S279424x1x1 (constantI S_ 32 0#32))) (cmpi .sle w (broadcastInDim S279424x1x1 ![0, 1, 2] bcast_S1x1x1_S279424x1x1_0_1_2 (broadcastInDim S1x1x1 ![2] bcast_S1_S1x1x1_2 (constantI S1 32 20#32))))) (constantI S_ 1 1#1) reducesTo_S279424x1x1_S279424x1_d2 h_S_) (Host.gather gather_S279424x21_S279424x1x1_S279424x1_n_1_0_0_1_2_11 x w) (broadcastInDim S279424x1 ![] bcast_S_S279424x1 (constant (F := Ideal) S_ .f32 0x7FC00000#32))) shapeCasts_S279424x1_S279424)) shapeCasts_S279424_S32x8732 (ix2 b p)
      = entropy (fun c => x (ix2 (row b p) c)) (s ix0) (BitVec.ofNat 32 n.val) := by
  have hm := mask_at w (row b p) n h
  have hg := gather_class x w (row b p) n h
  unfold entropy
  rw [pick_word]
  generalize Host.gather gather_S279424x21_S279424x1x1_S279424x1_n_1_0_0_1_2_11 x w = g at hg ⊢
  generalize Host.reduce IntOp.andi (andi (cmpi .sge w (broadcastInDim S279424x1x1 ![] bcast_S_S279424x1x1 (constantI S_ 32 0#32)))
      (cmpi .sle w (broadcastInDim S279424x1x1 ![0, 1, 2] bcast_S1x1x1_S279424x1x1_0_1_2 (broadcastInDim S1x1x1 ![2] bcast_S1_S1x1x1_2 (constantI S1 32 20#32)))))
      (constantI S_ 1 1#1) reducesTo_S279424x1x1_S279424x1_d2 h_S_ = k at hm ⊢
  unfold row at *
  pointwise
  rw [hm, hg]
  rfl

variable (V0 : Valuation τ sig (Elt Ideal))

/-- The class data, as the reference's argument holds them. -/
def x (b : Fin 32) (p : Fin 8732) (c : Fin 21) : EReal := V0 (Proc.devRef .tc main_arg1) (ix3 b p c)

theorem rows_at (b : Fin 32) (p : Fin 8732) (c : Fin 21) : res_main_v181 V0 (ix2 (row b p) c) = x V0 b p c := by
  unfold res_main_v181 x row
  generalize V0 (Proc.devRef .tc main_arg1) = z
  pointwise

/-- The word of a row is its prior's class word. -/
theorem wrapped_at (b : Fin 32) (p : Fin 8732) (n : ℕ) (hn : n ≤ 20) (h : res_main_v165 V0 (ix2 b p) = BitVec.ofNat 32 n) :
    res_main_call5_v5 V0 (ix3 (row b p) 0 0) = BitVec.ofNat 32 n := by
  unfold res_main_call5_v5 res_main_v182
  generalize res_main_v165 V0 = y at h ⊢
  unfold row
  pointwise
  rw [h, wrap (by omega)]

/-- The greatest entry of all is a real number, of real entries. -/
theorem shift_real (hX : ∀ b p c, ∃ r : ℝ, x V0 b p c = r) (j : S_.Idx) : ∃ s : ℝ, (show EReal from res_main_v185 V0 j) = (s : EReal) := by
  have hs : ∀ i : S279424x21.Idx, ∃ r : ℝ, (show EReal from res_main_v181 V0 i) = (r : EReal) := fun i => by
    have h0 : (i 0).val < 279424 := (i 0).isLt
    obtain ⟨r, hr⟩ := hX ⟨(i 0).val / 8732, by omega⟩ ⟨(i 0).val % 8732, by omega⟩ (i 1)
    refine ⟨r, Eq.trans ?_ hr⟩
    refine Eq.trans (congrArg (res_main_v181 V0) ?_) (rows_at V0 _ _ _)
    funext a
    apply Fin.ext
    match a with
    | ⟨0, _⟩ => show (i 0).val = (i 0).val / 8732 * 8732 + (i 0).val % 8732; omega
    | ⟨1, _⟩ => rfl
  unfold res_main_v185
  generalize res_main_v181 V0 = y at hs ⊢
  have hr : Host.reduce (FloatOps.maximumf (F := Ideal) (φ := .f32)) y (constant (F := Ideal) S_ .f32 0xFF800000#32) reducesTo_S279424x21_S_d0_1 h_S_ j
      = (Finset.univ.filter fun i => reducesTo_S279424x21_S_d0_1.drop i = j).sup (α := EReal) y := by
    rw [Host.reduce_eq_fold]
    show Finset.fold max (Ideal.ofBits .f32 0xFF800000#32) _ _ = _
    rw [negInf_eq]
    rfl
  have hne : (Finset.univ.filter fun i => reducesTo_S279424x21_S_d0_1.drop i = j).Nonempty :=
    ⟨ix2 0 0, Finset.mem_filter.2 ⟨Finset.mem_univ _, funext fun a => a.elim0⟩⟩
  obtain ⟨i, -, hi⟩ := Finset.exists_mem_eq_sup (α := EReal) _ hne y
  obtain ⟨r, hr'⟩ := hs i
  exact ⟨r, hr.trans (hi.trans hr')⟩

/-- The reference's cross-entropy of a prior, of real entries. -/
theorem ent_at (hT : ∀ b o, 1 ≤ t V0 b o 4 ∧ t V0 b o 4 ≤ ((20 : ℝ) : EReal)) (X : Fin 32 → Fin 8732 → Fin 21 → ℝ)
    (hX : ∀ b p c, x V0 b p c = X b p c) (b : Fin 32) (p : Fin 8732) :
    ∃ e : ℝ, res_main_v194 V0 (ix2 b p) = (e : EReal) ∧ Loss.ent (t V0) (q V0) (x V0) b p = (e : EReal) := by
  obtain ⟨n, hn, hw, -⟩ := word_at V0 hT b p
  obtain ⟨s, hs⟩ := shift_real V0 (fun b p c => ⟨_, hX b p c⟩) ix0
  obtain ⟨e, he⟩ := entropy_shift (X b p) (BitVec.ofNat 32 n)
  have hx : x V0 b p = fun c => (X b p c : EReal) := funext fun c => hX b p c
  refine ⟨e, ?_, ?_⟩
  · refine (ce_at (res_main_v181 V0) (res_main_call5_v5 V0) (res_main_v185 V0) b p ⟨n, by omega⟩ (wrapped_at V0 b p n hn hw)).trans ?_
    refine Eq.trans ?_ (he s)
    have hr : (fun c => res_main_v181 V0 (ix2 (row b p) c)) = fun c => (X b p c : EReal) :=
      funext fun c => (rows_at V0 b p c).trans (hX b p c)
    exact congrArg₂ (fun f z => entropy f z (BitVec.ofNat 32 n)) hr hs
  · obtain ⟨c, hc⟩ := exists_eq_top (x V0 b p)
    unfold Loss.ent
    rw [← label_at, hw, ← hc, hX b p c, hx]
    exact he _

end Cert.Proof.RefConf
end
-- ==== Proof.RefMining.lean ====
/- The reference's hard negatives: the rank of a prior in its row, and the sum of the entropies kept. -/
module

public import proofs.«01_k».proof.Proof.RefConf
public import Idealize.ShloMosaic.Lib.SortFacts
public import Mathlib.Order.Fin.Basic

@[expose] public section

set_option maxRecDepth 16384

noncomputable section

namespace Cert.Proof.RefMining

open Idealize.ShloMosaic Idealize.ShloMosaic.WordCmp Cert.ReferenceIdeal Cert.ReferenceIdeal.Gen Cert.Proof.Spec Cert.Proof.Ref Cert.Proof.RefOver
  Cert.Proof.RefLoc Cert.Proof.RefConf

/-- The comparator of the losses orders real keys as the reals are ordered. -/
theorem keys_compare (a b : ℝ) (v w : BitVec 32) :
    comparator_f32_i32_d1 (F := Ideal) ((a : EReal), v) ((b : EReal), w) = BitVec.ofBool (decide (a < b)) := by
  have hz : ∀ r : ℝ, Scalar.select (FloatOps.cmpf (F := Ideal) (φ := .f32) .une (r : EReal) (r : EReal)) (FloatOps.ofBits (F := Ideal) .f32 0x7FC00000#32)
      (Scalar.select (FloatOps.cmpf (F := Ideal) (φ := .f32) .oeq (r : EReal) (FloatOps.ofBits (F := Ideal) .f32 0x00000000#32))
        (FloatOps.ofBits (F := Ideal) .f32 0x00000000#32) (r : EReal)) = (r : EReal) := by
    intro r
    have h1 : FloatOps.cmpf (F := Ideal) (φ := .f32) .une (r : EReal) (r : EReal) = 0#1 := by
      show BitVec.ofBool (decide ((r : EReal) ≠ r)) = 0#1
      simp
    have h0 : FloatOps.ofBits (F := Ideal) .f32 0x00000000#32 = (0 : EReal) := Ideal.ofBits_zero .f32
    rw [h1, h0]
    show Scalar.select (BitVec.ofBool (decide ((r : EReal) = 0))) (0 : EReal) (r : EReal) = r
    by_cases h : (r : EReal) = 0 <;> simp [h, Scalar.select]
  show FloatOps.cmpfTotal (F := Ideal) .lt _ _ = _
  refine (congrArg₂ (fun u v : EReal => FloatOps.cmpfTotal (F := Ideal) (φ := .f32) .lt u v) (hz a) (hz b)).trans ?_
  show BitVec.ofBool (decide ((a : EReal) < b)) = _
  simp only [EReal.coe_lt_coe_iff]

/-- A sort along the rows carries each row's words by the sorting order of the row. -/
theorem sort_at {α : Type} (cmp : α × BitVec 32 → α × BitVec 32 → BitVec 1) (k : S32x8732.Idx → α) (v : S32x8732.Idx → BitVec 32) (b : Fin 32)
    (i : Fin 8732) :
    (Host.sort2 S32x8732 1 cmp k v).2 (ix2 b i)
      = v (ix2 b (sortedFrom (fun p q => cmp (k (ix2 b p), v (ix2 b p)) (k (ix2 b q), v (ix2 b q)) == 1#1) i)) := by
  have ha : ∀ p : Fin 8732, (ix2 b i : S32x8732.Idx).along (⟨1, Nat.one_lt_two⟩ : Fin S32x8732.rank) p = ix2 b p := by
    intro p; funext a; match a with | ⟨0, _⟩ => rfl | ⟨1, _⟩ => rfl
  refine (congrArg v (ha _)).trans (congrArg (fun R => v (ix2 b (sortedFrom R i))) (funext fun p => funext fun q => ?_))
  have hp := ha p
  have hq := ha q
  exact congrArg₂ (fun u u' => cmp (k u, v u) (k u', v u') == 1#1) hp hq

/-- A strict comparison's sorting order has no inversion. -/
theorem sorted_le {n : ℕ} {β : Type} [LinearOrder β] (key : Fin n → β) (R : Fin n → Fin n → Bool) (hR : ∀ p q, R p q = decide (key p < key q))
    (i j : Fin n) (h : i < j) : key (sortedFrom R i) ≤ key (sortedFrom R j) := by
  have := sortedFrom_noInversion R R (fun p q => ?_) (fun _ _ h => h) (fun p q r => ?_) i j h
  · rw [hR] at this
    exact le_of_not_gt (of_decide_eq_false this)
  · rw [hR, hR]
    intro h
    exact decide_eq_false (lt_asymm (of_decide_eq_true h))
  · rw [hR, hR, hR]
    intro h1 h2
    exact decide_eq_false (not_lt_of_ge ((le_of_not_gt (of_decide_eq_false h2)).trans (le_of_not_gt (of_decide_eq_false h1))))

/-- The order in which a permutation's values are sorted undoes it. -/
theorem sorted_inverse {n : ℕ} (π : Fin n → Fin n) (hπ : Function.Bijective π) (R : Fin n → Fin n → Bool) (hR : ∀ p q, R p q = decide (π p < π q))
    (i : Fin n) : π (sortedFrom R i) = i := by
  have hb : Function.Bijective (π ∘ sortedFrom R) := hπ.comp ⟨sortedFrom_injective R, sortedFrom_surjective R⟩
  have hm : StrictMono (π ∘ sortedFrom R) := fun i j h => lt_of_le_of_ne (sorted_le π R hR i j h) (fun e => h.ne (hb.1 e))
  have := (hm.range_inj strictMono_id).mp (by rw [hb.2.range_eq, Set.range_id])
  exact congrFun this i

/-- Where a prior stands among its row's losses, greatest first: the words the two sorts yield, and how they order the losses. -/
theorem rank_exists (x : S32x8732.Idx → EReal) (X : Fin 32 → Fin 8732 → ℝ) (hx : ∀ b p, x (ix2 b p) = ((-X b p : ℝ) : EReal)) (b : Fin 32) :
    ∃ r : Fin 8732 → Fin 8732, Function.Injective r ∧ (∀ p q, X b q < X b p → r p < r q) ∧
      ∀ p, (Host.sort2 S32x8732 1 comparator_i32_i32_d1
        (Host.sort2 S32x8732 1 (comparator_f32_i32_d1 (F := Ideal)) x (iotaInDim S32x8732 32 1)).2 (iotaInDim S32x8732 32 1)).2 (ix2 b p)
        = BitVec.ofNat 32 (r p).val := by
  have hR : ∀ p q : Fin 8732, (comparator_f32_i32_d1 (F := Ideal) (x (ix2 b p), iotaInDim S32x8732 32 1 (ix2 b p))
      (x (ix2 b q), iotaInDim S32x8732 32 1 (ix2 b q)) == 1#1) = decide (-X b p < -X b q) := by
    intro p q
    rw [hx, hx, keys_compare]
    by_cases h : -X b p < -X b q <;> simp only [h, decide_true, decide_false] <;> rfl
  have h1 := fun i => sort_at (comparator_f32_i32_d1 (F := Ideal)) x (iotaInDim S32x8732 32 1) b i
  have hi : ∀ p : Fin 8732, iotaInDim S32x8732 32 1 (ix2 b p) = BitVec.ofNat 32 p.val := fun p => rfl
  generalize hR' : (fun p q : Fin 8732 => comparator_f32_i32_d1 (F := Ideal) (x (ix2 b p), iotaInDim S32x8732 32 1 (ix2 b p))
      (x (ix2 b q), iotaInDim S32x8732 32 1 (ix2 b q)) == 1#1) = R at h1
  have hR2 : ∀ p q, R p q = decide (-X b p < -X b q) := fun p q => by rw [← hR']; exact hR p q
  generalize (Host.sort2 S32x8732 1 (comparator_f32_i32_d1 (F := Ideal)) x (iotaInDim S32x8732 32 1)).2 = y at h1 ⊢
  have hy : ∀ i, y (ix2 b i) = BitVec.ofNat 32 (sortedFrom R i).val := fun i => (h1 i).trans (hi _)
  have h2 := fun i => sort_at comparator_i32_i32_d1 y (iotaInDim S32x8732 32 1) b i
  generalize hS' : (fun p q : Fin 8732 => comparator_i32_i32_d1 (y (ix2 b p), iotaInDim S32x8732 32 1 (ix2 b p))
      (y (ix2 b q), iotaInDim S32x8732 32 1 (ix2 b q)) == 1#1) = S at h2
  have hS2 : ∀ p q, S p q = decide (sortedFrom R p < sortedFrom R q) := by
    intro p q
    rw [← hS']
    show (IntOp.cmpi .slt (y (ix2 b p)) (y (ix2 b q)) == 1#1) = _
    have hp := (sortedFrom R p).isLt
    have hq := (sortedFrom R q).isLt
    rw [hy, hy, cmpi_slt_eq, toInt_ofNat (n := (sortedFrom R p).val) (by omega), toInt_ofNat (n := (sortedFrom R q).val) (by omega)]
    by_cases h : sortedFrom R p < sortedFrom R q
    · have : ((sortedFrom R p).val : ℤ) < (sortedFrom R q).val := by exact_mod_cast h
      rw [decide_eq_true h, decide_eq_true this]
      rfl
    · have : ¬ ((sortedFrom R p).val : ℤ) < (sortedFrom R q).val := by exact_mod_cast h
      rw [decide_eq_false h, decide_eq_false this]
      rfl
  have hinv := sorted_inverse (sortedFrom R) ⟨sortedFrom_injective R, sortedFrom_surjective R⟩ S hS2
  refine ⟨sortedFrom S, sortedFrom_injective S, fun p q h => ?_, fun p => (h2 p).trans (hi _)⟩
  by_contra hn
  rcases lt_or_eq_of_le (not_lt.mp hn) with hlt | heq
  · have := sorted_le (fun p => -X b p) R hR2 _ _ hlt
    simp only [hinv] at this
    linarith
  · have := sortedFrom_injective S heq
    subst this
    exact lt_irrefl _ h

variable (V0 : Valuation τ sig (Elt Ideal))

/-- A choice of zero by a flag, negated. -/
theorem neg_at (z : S32x8732.Idx → BitVec 1) (e : FVec Ideal S32x8732 .f32) (i : S32x8732.Idx) (P : Prop) [Decidable P] (m : EReal)
    (hz : z i = BitVec.ofBool (decide P)) (he : e i = m) :
    Host.negf (select z (broadcastInDim S32x8732 ![] bcast_S_S32x8732 (id (constant (F := Ideal) S_ .f32 0x00000000#32))) e) i
      = -(if P then 0 else m) := by
  show -(Scalar.select (z i) (FloatOps.ofBits (F := Ideal) .f32 0x00000000#32) (e i) : EReal) = _
  have h0 : FloatOps.ofBits (F := Ideal) .f32 0x00000000#32 = (0 : EReal) := Ideal.ofBits_zero .f32
  rw [hz, he, h0]
  by_cases hl : P
  · rw [decide_eq_true hl, if_pos hl]; rfl
  · rw [decide_eq_false hl, if_neg hl]; rfl

/-- The entropy a prior adds to the second loss: its own if it is positive or among the kept. -/
theorem kept_term (z : S32x8732.Idx → BitVec 1) (e : FVec Ideal S32x8732 .f32) (w : S32x8732.Idx → BitVec 32) (c : S32x1.Idx → BitVec 32)
    (b : Fin 32) (p : Fin 8732) (P : Prop) [Decidable P] (m : ℝ) (r k : ℕ) (hr : r < 2 ^ 31) (hk : k < 2 ^ 31)
    (hz : z (ix2 b p) = BitVec.ofBool (decide P)) (he : e (ix2 b p) = (m : EReal)) (hw : w (ix2 b p) = BitVec.ofNat 32 r)
    (hc : IntOp.minsi (IntOp.muli 3#32 (c (ix2 b 0))) 8731#32 = BitVec.ofNat 32 k) :
    select (ori z (cmpi .slt w (broadcastInDim S32x8732 ![0, 1] bcast_S32x1_S32x8732_0_1 (minsi (muli (broadcastInDim S32x1 ![] bcast_S_S32x1 (constantI S_ 32 3#32)) c) (broadcastInDim S32x1 ![] bcast_S_S32x1 (constantI S_ 32 8731#32)))))) e (broadcastInDim S32x8732 ![] bcast_S_S32x8732 (id (constant (F := Ideal) S_ .f32 0x00000000#32))) (ix2 b p)
      = (if P then (m : EReal) else 0) + ((if r < k then (if P then 0 else m) else 0 : ℝ) : EReal) := by
  have hb : broadcastInDim S32x8732 ![0, 1] bcast_S32x1_S32x8732_0_1 (minsi (muli (broadcastInDim S32x1 ![] bcast_S_S32x1 (constantI S_ 32 3#32)) c) (broadcastInDim S32x1 ![] bcast_S_S32x1 (constantI S_ 32 8731#32))) (ix2 b p)
      = BitVec.ofNat 32 k := by
    rw [← hc]
    pointwise
  show Scalar.select (z (ix2 b p) ||| IntOp.cmpi .slt (w (ix2 b p)) (broadcastInDim S32x8732 ![0, 1] bcast_S32x1_S32x8732_0_1 (minsi (muli (broadcastInDim S32x1 ![] bcast_S_S32x1 (constantI S_ 32 3#32)) c) (broadcastInDim S32x1 ![] bcast_S_S32x1 (constantI S_ 32 8731#32))) (ix2 b p)))
    (e (ix2 b p)) (FloatOps.ofBits (F := Ideal) .f32 0x00000000#32) = _
  have h0 : FloatOps.ofBits (F := Ideal) .f32 0x00000000#32 = (0 : EReal) := Ideal.ofBits_zero .f32
  rw [hb, hz, he, hw, h0, cmpi_slt_eq, toInt_ofNat (n := r) hr, toInt_ofNat (n := k) hk]
  by_cases hP : P <;> by_cases hl : r < k
  all_goals
    have hl' := hl
    rw [← Nat.cast_lt (α := ℤ)] at hl'
    simp only [hP, hl, hl', decide_true, decide_false, if_true, if_false]
    simp [Scalar.select]

variable (V0 : Valuation τ sig (Elt Ideal))

/-- The keys of the first sort are the mined losses negated. -/
theorem key_at (hT : ∀ b o, 1 ≤ t V0 b o 4 ∧ t V0 b o 4 ≤ ((20 : ℝ) : EReal)) (b : Fin 32) (p : Fin 8732) (y : ℝ)
    (hy : Loss.mine (t V0) (q V0) (x V0) b p = y) (he : res_main_v194 V0 (ix2 b p) = Loss.ent (t V0) (q V0) (x V0) b p) :
    res_main_v196 V0 (ix2 b p) = ((-y : ℝ) : EReal) := by
  classical
  have h : res_main_v196 V0 = Host.negf (select (res_main_v167 V0)
      (broadcastInDim S32x8732 ![] bcast_S_S32x8732 (id (constant (F := Ideal) S_ .f32 0x00000000#32))) (res_main_v194 V0)) := rfl
  refine (congrFun h (ix2 b p)).trans ((neg_at _ _ _ _ _ (pos_at V0 hT b p) he).trans ?_)
  rw [EReal.coe_neg, ← hy]
  unfold Loss.mine
  congr

/-- The word an image keeps negatives below. -/
theorem keep_word (n : ℕ) (h : n ≤ 8732) :
    IntOp.minsi (IntOp.muli 3#32 (BitVec.ofNat 32 n)) 8731#32 = BitVec.ofNat 32 (min (3 * n) 8731) := by
  have hm : IntOp.muli 3#32 (BitVec.ofNat 32 n) = BitVec.ofNat 32 (3 * n) := by
    simp [IntOp.muli, BitVec.ofNat_mul]
  rw [hm]
  unfold IntOp.minsi
  rw [BitVec.slt_eq_decide, toInt_ofNat (n := 3 * n) (by omega), show (8731#32 : BitVec 32).toInt = 8731 from rfl]
  by_cases hl : 3 * n < 8731
  · rw [decide_eq_true (by exact_mod_cast hl), min_eq_left hl.le]
    rfl
  · rw [decide_eq_false (by exact_mod_cast hl), min_eq_right (not_lt.mp hl)]
    rfl

/-- The entropies the second loss sums: every positive prior's, and every other prior's whose rank is below three times the positives. -/
theorem kept_at (hT : ∀ b o, 1 ≤ t V0 b o 4 ∧ t V0 b o 4 ≤ ((20 : ℝ) : EReal)) (X : Fin 32 → Fin 8732 → Fin 21 → ℝ)
    (hX : ∀ b p c, x V0 b p c = X b p c) :
    ∃ (Y : Fin 32 → Fin 8732 → ℝ) (r : Fin 32 → Fin 8732 → Fin 8732),
      (∀ b p, Loss.mine (t V0) (q V0) (x V0) b p = Y b p) ∧ (∀ b, Function.Injective (r b)) ∧ (∀ b p q, Y b q < Y b p → r b p < r b q) ∧
      ∀ j, Host.reduceAdd (select (ori (res_main_v167 V0) (cmpi .slt ((Host.sort2 S32x8732 1 comparator_i32_i32_d1 (res_main_v197 V0) (res_main_call8_v0 V0)).2) (broadcastInDim S32x8732 ![0, 1] bcast_S32x1_S32x8732_0_1 (minsi (muli (broadcastInDim S32x1 ![] bcast_S_S32x1 (constantI S_ 32 3#32)) (res_main_v201 V0)) (broadcastInDim S32x1 ![] bcast_S_S32x1 (constantI S_ 32 8731#32)))))) (res_main_v194 V0) (broadcastInDim S32x8732 ![] bcast_S_S32x8732 (id (constant (F := Ideal) S_ .f32 0x00000000#32)))) (constant (F := Ideal) S_ .f32 0x00000000#32) reducesTo_S32x8732_S_d0_1 h_S_ j
        = ∑ b, (Loss.posSum (t V0) (q V0) (x V0) b
          + ((∑ p ∈ Finset.univ.filter (fun p => (r b p).val < min (3 * Loss.count (t V0) (q V0) b) 8731), Y b p : ℝ) : EReal)) := by
  classical
  choose E hE hE' using ent_at V0 hT X hX
  let Y : Fin 32 → Fin 8732 → ℝ := fun b p => if 0 < Loss.lab (t V0) (q V0) b p then 0 else E b p
  have hY : ∀ b p, Loss.mine (t V0) (q V0) (x V0) b p = Y b p := by
    intro b p
    unfold Loss.mine
    rw [hE']
    by_cases hl : 0 < Loss.lab (t V0) (q V0) b p <;> simp [Y, hl]
  have hk : ∀ b p, res_main_v196 V0 (ix2 b p) = ((-Y b p : ℝ) : EReal) := fun b p =>
    key_at V0 hT b p (Y b p) (hY b p) ((hE b p).trans (hE' b p).symm)
  choose r hr hd hw using rank_exists (res_main_v196 V0) Y hk
  refine ⟨Y, r, hY, hr, hd, fun j => ?_⟩
  have hs : (Host.sort2 S32x8732 1 comparator_i32_i32_d1 (res_main_v197 V0) (res_main_call8_v0 V0)).2
      = (Host.sort2 S32x8732 1 comparator_i32_i32_d1
        (Host.sort2 S32x8732 1 (comparator_f32_i32_d1 (F := Ideal)) (res_main_v196 V0) (iotaInDim S32x8732 32 1)).2 (iotaInDim S32x8732 32 1)).2 := rfl
  rw [hs]
  generalize (Host.sort2 S32x8732 1 comparator_i32_i32_d1
        (Host.sort2 S32x8732 1 (comparator_f32_i32_d1 (F := Ideal)) (res_main_v196 V0) (iotaInDim S32x8732 32 1)).2 (iotaInDim S32x8732 32 1)).2 = w at hw ⊢
  rw [sum2_at]
  refine Finset.sum_congr rfl fun b _ => ?_
  have hc := RefCount.count_at V0 hT b
  have hp := fun p => pos_at V0 hT b p
  have hl := Loss.count_le (t V0) (q V0) b
  have he := hE b
  unfold Loss.posSum
  simp only [hE']
  have hYe : Y b = fun p => if 0 < Loss.lab (t V0) (q V0) b p then 0 else E b p := rfl
  clear_value Y
  generalize Loss.count (t V0) (q V0) b = n at hc hl ⊢
  generalize Loss.lab (t V0) (q V0) b = y at hp hYe ⊢
  generalize res_main_v201 V0 = cw at hc ⊢
  generalize res_main_v167 V0 = z at hp ⊢
  generalize res_main_v194 V0 = e at he ⊢
  rw [Finset.sum_filter, ← coe_sum, ← Finset.sum_add_distrib]
  refine Finset.sum_congr rfl fun p _ => ?_
  have hkw := keep_word n hl
  rw [← hc] at hkw
  have hm : min (3 * n) 8731 < 2 ^ 31 := by omega
  have hrl := (r b p).isLt
  refine (kept_term z e w cw b p (0 < y p) (E b p) (r b p).val _ (by omega) hm (hp p) (he p) (hw b p) hkw).trans ?_
  rw [hYe]

end Cert.Proof.RefMining
end
-- ==== Proof.RefResults.lean ====
/- The reference's two results in the batch's own terms. -/
module

public import proofs.«01_k».proof.Proof.RefMining

@[expose] public section

set_option maxRecDepth 16384

noncomputable section

namespace Cert.Proof.RefResults

open Idealize.ShloMosaic Idealize.ShloMosaic.WordCmp Cert.ReferenceIdeal Cert.ReferenceIdeal.Gen Cert.Proof.Spec Cert.Proof.Ref Cert.Proof.RefOver
  Cert.Proof.RefLoc Cert.Proof.RefConf

/-- A quotient of two scalars. -/
theorem quotient_at (x y : FVec Ideal S_ .f32) (j : S_.Idx) (u v : EReal) (hx : x j = u) (hy : y j = v) : Host.divf x y j = Ideal.div u v :=
  congrArg₂ Ideal.div hx hy

variable (V0 : Valuation τ sig (Elt Ideal)) (hT : ∀ b o, 1 ≤ t V0 b o 4 ∧ t V0 b o 4 ≤ ((20 : ℝ) : EReal))
include hT

/-- The first result: the regression losses over the number of positives. -/
theorem loc_at (j : S_.Idx) :
    Host.divf (Host.reduceAdd (select (broadcastInDim S32x8732x4 ![0, 1, 2] bcast_S32x8732x1_S32x8732x4_0_1_2 (broadcastInDim S32x8732x1 ![0, 1] bcast_S32x8732_S32x8732x1_0_1 (res_main_v167 V0))) (select (cmpf .olt (res_main_v169 V0) (broadcastInDim S32x8732x4 ![] bcast_S_S32x8732x4 (constant (F := Ideal) S_ .f32 0x3F800000#32))) (mulf (mulf (broadcastInDim S32x8732x4 ![] bcast_S_S32x8732x4 (constant (F := Ideal) S_ .f32 0x3F000000#32)) (res_main_v168 V0)) (res_main_v168 V0)) (subf (res_main_v169 V0) (broadcastInDim S32x8732x4 ![] bcast_S_S32x8732x4 (constant (F := Ideal) S_ .f32 0x3F000000#32)))) (broadcastInDim S32x8732x4 ![] bcast_S_S32x8732x4 (id (constant (F := Ideal) S_ .f32 0x00000000#32)))) (constant (F := Ideal) S_ .f32 0x00000000#32) reducesTo_S32x8732x4_S_d0_1_2 h_S_) (res_main_v212 V0) j
      = Ideal.div (∑ b : Fin 32, Loss.regSum (t V0) (q V0) (l V0) b) (∑ b : Fin 32, ((Loss.count (t V0) (q V0) b : ℕ) : EReal)) :=
  quotient_at _ _ j _ _ (sum_at V0 hT j) (RefCount.total_at V0 hT j)

/-- The second result: the confidence losses of the positives and of the hardest negatives over the number of positives. -/
theorem conf_at (hX : ∀ b p c, ∃ r : ℝ, x V0 b p c = r) :
    ∃ (Y : Fin 32 → Fin 8732 → ℝ) (r : Fin 32 → Fin 8732 → Fin 8732),
      (∀ b p, Loss.mine (t V0) (q V0) (x V0) b p = Y b p) ∧ (∀ b, Function.Injective (r b)) ∧ (∀ b p q, Y b q < Y b p → r b p < r b q) ∧
      ∀ j, Host.divf (Host.reduceAdd (select (ori (res_main_v167 V0) (cmpi .slt ((Host.sort2 S32x8732 1 comparator_i32_i32_d1 (res_main_v197 V0) (res_main_call8_v0 V0)).2) (broadcastInDim S32x8732 ![0, 1] bcast_S32x1_S32x8732_0_1 (minsi (muli (broadcastInDim S32x1 ![] bcast_S_S32x1 (constantI S_ 32 3#32)) (res_main_v201 V0)) (broadcastInDim S32x1 ![] bcast_S_S32x1 (constantI S_ 32 8731#32)))))) (res_main_v194 V0) (broadcastInDim S32x8732 ![] bcast_S_S32x8732 (id (constant (F := Ideal) S_ .f32 0x00000000#32)))) (constant (F := Ideal) S_ .f32 0x00000000#32) reducesTo_S32x8732_S_d0_1 h_S_) (res_main_v212 V0) j
        = Ideal.div (∑ b : Fin 32, (Loss.posSum (t V0) (q V0) (x V0) b
            + ((∑ p ∈ Finset.univ.filter (fun p => (r b p).val < min (3 * Loss.count (t V0) (q V0) b) 8731), Y b p : ℝ) : EReal)))
          (∑ b : Fin 32, ((Loss.count (t V0) (q V0) b : ℕ) : EReal)) := by
  choose X hX' using hX
  obtain ⟨Y, r, hY, hr, hd, hs⟩ := RefMining.kept_at V0 hT X hX'
  exact ⟨Y, r, hY, hr, hd, fun j => quotient_at _ _ j _ _ (hs j) (RefCount.total_at V0 hT j)⟩

end Cert.Proof.RefResults
end
-- ==== Proof.KMatch.lean ====
/- What the match kernel's values are at an index: the overlaps, the match, the class and the losses of one image. -/
module

public import proofs.«01_k».proof.Proof.Gen.KernelIdeal.Skeleton
public import proofs.«01_k».proof.Proof.Spec
public import Idealize.ShloMosaic.Lib.Pointwise
public import Idealize.ShloMosaic.Lib.WordCmp
public import Idealize.ShloMosaic.Lib.Pipeline.Value

@[expose] public section

set_option maxRecDepth 16384

noncomputable section

namespace Cert.Proof.KMatch

open Idealize.ShloMosaic Idealize.ShloMosaic.WordCmp Cert.KernelIdeal Cert.KernelIdeal.Gen Cert.Proof.Spec

/-- A one-bit word widened and converted is one or zero. -/
theorem sitofp_bit (b : Bool) : (FloatOps.sitofp (F := Ideal) .f32 (BitVec.setWidth 32 (BitVec.ofBool b)) : EReal) = if b then 1 else 0 := by
  cases b
  · show (((BitVec.setWidth 32 (0#1)).toInt : ℝ) : EReal) = 0
    simp
  · show (((BitVec.setWidth 32 (1#1)).toInt : ℝ) : EReal) = 1
    have : (BitVec.setWidth 32 (1#1)).toInt = 1 := by decide
    rw [this]; simp

section Overlap
variable (x : FVec Ideal S1x16x5 .f32) (q1 q2 q3 q4 : FVec Ideal S1x8732 .f32)

/-- One image's truths, read off its block. -/
def truths (o : Fin 16) (k : Fin 5) : EReal := x (ix3 0 o k)

/-- The priors, read off their four rows. -/
def priors (p : Fin 8732) : Fin 4 → EReal := ![q1 (ix2 0 p), q2 (ix2 0 p), q3 (ix2 0 p), q4 (ix2 0 p)]

theorem overlap_at (o : Fin 16) (p : Fin 8732) :
    k0_pay18 (F := Ideal) (k0_pay4 x) (k0_pay5 x) (k0_pay6 x) (k0_pay7 x) (k0_pay12 q1 q3) (k0_pay13 q2 q4) (k0_pay14 q1 q3)
      (k0_pay15 q2 q4) (k0_pay16 x q1 q3) (k0_pay17 x q2 q4) (Scalar.ofBits (F := Ideal) .f32 0x00000000#32) (ix2 o p)
      = overlaps (truths x) (priors q1 q2 q3 q4) o p := by
  pointwise [k0_pay18, k0_pay17, k0_pay16, k0_pay15, k0_pay14, k0_pay13, k0_pay12, k0_pay11, k0_pay10, k0_pay9, k0_pay8,
    k0_pay7, k0_pay6, k0_pay5, k0_pay4, k0_pay3]
  simp only [overlaps, iou, shared, truths, priors, half, Matrix.cons_val]

end Overlap

section Match
variable (v2 v3 v4 v5 : FVec Ideal S16x1 .f32) (v16 v19 v22 v25 : FVec Ideal S1x8732 .f32)
  (v34 v41 : FVec Ideal S16x8732 .f32) (z : Ideal .f32) (v : Fin 16 → Fin 8732 → EReal)
  (hv : ∀ o p, k0_pay18 v2 v3 v4 v5 v16 v19 v22 v25 v34 v41 z (ix2 o p) = v o p)
include hv

theorem colTop_at (p : Fin 8732) : k0_pay19 v2 v3 v4 v5 v16 v19 v22 v25 v34 v41 z (ix2 0 p) = colTop v p := by
  pointwise [k0_pay19]
  simp only [hv]
  rw [negInf_eq]; rfl

theorem rowTop_at (o : Fin 16) : k0_pay20 v2 v3 v4 v5 v16 v19 v22 v25 v34 v41 z (ix2 o 0) = rowTop v o := by
  pointwise [k0_pay20]
  simp only [hv]
  rw [negInf_eq]; rfl

open Classical in
theorem forcedIdx_at (p : Fin 8732) : k0_pay21 v2 v3 v4 v5 v16 v19 v22 v25 v34 v41 z (ix2 0 p)
    = if Forced v p then BitVec.ofNat 32 (owner v p).val else 4294967295#32 := by
  pointwise [k0_pay21]
  simp only [hv, rowTop_at v2 v3 v4 v5 v16 v19 v22 v25 v34 v41 z v hv]
  have h1 : ∀ o : Fin 16, Scalar.select (IntOp.cmpi CmpIPredicate.eq (BitVec.ofNat 32 p.val)
      (Finset.fold IntOp.minsi (2147483647#32) (fun j : Fin 8732 => if v o j = rowTop v o then BitVec.ofNat 32 j.val else 8732#32)
        Finset.univ)) (BitVec.ofNat 32 o.val) (4294967295#32) = if Best v o p then BitVec.ofNat 32 o.val else 4294967295#32 := by
    intro o
    obtain ⟨b, hb⟩ := exists_best v o
    rw [fold_first (by norm_num) (fun j => v o j = rowTop v o) hb, cmpi_eq_eq, select_ofBool]
    have hp := p.isLt
    have hbl := b.isLt
    have : (BitVec.ofNat 32 p.val = BitVec.ofNat 32 b.val) ↔ Best v o p := by
      constructor
      · intro h
        have := congrArg BitVec.toNat h
        simp only [BitVec.toNat_ofNat] at this
        have : p = b := Fin.ext (by omega)
        rw [this]; exact hb
      · intro h; rw [h.unique hb]
    simp only [decide_eq_true_eq, this]
  rw [Finset.fold_congr fun o _ => h1 o]
  by_cases hf : Forced v p
  · rw [if_pos hf]
    rcases owner_owns v p with h | ⟨h, -⟩
    · exact fold_last (by norm_num) (fun o => Best v o p) h
    · exact absurd hf h
  · rw [if_neg hf]
    exact fold_last_none (fun o => Best v o p) hf

open Classical in
theorem forced_at (p : Fin 8732) : k0_pay22 v2 v3 v4 v5 v16 v19 v22 v25 v34 v41 z (ix2 0 p)
    = BitVec.ofBool (decide (Forced v p)) := by
  pointwise [k0_pay22]
  rw [forcedIdx_at v2 v3 v4 v5 v16 v19 v22 v25 v34 v41 z v hv, cmpi_sge_eq]
  have ho := (owner v p).isLt
  by_cases hf : Forced v p
  · rw [if_pos hf, toInt_ofNat (n := (owner v p).val) (by omega)]; simp [hf]
  · rw [if_neg hf]
    have hm : (4294967295#32).toInt = -1 := by decide
    rw [hm]; simp [hf]

open Classical in
theorem oneHot_at (o : Fin 16) (p : Fin 8732) : k0_pay23 v2 v3 v4 v5 v16 v19 v22 v25 v34 v41 z (ix2 o p)
    = if o = owner v p then 1 else 0 := by
  pointwise [k0_pay23]
  rw [forced_at v2 v3 v4 v5 v16 v19 v22 v25 v34 v41 z v hv, forcedIdx_at v2 v3 v4 v5 v16 v19 v22 v25 v34 v41 z v hv, select_ofBool]
  simp only [hv, colTop_at v2 v3 v4 v5 v16 v19 v22 v25 v34 v41 z v hv]
  have hsel : (if decide (Forced v p) = true then (if Forced v p then BitVec.ofNat 32 (owner v p).val else 4294967295#32)
      else Finset.fold IntOp.minsi (2147483647#32) (fun x : Fin 16 => if v x p = colTop v p then BitVec.ofNat 32 x.val else 16#32) Finset.univ)
      = BitVec.ofNat 32 (owner v p).val := by
    by_cases hf : Forced v p
    · simp [hf]
    · rcases owner_owns v p with h | ⟨-, h⟩
      · exact absurd ⟨_, h.1⟩ hf
      · rw [if_neg (by simpa using hf)]
        exact fold_first (by norm_num) (fun o => v o p = colTop v p) h
  rw [hsel, cmpi_eq_eq, sitofp_bit]
  have ho := (owner v p).isLt
  have ho' := o.isLt
  have : (BitVec.ofNat 32 o.val = BitVec.ofNat 32 (owner v p).val) ↔ o = owner v p := by
    constructor
    · intro h
      have := congrArg BitVec.toNat h
      simp only [BitVec.toNat_ofNat] at this
      exact Fin.ext (by omega)
    · intro h; rw [h]
  simp only [decide_eq_true_eq, this]

open Classical in
/-- The first five columns of the table are the truths. -/
theorem table_truth (v1 : FVec Ideal S16x5 .f32) (o : Fin 16) (k : Fin 5) (k' : Fin 6) (hk : k'.val = k.val) :
    k0_pay24 v1 v2 v3 v4 v5 v16 v19 v22 v25 v34 v41 z (ix2 o k') = v1 (ix2 o k) := by
  unfold k0_pay24
  refine concatenate_pair_apply_left (s₁ := S16x5) (s₂ := S16x1) (1 : Fin S16x6.rank) _ _ _ _ rfl (ix2 o k) fun b => ?_
  match b with
  | ⟨0, _⟩ => rfl
  | ⟨1, _⟩ => exact hk.symm

open Classical in
/-- The sixth is one where the truth's greatest overlap reaches one half. -/
theorem table_ok (v1 : FVec Ideal S16x5 .f32) (o : Fin 16) :
    k0_pay24 v1 v2 v3 v4 v5 v16 v19 v22 v25 v34 v41 z (ix2 o 5) = if half ≤ rowTop v o then 1 else 0 := by
  unfold k0_pay24
  refine (concatenate_pair_apply_right (s₁ := S16x5) (s₂ := S16x1) (1 : Fin S16x6.rank) _ _ _ _ rfl rfl (ix2 o (0 : Fin 1)) (fun b hb => ?_) rfl).trans ?_
  · match b with
    | ⟨0, _⟩ => rfl
    | ⟨1, _⟩ => exact absurd rfl hb
  · pointwise
    rw [rowTop_at v2 v3 v4 v5 v16 v19 v22 v25 v34 v41 z v hv, sitofp_bit]
    simp only [decide_eq_true_eq, half]
    congr

end Match

/-- The product with a one-hot column picks a row of the table. -/
theorem dot_at (v86 : FVec Ideal S16x8732 .f32) (v91 : FVec Ideal S16x6 .f32) (k : Fin 6) (p : Fin 8732) (o : Fin 16)
    (h : ∀ o', v86 (ix2 o' p) = if o' = o then 1 else 0) : k0_pay25 v86 v91 (ix2 k p) = v91 (ix2 o k) := by
  pointwise [k0_pay25]
  simp only [h]
  exact sum_pick (fun o' => v91 (ix2 o' k)) o

section Class
variable (t : Fin 16 → Fin 5 → EReal) (v : Fin 16 → Fin 8732 → EReal)
  (v59 : FVec Ideal S1x8732 .f32) (v81 : IVec S1x8732 1) (v86 : FVec Ideal S16x8732 .f32) (v91 : FVec Ideal S16x6 .f32)
  (p : Fin 8732) (h86 : ∀ o, v86 (ix2 o p) = if o = owner v p then 1 else 0)
  (h91 : ∀ (o : Fin 16) (k : Fin 5) (k' : Fin 6), k'.val = k.val → v91 (ix2 o k') = t o k)
include h86 h91

theorem row_at (k : Fin 5) (k' : Fin 6) (hk : k'.val = k.val) : k0_pay25 v86 v91 (ix2 k' p) = t (owner v p) k :=
  (dot_at v86 v91 k' p _ h86).trans (h91 _ k k' hk)

open Classical in
/-- The class the kernel computes is the label. -/
theorem label_at (h59 : v59 (ix2 0 p) = colTop v p) (h81 : v81 (ix2 0 p) = BitVec.ofBool (decide (Forced v p)))
    (hok : ∀ o, v91 (ix2 o 5) = if half ≤ rowTop v o then 1 else 0) :
    k0_pay30 v59 v81 v86 v91 (ix2 0 p) = label t v p := by
  have h5 : k0_pay25 v86 v91 (ix2 5 p) = if half ≤ rowTop v (owner v p) then 1 else 0 := (dot_at v86 v91 5 p _ h86).trans (hok _)
  have h4 : k0_pay25 v86 v91 (ix2 4 p) = t (owner v p) 4 := row_at t v v86 v91 p h86 h91 4 4 rfl
  have h11 : (1 : EReal) - 1 = 0 := by rw [← EReal.coe_one, ← EReal.coe_sub, sub_self, EReal.coe_zero]
  pointwise [k0_pay30]
  rw [h81, sitofp_bit, sitofp_bit, h59, h5, h4]
  simp only [decide_eq_true_eq, label, quality]
  rw [← half]
  by_cases hf : Forced v p
  · simp only [if_pos hf, h11, zero_mul, add_zero, one_mul]
    by_cases hq : half ≤ rowTop v (owner v p)
    · rw [if_pos hq, if_neg (not_lt.2 hq), mul_one]
    · rw [if_neg hq, if_pos (not_le.1 hq), mul_zero]
  · simp only [if_neg hf, sub_zero, zero_mul, zero_add, one_mul]
    by_cases hq : half ≤ colTop v p
    · rw [if_pos hq, if_neg (not_lt.2 hq), mul_one]
    · rw [if_neg hq, if_pos (not_le.1 hq), mul_zero]

/-- A prior is positive where its class is. -/
theorem pos_at (h : k0_pay30 v59 v81 v86 v91 (ix2 0 p) = label t v p) :
    k0_pay31 v59 v81 v86 v91 (ix2 0 p) = BitVec.ofBool (decide (0 < label t v p)) := by
  pointwise [k0_pay31]
  rw [h]

/-- The regression loss of one prior. -/
theorem loss_at (c1 c2 c3 c4 : FVec Ideal S1x8732 .f32) (x : FVec Ideal S1x4x8732 .f32) (q : Fin 4 → EReal)
    (h1 : c1 (ix2 0 p) = q 0) (h2 : c2 (ix2 0 p) = q 1) (h3 : c3 (ix2 0 p) = q 2) (h4 : c4 (ix2 0 p) = q 3) :
    k0_pay36 (k0_pay32 c1 c3 v86 v91) (k0_pay33 c2 c4 v86 v91) (k0_pay34 c3 v86 v91) (k0_pay35 c4 v86 v91) x (ix2 0 p)
      = ∑ k : Fin 4, smooth (x (ix3 0 k p) - target (t (owner v p)) q k) := by
  have r := row_at t v v86 v91 p h86 h91
  have r0 : k0_pay25 v86 v91 (ix2 0 p) = t (owner v p) 0 := r 0 0 rfl
  have r1 : k0_pay25 v86 v91 (ix2 1 p) = t (owner v p) 1 := r 1 1 rfl
  have r2 : k0_pay25 v86 v91 (ix2 2 p) = t (owner v p) 2 := r 2 2 rfl
  have r3 : k0_pay25 v86 v91 (ix2 3 p) = t (owner v p) 3 := r 3 3 rfl
  have e0 : k0_pay32 c1 c3 v86 v91 (ix2 0 p) = target (t (owner v p)) q 0 := by
    pointwise [k0_pay32, k0_pay26, k0_pay28]; rw [r0, r2, h1, h3]; rfl
  have e1 : k0_pay33 c2 c4 v86 v91 (ix2 0 p) = target (t (owner v p)) q 1 := by
    pointwise [k0_pay33, k0_pay27, k0_pay29]; rw [r1, r3, h2, h4]; rfl
  have e2 : k0_pay34 c3 v86 v91 (ix2 0 p) = target (t (owner v p)) q 2 := by
    pointwise [k0_pay34, k0_pay26, k0_pay28]; rw [r0, r2, h3]; rfl
  have e3 : k0_pay35 c4 v86 v91 (ix2 0 p) = target (t (owner v p)) q 3 := by
    pointwise [k0_pay35, k0_pay27, k0_pay29]; rw [r1, r3, h4]; rfl
  pointwise [k0_pay36]
  rw [e0, e1, e2, e3, Fin.sum_univ_four]
  rfl

end Class

/-- An image's statistics: lane 0 is the sum of its positive priors' losses. -/
theorem stats_loss (v113 : IVec S1x8732 1) (v186 : FVec Ideal S1x8732 .f32) (P : Fin 8732 → Prop) [DecidablePred P]
    (h : ∀ p : Fin 8732, v113 (ix2 0 p) = BitVec.ofBool (decide (P p))) :
    k0_pay2 v113 v186 (ix3 0 0 0) = ∑ p : Fin 8732, if P p then v186 (ix2 0 p) else 0 := by
  pointwise [k0_pay2]
  simp only [h, select_decide, Finset.univ_unique, Finset.sum_singleton]

/-- Lane 2 is their number. -/
theorem stats_count (v113 : IVec S1x8732 1) (v186 : FVec Ideal S1x8732 .f32) (P : Fin 8732 → Prop) [DecidablePred P]
    (h : ∀ p : Fin 8732, v113 (ix2 0 p) = BitVec.ofBool (decide (P p))) :
    k0_pay2 v113 v186 (ix3 0 0 2) = (((Finset.univ.filter P).card : ℕ) : EReal) := by
  pointwise [k0_pay2]
  rw [cmpi_eq_ofNat (w := 32) (a := 2) (b := 0) (by norm_num) (by norm_num), select_ofBool, if_neg (by decide)]
  simp only [h, sitofp_bit, decide_eq_true_eq, Finset.univ_unique, Finset.sum_singleton, Finset.sum_boole]

end Cert.Proof.KMatch
end
-- ==== Proof.KConf.lean ====
/- What the confidence kernel's values are at an index: the cross-entropy of every prior and the positives' sum. -/
module

public import proofs.«01_k».proof.Proof.Gen.KernelIdeal.Skeleton
public import proofs.«01_k».proof.Proof.Spec
public import Idealize.ShloMosaic.Lib.Pointwise
public import Idealize.ShloMosaic.Lib.WordCmp

@[expose] public section

set_option maxRecDepth 16384

noncomputable section

namespace Cert.Proof.KConf

open Idealize.ShloMosaic Idealize.ShloMosaic.WordCmp Cert.KernelIdeal Cert.KernelIdeal.Gen Cert.Proof.Spec

section
variable (c : FVec Ideal S1x1x8732 .f32) (x : FVec Ideal S1x21x8732 .f32)

/-- The cross-entropy of one prior, about the greatest entry of its class vector. -/
theorem entropy_at (p : Fin 8732) : k1_pay4 (F := Ideal) c x (ix2 0 p)
    = entropy (fun k => x (ix3 0 k p)) (top fun k => x (ix3 0 k p)) (FloatOps.fptosi (F := Ideal) (φ := .f32) 32 (c (ix3 0 0 p))) := by
  pointwise [k1_pay4, k1_pay2]
  simp only [entropy, pick, cmpi_eq_eq, select_decide, negInf_eq]
  rfl

theorem pos_at (p : Fin 8732) : k1_pay3 (F := Ideal) c (ix2 0 p) = BitVec.ofBool (decide (0 < c (ix3 0 0 p))) := by
  pointwise [k1_pay3, k1_pay2]

/-- The mined loss: zero at a positive prior, else the cross-entropy. -/
theorem mine_at (p : Fin 8732) : k1_pay5 c x (ix3 0 0 p) = if 0 < c (ix3 0 0 p) then 0 else k1_pay4 (F := Ideal) c x (ix2 0 p) := by
  pointwise [k1_pay5]
  rw [pos_at, select_decide]

/-- The sum of the positive priors' cross-entropies. -/
theorem posSum_eq : k1_pay6 (F := Ideal) c x = ∑ p : Fin 8732, if 0 < c (ix3 0 0 p) then k1_pay4 (F := Ideal) c x (ix2 0 p) else 0 := by
  pointwise [k1_pay6]
  simp only [pos_at, select_decide, Finset.univ_unique, Finset.sum_singleton]

end

/-- Lane 1 of an image's statistics holds the sum. -/
theorem stats_at (v z : Ideal .f32) : k1_pay1 v k1_pay7 z (ix3 0 0 1) = v := by
  pointwise [k1_pay1, k1_pay7]

end Cert.Proof.KConf
end
-- ==== Proof.KBlock.lean ====
/- What the first two kernels leave in their output blocks, from their input blocks: the class row and the statistics of
   one image, the mined losses and the positives' sum of one image. -/
module

public import proofs.«01_k».proof.Proof.Gen.KernelIdeal.Frame
public import proofs.«01_k».proof.Proof.KMatch
public import proofs.«01_k».proof.Proof.KConf

@[expose] public section

set_option maxRecDepth 16384

noncomputable section

namespace Cert.Proof.KBlock

open Idealize.ShloMosaic Idealize.ShloMosaic.WordCmp Cert.KernelIdeal Cert.KernelIdeal.Gen Cert.Proof.Spec Cert.Proof.KMatch

section Match
variable (x0 : Vec Ideal S1x4x8732 .f32) (x1 : Vec Ideal S4x8732 .f32) (x2 : Vec Ideal S1x16x5 .f32)

/-- The priors, read off the block of their four rows. -/
def rows (p : Fin 8732) (k : Fin 4) : EReal := x1 (ix2 k p)

theorem priors_eq : priors (View.ld x1 r0_1) (View.ld x1 r0_2) (View.ld x1 r0_3) (View.ld x1 r0_4) = rows x1 := by
  funext p k
  unfold priors
  pointwise []
  match k with
  | 0 | 1 | 2 | 3 => rfl

theorem ld_truths : View.ld x2 r0_0 = x2 := View.ld_unit_zero (by decide) _ _
theorem ld_loc : View.ld x0 r0_5 = x0 := View.ld_unit_zero (by decide) _ _

/-- The overlaps of the image. -/
def over : Fin 16 → Fin 8732 → EReal := overlaps (truths x2) (rows x1)

theorem over_at (o : Fin 16) (p : Fin 8732) :
    k0_pay18 (k0_pay37 x0 x1 x2) (k0_pay38 x0 x1 x2) (k0_pay39 x0 x1 x2) (k0_pay40 x0 x1 x2) (k0_pay43 x0 x1 x2) (k0_pay44 x0 x1 x2)
      (k0_pay45 x0 x1 x2) (k0_pay46 x0 x1 x2) (k0_pay47 x0 x1 x2) (k0_pay48 x0 x1 x2) (Scalar.ofBits .f32 0x00000000#32) (ix2 o p)
      = over x1 x2 o p := by
  have h := overlap_at (View.ld x2 r0_0) (View.ld x1 r0_1) (View.ld x1 r0_2) (View.ld x1 r0_3) (View.ld x1 r0_4) o p
  rw [priors_eq] at h
  rw [ld_truths] at h
  refine Eq.trans ?_ h
  unfold k0_pay37 k0_pay38 k0_pay39 k0_pay40 k0_pay43 k0_pay44 k0_pay45 k0_pay46 k0_pay47 k0_pay48
  rw [ld_truths]

theorem hot_at (o : Fin 16) (p : Fin 8732) : k0_pay51 x0 x1 x2 (ix2 o p) = if o = owner (over x1 x2) p then 1 else 0 :=
  oneHot_at _ _ _ _ _ _ _ _ _ _ _ _ (over_at x0 x1 x2) o p

theorem table_at (o : Fin 16) (k : Fin 5) (k' : Fin 6) (hk : k'.val = k.val) : k0_pay52 x0 x1 x2 (ix2 o k') = truths x2 o k := by
  refine (table_truth _ _ _ _ _ _ _ _ _ _ _ _ (over_at x0 x1 x2) _ o k k' hk).trans ?_
  rw [ld_truths]
  pointwise [k0_pay3]
  rfl

theorem ok_at (o : Fin 16) : k0_pay52 x0 x1 x2 (ix2 o 5) = if half ≤ rowTop (over x1 x2) o then 1 else 0 :=
  table_ok _ _ _ _ _ _ _ _ _ _ _ _ (over_at x0 x1 x2) _ o

theorem class_at (p : Fin 8732) : k0_pay30 (k0_pay49 x0 x1 x2) (k0_pay50 x0 x1 x2) (k0_pay51 x0 x1 x2) (k0_pay52 x0 x1 x2) (ix2 0 p)
    = label (truths x2) (over x1 x2) p :=
  label_at _ _ _ _ _ _ p (fun o => hot_at x0 x1 x2 o p) (table_at x0 x1 x2)
    (colTop_at _ _ _ _ _ _ _ _ _ _ _ _ (over_at x0 x1 x2) p) (forced_at _ _ _ _ _ _ _ _ _ _ _ _ (over_at x0 x1 x2) p) (ok_at x0 x1 x2)

/-- The class block holds every prior's label. -/
theorem out_class (p : Fin 8732) : out0_3 x0 x1 x2 (ix3 0 0 p) = label (truths x2) (over x1 x2) p := by
  unfold out0_3
  rw [View.canon_unit_zero (by decide)]
  pointwise [k0_pay1]
  exact class_at x0 x1 x2 p

theorem positive_at (p : Fin 8732) : k0_pay31 (k0_pay49 x0 x1 x2) (k0_pay50 x0 x1 x2) (k0_pay51 x0 x1 x2) (k0_pay52 x0 x1 x2) (ix2 0 p)
    = BitVec.ofBool (decide (0 < label (truths x2) (over x1 x2) p)) :=
  pos_at _ _ _ _ _ _ p (fun o => hot_at x0 x1 x2 o p) (table_at x0 x1 x2) (class_at x0 x1 x2 p)

/-- Lane 0 of the statistics block: the positive priors' regression loss. -/
theorem out_loss : out0_4 x0 x1 x2 (ix3 0 0 0) = ∑ p : Fin 8732, if 0 < label (truths x2) (over x1 x2) p then
    ∑ k : Fin 4, smooth (x0 (ix3 0 k p) - target (truths x2 (owner (over x1 x2) p)) (rows x1 p) k) else 0 := by
  unfold out0_4
  rw [View.canon_unit_zero (by decide)]
  refine (stats_loss _ _ (fun p => 0 < label (truths x2) (over x1 x2) p) fun p => positive_at x0 x1 x2 p).trans ?_
  refine Finset.sum_congr rfl fun p _ => ?_
  split_ifs with h
  · have h1 : ∀ p, k0_pay8 (View.ld x1 r0_1) (ix2 0 p) = rows x1 p 0 := fun p => by pointwise [k0_pay8]; rfl
    have h2 : ∀ p, k0_pay9 (View.ld x1 r0_2) (ix2 0 p) = rows x1 p 1 := fun p => by pointwise [k0_pay9]; rfl
    have h3 : ∀ p, k0_pay41 x0 x1 x2 (ix2 0 p) = rows x1 p 2 := fun p => by pointwise [k0_pay41, k0_pay10]; rfl
    have h4 : ∀ p, k0_pay42 x0 x1 x2 (ix2 0 p) = rows x1 p 3 := fun p => by pointwise [k0_pay42, k0_pay11]; rfl
    rw [ld_loc]
    exact loss_at _ _ _ _ p (fun o => hot_at x0 x1 x2 o p) (table_at x0 x1 x2) _ _ _ _ x0 (rows x1 p) (h1 p) (h2 p) (h3 p) (h4 p)
  · rfl

/-- Lane 2: how many they are. -/
theorem out_count : out0_4 x0 x1 x2 (ix3 0 0 2)
    = (((Finset.univ.filter fun p => 0 < label (truths x2) (over x1 x2) p).card : ℕ) : EReal) := by
  unfold out0_4
  rw [View.canon_unit_zero (by decide)]
  exact stats_count _ _ (fun p => 0 < label (truths x2) (over x1 x2) p) fun p => positive_at x0 x1 x2 p

end Match

section Conf
variable (x0 : Vec Ideal S1x21x8732 .f32) (x1 : Vec Ideal S1x1x8732 .f32)

/-- The cross-entropy of prior `p`, about its greatest entry, at the class the class row names. -/
def loss (p : Fin 8732) : EReal :=
  entropy (fun k => x0 (ix3 0 k p)) (top fun k => x0 (ix3 0 k p)) (FloatOps.fptosi (F := Ideal) (φ := .f32) 32 (x1 (ix3 0 0 p)))

/-- The mined losses: zero at positive priors. -/
theorem out_mine (p : Fin 8732) : out1_2 x0 x1 (ix3 0 0 p) = if 0 < x1 (ix3 0 0 p) then 0 else loss x0 x1 p := by
  unfold out1_2
  rw [View.canon_unit_zero (by decide), View.ld_unit_zero (by decide), View.ld_unit_zero (by decide), KConf.mine_at, KConf.entropy_at]
  rfl

/-- Lane 1 of the statistics block: the positive priors' cross-entropies. -/
theorem out_posSum : out1_3 x0 x1 (ix3 0 0 1) = ∑ p : Fin 8732, if 0 < x1 (ix3 0 0 p) then loss x0 x1 p else 0 := by
  unfold out1_3
  rw [View.canon_unit_zero (by decide), KConf.stats_at, View.ld_unit_zero (by decide), View.ld_unit_zero (by decide), KConf.posSum_eq]
  simp only [KConf.entropy_at]
  rfl

end Conf

end Cert.Proof.KBlock
end
-- ==== Proof.KRegions.lean ====
/- What the first two kernels leave in their output arrays, from the arrays they read. -/
module

public import proofs.«01_k».proof.Proof.KBlock
public import Idealize.ShloMosaic.Lib.Pipeline.ValueKit

@[expose] public section

set_option maxRecDepth 16384

noncomputable section

namespace Cert.Proof.KRegions

open Idealize.ShloMosaic Idealize.ShloMosaic.TcCoe Idealize.ShloMosaic.WordCmp Cert.KernelIdeal Cert.KernelIdeal.Gen Cert.Proof.Spec
open Idealize.ShloMosaic.Pipeline (Dat)

variable (V : (c : Dev nD) → (b : Ref sig .tc) → Buf (Elt Ideal) ((c : Thread nD τ).loc b)) (c : Dev nD)

/-- The grid point of image `b`, in either kernel. -/
def pt0 (b : Fin 32) : Fin cfg0.N := ⟨b.val, b.isLt⟩
def pt1 (b : Fin 32) : Fin cfg1.N := ⟨b.val, b.isLt⟩

/-! ### Every window's block index -/

theorem idx0_0 : ∀ b : Fin 32, win0_0.index (pt0 b) = ![b.val, 0, 0] := by decide +kernel
theorem idx0_1 : ∀ b : Fin 32, win0_1.index (pt0 b) = ![0, 0] := by decide +kernel
theorem idx0_2 : ∀ b : Fin 32, win0_2.index (pt0 b) = ![b.val, 0, 0] := by decide +kernel
theorem idx0_3 : ∀ b : Fin 32, win0_3.index (pt0 b) = ![b.val, 0, 0] := by decide +kernel
theorem idx0_4 : ∀ b : Fin 32, win0_4.index (pt0 b) = ![b.val, 0, 0] := by decide +kernel
theorem idx1_0 : ∀ b : Fin 32, win1_0.index (pt1 b) = ![b.val, 0, 0] := by decide +kernel
theorem idx1_1 : ∀ b : Fin 32, win1_1.index (pt1 b) = ![b.val, 0, 0] := by decide +kernel
theorem idx1_2 : ∀ b : Fin 32, win1_2.index (pt1 b) = ![b.val, 0, 0] := by decide +kernel
theorem idx1_3 : ∀ b : Fin 32, win1_3.index (pt1 b) = ![b.val, 0, 0] := by decide +kernel

/-! ### The input blocks -/

theorem loc_block (b : Fin 32) (k : Fin 4) (p : Fin 8732) : iblk0 V c 0 (pt0 b) (ix3 0 k p) = V c main_v0 (ix3 b k p) := by
  blk_simp [iblk0]
  congr 1
  blk_ext [idx0_0 b]

theorem prior_block (b : Fin 32) (k : Fin 4) (p : Fin 8732) : iblk0 V c 1 (pt0 b) (ix2 k p) = V c main_v2 (ix2 k p) := by
  blk_simp [iblk0]
  congr 1
  blk_ext [idx0_1 b]

theorem truth_block (b : Fin 32) (o : Fin 16) (k : Fin 5) : iblk0 V c 2 (pt0 b) (ix3 0 o k) = V c main_arg3 (ix3 b o k) := by
  blk_simp [iblk0]
  congr 1
  blk_ext [idx0_2 b]

theorem conf_block (b : Fin 32) (k : Fin 21) (p : Fin 8732) : iblk1 V c 0 (pt1 b) (ix3 0 k p) = V c main_v1 (ix3 b k p) := by
  blk_simp [iblk1]
  congr 1
  blk_ext [idx1_0 b]

theorem class_block (b : Fin 32) (p : Fin 8732) : iblk1 V c 1 (pt1 b) (ix3 0 0 p) = V c main_v3_0 (ix3 b 0 p) := by
  blk_simp [iblk1]
  congr 1
  blk_ext [idx1_1 b]

/-! ### The output arrays, from the blocks -/

theorem class_arr (b : Fin 32) (p : Fin 8732) : (dat0 V c).arrAt 3 cfg0.N (ix3 b 0 p)
    = out0_3 (iblk0 V c 0 (pt0 b)) (iblk0 V c 1 (pt0 b)) (iblk0 V c 2 (pt0 b)) (ix3 0 0 p) := by
  have h := (dat0 V c).arrAt_emb_eq_flushed 3 (Pipeline.Window.hdisj_of_index_inj _ (by decide +kernel)) (pt0 b) (flush0_3 _) (ix3 0 0 p)
  blk_simp at h
  rw [after0_3] at h
  refine Eq.trans ?_ h
  congr 1
  blk_ext [idx0_3 b]

theorem stats_arr (b : Fin 32) (l : Fin 128) : (dat0 V c).arrAt 4 cfg0.N (ix3 b 0 l)
    = out0_4 (iblk0 V c 0 (pt0 b)) (iblk0 V c 1 (pt0 b)) (iblk0 V c 2 (pt0 b)) (ix3 0 0 l) := by
  have h := (dat0 V c).arrAt_emb_eq_flushed 4 (Pipeline.Window.hdisj_of_index_inj _ (by decide +kernel)) (pt0 b) (flush0_4 _) (ix3 0 0 l)
  blk_simp at h
  rw [after0_4] at h
  refine Eq.trans ?_ h
  congr 1
  blk_ext [idx0_4 b]

theorem mine_arr (b : Fin 32) (p : Fin 8732) : (dat1 V c).arrAt 2 cfg1.N (ix3 b 0 p)
    = out1_2 (iblk1 V c 0 (pt1 b)) (iblk1 V c 1 (pt1 b)) (ix3 0 0 p) := by
  have h := (dat1 V c).arrAt_emb_eq_flushed 2 (Pipeline.Window.hdisj_of_index_inj _ (by decide +kernel)) (pt1 b) (flush1_2 _) (ix3 0 0 p)
  blk_simp at h
  rw [after1_2] at h
  refine Eq.trans ?_ h
  congr 1
  blk_ext [idx1_2 b]

theorem posStats_arr (b : Fin 32) (l : Fin 128) : (dat1 V c).arrAt 3 cfg1.N (ix3 b 0 l)
    = out1_3 (iblk1 V c 0 (pt1 b)) (iblk1 V c 1 (pt1 b)) (ix3 0 0 l) := by
  have h := (dat1 V c).arrAt_emb_eq_flushed 3 (Pipeline.Window.hdisj_of_index_inj _ (by decide +kernel)) (pt1 b) (flush1_3 _) (ix3 0 0 l)
  blk_simp at h
  rw [after1_3] at h
  refine Eq.trans ?_ h
  congr 1
  blk_ext [idx1_3 b]

end Cert.Proof.KRegions
end
-- ==== Proof.TopK.lean ====
/- The sum of the k largest values of a row, found by a threshold on each value's rank code, is the sum of the values
   whose place in a descending order of the row is below k. -/
module

public import Idealize.ShloMosaic.Lib.Pointwise

@[expose] public section

noncomputable section

namespace Cert.Proof.TopK

variable {n : ℕ}

/-- The rank code of entry `p`: how many entries of the row are smaller. -/
def code (x : Fin n → ℝ) (p : Fin n) : ℕ := (Finset.univ.filter fun q => x q < x p).card

/-- A smaller value has a smaller code. -/
theorem code_lt (x : Fin n → ℝ) {p q : Fin n} (h : x p < x q) : code x p < code x q := by
  refine Finset.card_lt_card ⟨fun a ha => ?_, fun hs => ?_⟩
  · simp only [Finset.mem_filter, Finset.mem_univ, true_and] at ha ⊢
    exact ha.trans h
  · have : p ∈ Finset.univ.filter fun a => x a < x p := hs (by simpa using h)
    simp at this

/-- Codes order the row as its values do. -/
theorem code_le (x : Fin n → ℝ) {p q : Fin n} : code x p ≤ code x q ↔ x p ≤ x q := by
  constructor
  · intro h; by_contra hx; exact absurd (code_lt x (not_le.1 hx)) (not_lt.2 h)
  · intro h
    refine Finset.card_le_card fun a ha => ?_
    simp only [Finset.mem_filter, Finset.mem_univ, true_and] at ha ⊢
    exact lt_of_lt_of_le ha h

theorem code_lt_iff (x : Fin n → ℝ) {p q : Fin n} : code x p < code x q ↔ x p < x q := by
  rw [← not_le, ← not_le, code_le]

/-- A code is below the length of the row. -/
theorem code_lt_n (x : Fin n → ℝ) (p : Fin n) : code x p < n := by
  have h : (Finset.univ.filter fun q => x q < x p) ⊂ Finset.univ :=
    ⟨Finset.subset_univ _, fun hs => by have := hs (Finset.mem_univ p); simp at this⟩
  simpa [code] using Finset.card_lt_card h

/-- As many places are below `k` as `k` says. -/
theorem card_place (r : Fin n → Fin n) (hr : Function.Injective r) {k : ℕ} (hk : k ≤ n) :
    (Finset.univ.filter fun p => (r p).val < k).card = k := by
  have hb : Function.Bijective r := Finite.injective_iff_bijective.1 hr
  rw [← Finset.card_map ⟨r, hr⟩]
  have : (Finset.univ.filter fun p => (r p).val < k).map ⟨r, hr⟩ = Finset.univ.filter fun q : Fin n => q.val < k := by
    ext q
    simp only [Finset.mem_map, Finset.mem_filter, Finset.mem_univ, true_and, Function.Embedding.coeFn_mk]
    constructor
    · rintro ⟨p, hp, rfl⟩; exact hp
    · intro hq; obtain ⟨p, rfl⟩ := hb.2 q; exact ⟨p, hq, rfl⟩
  rw [this]
  have h2 : (Finset.univ.filter fun q : Fin n => q.val < k).map Fin.valEmbedding = Finset.range k := by
    ext a
    simp only [Finset.mem_map, Finset.mem_filter, Finset.mem_univ, true_and, Fin.valEmbedding_apply, Finset.mem_range]
    constructor
    · rintro ⟨p, hp, rfl⟩; exact hp
    · intro ha; exact ⟨⟨a, by omega⟩, ha, rfl⟩
  rw [← Finset.card_map Fin.valEmbedding, h2, Finset.card_range]

/-- Between a threshold reached by `k` codes or more and one reached by fewer lies an entry of that code. -/
theorem exists_code_eq (x : Fin n → ℝ) {lo k : ℕ} (h1 : k ≤ (Finset.univ.filter fun p => lo ≤ code x p).card)
    (h2 : (Finset.univ.filter fun p => lo < code x p).card < k) : ∃ p, code x p = lo := by
  by_contra hne
  push Not at hne
  have : (Finset.univ.filter fun p => lo ≤ code x p) = Finset.univ.filter fun p => lo < code x p := by
    ext p
    simp only [Finset.mem_filter, Finset.mem_univ, true_and]
    exact ⟨fun h => lt_of_le_of_ne h (Ne.symm (hne p)), le_of_lt⟩
  rw [this] at h1
  omega

/-- The sum over the first `k` places of a descending order is the sum of the entries above the threshold and the
    threshold's value once for every place left. -/
theorem sum_places (x : Fin n → ℝ) (r : Fin n → Fin n) (hr : Function.Injective r)
    (hdesc : ∀ p q, x q < x p → r p < r q) {lo k : ℕ} (hk : k ≤ n)
    (h1 : k ≤ (Finset.univ.filter fun p => lo ≤ code x p).card)
    (h2 : (Finset.univ.filter fun p => lo < code x p).card < k) {p0 : Fin n} (h0 : code x p0 = lo) :
    ∑ p ∈ Finset.univ.filter (fun p => (r p).val < k), x p
      = ∑ p ∈ Finset.univ.filter (fun p => lo < code x p), x p
        + ((k : ℝ) - ((Finset.univ.filter fun p => lo < code x p).card : ℝ)) * x p0 := by
  set G := Finset.univ.filter fun p => lo < code x p with hG
  set R := Finset.univ.filter fun p => (r p).val < k with hR
  have hRk : R.card = k := card_place r hr hk
  have hgt : ∀ p, p ∈ G ↔ x p0 < x p := fun p => by
    simp only [hG, Finset.mem_filter, Finset.mem_univ, true_and]; rw [← h0, code_lt_iff]
  have hsub : G ⊆ R := by
    intro p hp
    by_contra hpR
    have hle : R ⊆ G := by
      intro q hq
      by_contra hqG
      rw [hgt, not_lt] at hqG
      have h3 := hdesc p q (lt_of_le_of_lt hqG ((hgt p).1 hp))
      simp only [hR, Finset.mem_filter, Finset.mem_univ, true_and] at hq hpR
      have : (r p).val < (r q).val := h3
      omega
    have := Finset.card_le_card hle
    omega
  have heq : ∀ q ∈ R \ G, x q = x p0 := by
    intro q hq
    rw [Finset.mem_sdiff, hgt, not_lt] at hq
    refine le_antisymm hq.2 ?_
    by_contra hlt
    rw [not_le] at hlt
    have hc : (Finset.univ.filter fun p => lo ≤ code x p).card ≤ (r q).val := by
      have hm : (Finset.univ.filter fun p => lo ≤ code x p) ⊆ Finset.univ.filter fun p => (r p).val < (r q).val := by
        intro p hp
        simp only [Finset.mem_filter, Finset.mem_univ, true_and] at hp ⊢
        rw [← h0, code_le] at hp
        exact hdesc p q (lt_of_lt_of_le hlt hp)
      have := Finset.card_le_card hm
      rwa [card_place r hr (r q).isLt.le] at this
    have hq1 := hq.1
    simp only [hR, Finset.mem_filter, Finset.mem_univ, true_and] at hq1
    omega
  rw [← Finset.sum_sdiff hsub, add_comm, Finset.sum_congr rfl heq, Finset.sum_const, nsmul_eq_mul,
    Finset.card_sdiff_of_subset hsub, hRk, Nat.cast_sub (by rw [← hRk]; exact Finset.card_le_card hsub)]

end Cert.Proof.TopK

end
-- ==== Proof.KMining.lean ====
/- What the mining kernel's values are at an index, and what its two loops end with. -/
module

public import proofs.«01_k».proof.Proof.Gen.KernelIdeal.Skeleton
public import proofs.«01_k».proof.Proof.Spec
public import proofs.«01_k».proof.Proof.TopK
public import Idealize.ShloMosaic.Lib.Pointwise
public import Idealize.ShloMosaic.Lib.WordCmp
public import Idealize.ShloMosaic.Lib.IndicatorCount

@[expose] public section

set_option maxRecDepth 16384

noncomputable section

namespace Cert.Proof.KMining

open Idealize.ShloMosaic Idealize.ShloMosaic.WordCmp Cert.KernelIdeal Cert.KernelIdeal.Gen Cert.Proof.Spec

theorem trips1 : k2_t1_loop.trips = 8732 := by decide

theorem trips2 : k2_t2_loop.trips = 31 := by decide

/-- The word of trip `t`. -/
theorem iv_eq (t : ℕ) : Scf.iv 0#32 1#32 t = BitVec.ofNat 32 t := by
  rw [Scf.iv_eq_ofInt]
  have : (0#32).toInt + (t : ℤ) * (1#32).toInt = (t : ℤ) := by
    have h0 : (0#32).toInt = 0 := by decide
    have h1 : (1#32).toInt = 1 := by decide
    rw [h0, h1]; omega
  rw [this, BitVec.ofInt_natCast]

/-! ### The codes -/

section Codes
variable (v0 : FVec Ideal S32x8732 .f32)

/-- One trip adds one to the code of every entry above entry `t` of its row. -/
theorem code_step (t : Fin k2_t1_loop.trips) (t' : Fin 8732) (ht : t.val = t'.val) (acc : IVec S32x8732 32) (b : Fin 32) (p : Fin 8732) :
    k2_pay8 (F := Ideal) v0 t acc (ix2 b p) = acc (ix2 b p) + BitVec.ofNat 32 (if v0 (ix2 b t') < v0 (ix2 b p) then 1 else 0) := by
  have hs : ∑ x : Fin 8732, Scalar.select (IntOp.cmpi CmpIPredicate.eq (BitVec.ofNat 32 x.val) (BitVec.ofNat 32 t'.val)) (v0 (ix2 b x)) 0
      = v0 (ix2 b t') := by
    have ht' := t'.isLt
    rw [Finset.sum_eq_single t']
    · rw [cmpi_eq_eq, select_decide, if_pos rfl]
    · intro x _ hx
      have hx' := x.isLt
      rw [cmpi_eq_ofNat (by omega) (by omega), select_decide, if_neg fun h => hx (Fin.ext h)]
    · intro h; exact absurd (Finset.mem_univ _) h
  pointwise [k2_pay8, k2_pay2]
  rw [iv_eq, ht, hs]
  show acc (ix2 b p) + _ = _
  by_cases h : v0 (ix2 b t') < v0 (ix2 b p) <;> simp [h]

/-- Any run of trips adds the number of its entries below. -/
theorem code_fold (l : List (Fin k2_t1_loop.trips)) (acc : IVec S32x8732 32) (b : Fin 32) (p : Fin 8732) :
    (l.foldl (fun a t => k2_pay8 (F := Ideal) v0 t a) acc) (ix2 b p)
      = acc (ix2 b p) + BitVec.ofNat 32 (l.map fun t => if v0 (ix2 b (t.cast trips1)) < v0 (ix2 b p) then 1 else 0).sum := by
  induction l generalizing acc with
  | nil => simp
  | cons t l ih =>
    rw [List.foldl_cons, ih, code_step v0 t (t.cast trips1) rfl, List.map_cons, List.sum_cons, BitVec.ofNat_add, BitVec.add_assoc]

/-- After the loop every entry has its code: the number of entries of its row below it. -/
theorem codes_at (b : Fin 32) (p : Fin 8732) :
    ((List.finRange k2_t1_loop.trips).foldl (fun a t => k2_pay8 (F := Ideal) v0 t a) k2_pay7) (ix2 b p)
      = BitVec.ofNat 32 (Finset.univ.filter fun q : Fin 8732 => v0 (ix2 b q) < v0 (ix2 b p)).card := by
  rw [code_fold]
  have h0 : k2_pay7 (ix2 b p) = 0#32 := rfl
  have hs : ((List.finRange k2_t1_loop.trips).map fun t => if v0 (ix2 b (t.cast trips1)) < v0 (ix2 b p) then 1 else 0).sum
      = (Finset.univ.filter fun q : Fin 8732 => v0 (ix2 b q) < v0 (ix2 b p)).card := by
    rw [Finset.card_filter, ← List.ofFn_eq_map, List.sum_ofFn]
    exact (finCongr trips1).sum_comp fun q => if v0 (ix2 b q) < v0 (ix2 b p) then 1 else 0
  rw [h0, hs, BitVec.zero_add]

end Codes

/-! ### The number of negatives -/

/-- Three times a count, at most 8731. -/
theorem k_at (v2 : FVec Ideal S32x128 .f32) (b : Fin 32) (n : ℕ) (hn : n ≤ 8732) (h : v2 (ix2 b 2) = ((n : ℕ) : EReal)) :
    k2_pay6 (F := Ideal) v2 (ix2 b 0) = BitVec.ofNat 32 (min (3 * n) 8731) := by
  have hf : FloatOps.fptosi (F := Ideal) (φ := .f32) 32 (Ideal.ofBits .f32 1077936128#32 * v2 (ix2 b 2)) = BitVec.ofNat 32 (3 * n) := by
    rw [h, three_eq]
    have : ((3 : ℝ) : EReal) * ((n : ℕ) : EReal) = (((3 * n : ℕ) : ℝ) : EReal) := by
      push_cast; rfl
    rw [this]
    show BitVec.ofInt 32 (Ideal.toIntClamped _ _ _) = _
    rw [Ideal.toIntClamped_coe, if_pos (Nat.cast_nonneg _), Int.floor_natCast]
    rw [max_eq_right, min_eq_right, BitVec.ofInt_natCast]
    · push_cast; omega
    · push_cast; omega
  pointwise [k2_pay6, k2_pay5, k2_pay3]
  rw [hf]
  apply BitVec.eq_of_toInt_eq
  rw [toInt_ofNat (n := min (3 * n) 8731) (by omega)]
  have h1 := toInt_ofNat (n := 3 * n) (by omega)
  have h2 : (8731#32).toInt = 8731 := by decide
  simp only [IntOp.minsi, BitVec.slt, decide_eq_true_eq]
  split_ifs <;> omega

/-! ### The search -/

section Search
variable (v2 : FVec Ideal S32x128 .f32) (v15 : IVec S32x8732 32) (b : Fin 32) (C : Fin 8732 → ℕ) (k : ℕ)
  (hC : ∀ p, C p < 8732) (h15 : ∀ p, v15 (ix2 b p) = BitVec.ofNat 32 (C p))
  (hk : k2_pay6 (F := Ideal) v2 (ix2 b 0) = BitVec.ofNat 32 k) (hk1 : 1 ≤ k) (hk2 : k ≤ 8731)
include hC h15 hk hk1 hk2

/-- The number of codes at least `m`. -/
def atLeast (C : Fin 8732 → ℕ) (m : ℕ) : ℕ := (Finset.univ.filter fun p => m ≤ C p).card

/-- A row's bounds in the search: the lower has at least `k` codes at or above it, the upper fewer, and they are within `w`. -/
structure Bracket (C : Fin 8732 → ℕ) (k w : ℕ) (lo hi : BitVec 32) : Prop where
  lt : lo.toNat < hi.toNat
  top : hi.toNat ≤ 2139095040
  near : hi.toNat ≤ lo.toNat + w
  many : k ≤ atLeast C lo.toNat
  few : atLeast C hi.toNat < k

theorem mid_toNat (lo hi : IVec S32x1 32) (w : ℕ) (h : Bracket C k w (lo (ix2 b 0)) (hi (ix2 b 0))) :
    (k2_pay11 lo hi (ix2 b 0)).toNat = (lo (ix2 b 0)).toNat + ((hi (ix2 b 0)).toNat - (lo (ix2 b 0)).toNat) / 2 := by
  have h1 := h.lt
  have h2 := h.top
  pointwise [k2_pay11]
  have hs : (IntOp.shrui ArithUnit.vector (IntOp.subi (hi (ix2 b 0)) (lo (ix2 b 0))) 1#32).toNat
      = ((hi (ix2 b 0)).toNat - (lo (ix2 b 0)).toNat) / 2 := by
    show (if (1#32).toNat < 32 then (hi (ix2 b 0) - lo (ix2 b 0)) >>> (1#32) else _ : BitVec 32).toNat = _
    rw [if_pos (by decide), BitVec.ushiftRight_eq', BitVec.toNat_ushiftRight, BitVec.toNat_sub_of_le (BitVec.le_def.2 h1.le)]
    rfl
  show (_ + _ : BitVec 32).toNat = _
  rw [BitVec.toNat_add, hs, Nat.mod_eq_of_lt (by omega)]

theorem take_at (lo hi : IVec S32x1 32) (w : ℕ) (h : Bracket C k w (lo (ix2 b 0)) (hi (ix2 b 0))) :
    k2_pay12 (F := Ideal) v2 v15 lo hi (ix2 b 0)
      = BitVec.ofBool (decide (k ≤ atLeast C (k2_pay11 lo hi (ix2 b 0)).toNat)) := by
  have h1 := h.lt
  have h2 := h.top
  have hm := mid_toNat v2 v15 b C k hC h15 hk hk1 hk2 lo hi w h
  pointwise [k2_pay12]
  rw [hk, IndicatorCount.fold_addi_setWidth_eq_card]
  generalize k2_pay11 lo hi (ix2 b 0) = mid at hm
  have hc : (Finset.univ.filter fun x : Fin 8732 => IntOp.cmpi CmpIPredicate.sge (v15 (ix2 b x)) mid = 1#1)
      = Finset.univ.filter fun p => mid.toNat ≤ C p := by
    refine Finset.filter_congr fun p _ => ?_
    have hp := hC p
    rw [h15, cmpi_sge_of_lt (by rw [toNat_ofNat_of_lt (by omega)]; omega) (by omega), toNat_ofNat_of_lt (by omega),
      ofBool_decide_eq_one_iff]
  rw [hc, cmpi_sge_ofNat (by
    have := Finset.card_le_univ (Finset.univ.filter fun p => mid.toNat ≤ C p)
    rw [Fintype.card_fin] at this; omega) (by omega)]
  rfl

/-- One trip halves the bracket. -/
theorem search_step (lo hi : IVec S32x1 32) (w : ℕ) (h : Bracket C k (2 * w) (lo (ix2 b 0)) (hi (ix2 b 0))) (hw : 1 ≤ w) :
    Bracket C k w (k2_pay13 (F := Ideal) v2 v15 lo hi (ix2 b 0)) (k2_pay14 (F := Ideal) v2 v15 lo hi (ix2 b 0)) := by
  have hm := mid_toNat v2 v15 b C k hC h15 hk hk1 hk2 lo hi _ h
  have ht := take_at v2 v15 b C k hC h15 hk hk1 hk2 lo hi _ h
  obtain ⟨h1, h2, h3, h4, h5⟩ := h
  pointwise [k2_pay13, k2_pay14]
  rw [ht, select_decide, select_decide]
  generalize k2_pay11 lo hi (ix2 b 0) = mid at hm
  by_cases hd : k ≤ atLeast C mid.toNat
  · rw [if_pos hd, if_pos hd]
    exact ⟨by omega, h2, by omega, hd, h5⟩
  · rw [if_neg hd, if_neg hd]
    have : mid.toNat ≠ (lo (ix2 b 0)).toNat := fun he => hd (he ▸ h4)
    exact ⟨by omega, by omega, by omega, h4, not_le.1 hd⟩

theorem search_fold {N : ℕ} (l : List (Fin N)) (lo hi : IVec S32x1 32) (h : Bracket C k (2 ^ l.length) (lo (ix2 b 0)) (hi (ix2 b 0))) :
    Bracket C k 1 ((l.foldl (fun (a : IVec S32x1 32 × IVec S32x1 32) (_ : Fin N) =>
        (k2_pay13 (F := Ideal) v2 v15 a.1 a.2, k2_pay14 (F := Ideal) v2 v15 a.1 a.2)) (lo, hi)).1 (ix2 b 0))
      ((l.foldl (fun (a : IVec S32x1 32 × IVec S32x1 32) (_ : Fin N) =>
        (k2_pay13 (F := Ideal) v2 v15 a.1 a.2, k2_pay14 (F := Ideal) v2 v15 a.1 a.2)) (lo, hi)).2 (ix2 b 0)) := by
  induction l generalizing lo hi with
  | nil => exact h
  | cons t l ih =>
    rw [List.foldl_cons]
    refine ih _ _ (search_step v2 v15 b C k hC h15 hk hk1 hk2 lo hi _ ?_ Nat.one_le_two_pow)
    rwa [List.length_cons, pow_succ, mul_comm] at h

/-- The search ends at the greatest bound with at least `k` codes at or above it. -/
theorem search_at (lo : IVec S32x1 32) (hlo : lo = ((List.finRange k2_t2_loop.trips).foldl
      (fun (a : IVec S32x1 32 × IVec S32x1 32) (_ : Fin k2_t2_loop.trips) =>
        (k2_pay13 (F := Ideal) v2 v15 a.1 a.2, k2_pay14 (F := Ideal) v2 v15 a.1 a.2)) (k2_pay9, k2_pay10)).1) :
    (lo (ix2 b 0)).toNat < 8732 ∧ k ≤ atLeast C (lo (ix2 b 0)).toNat ∧ (Finset.univ.filter fun p => (lo (ix2 b 0)).toNat < C p).card < k := by
  have hb : Bracket C k (2 ^ (List.finRange k2_t2_loop.trips).length) (k2_pay9 (ix2 b 0)) (k2_pay10 (ix2 b 0)) := by
    have e1 : (k2_pay9 (ix2 b 0)).toNat = 0 := rfl
    have e2 : (k2_pay10 (ix2 b 0)).toNat = 2139095040 := rfl
    have ha : atLeast C 0 = 8732 := by
      unfold atLeast; rw [Finset.filter_true_of_mem fun p _ => Nat.zero_le _, Finset.card_univ, Fintype.card_fin]
    have hz : atLeast C 2139095040 = 0 := by
      unfold atLeast; rw [Finset.card_eq_zero, Finset.filter_eq_empty_iff]
      intro p _; have := hC p; omega
    refine ⟨by rw [e1, e2]; omega, by rw [e2], by rw [e1, e2, List.length_finRange, trips2]; norm_num, by rw [e1, ha]; omega, by rw [e2, hz]; omega⟩
  have h := search_fold v2 v15 b C k hC h15 hk hk1 hk2 (List.finRange k2_t2_loop.trips) k2_pay9 k2_pay10 hb
  rw [← hlo] at h
  obtain ⟨h1, -, h3, h4, h5⟩ := h
  have he : ∀ hi : ℕ, (lo (ix2 b 0)).toNat < hi → hi ≤ (lo (ix2 b 0)).toNat + 1 → atLeast C hi < k →
      (Finset.univ.filter fun p => (lo (ix2 b 0)).toNat < C p).card < k := by
    intro hi a1 a2 a3
    have : hi = (lo (ix2 b 0)).toNat + 1 := by omega
    rw [this] at a3
    exact a3
  refine ⟨?_, h4, he _ h1 h3 h5⟩
  by_contra hn
  have hz : atLeast C (lo (ix2 b 0)).toNat = 0 := by
    unfold atLeast; rw [Finset.card_eq_zero, Finset.filter_eq_empty_iff]
    intro p _; have := hC p; omega
  omega

end Search

/-! ### The sum of the greatest -/

/-- The kernel's sum of the `k` greatest entries of a row is the sum over any order of the row's first `k` places. -/
theorem topk_at (v0 : FVec Ideal S32x8732 .f32) (v2 : FVec Ideal S32x128 .f32) (v15 : IVec S32x8732 32) (lo : IVec S32x1 32)
    (b : Fin 32) (x : Fin 8732 → ℝ) (h0 : ∀ p, v0 (ix2 b p) = x p) (k : ℕ)
    (h15 : ∀ p, v15 (ix2 b p) = BitVec.ofNat 32 (TopK.code x p))
    (hk : k2_pay6 (F := Ideal) v2 (ix2 b 0) = BitVec.ofNat 32 k) (hk2 : k ≤ 8731)
    (hlo : (lo (ix2 b 0)).toNat < 8732) (h1 : k ≤ atLeast (TopK.code x) (lo (ix2 b 0)).toNat)
    (h2 : (Finset.univ.filter fun p => (lo (ix2 b 0)).toNat < TopK.code x p).card < k)
    (r : Fin 8732 → Fin 8732) (hr : Function.Injective r) (hdesc : ∀ p q, x q < x p → r p < r q) :
    k2_pay15 (F := Ideal) v0 v2 v15 lo (ix2 b 0) = ((∑ p ∈ Finset.univ.filter (fun p => (r p).val < k), x p : ℝ) : EReal) := by
  obtain ⟨p0, hp0⟩ := TopK.exists_code_eq x h1 h2
  rw [TopK.sum_places x r hr hdesc (by omega) h1 h2 hp0]
  have hgt : ∀ p, IntOp.cmpi CmpIPredicate.sgt (v15 (ix2 b p)) (lo (ix2 b 0))
      = BitVec.ofBool (decide ((lo (ix2 b 0)).toNat < TopK.code x p)) := fun p => by
    have hp := TopK.code_lt_n x p
    rw [h15, cmpi_sgt_of_lt (by rw [toNat_ofNat_of_lt (by omega)]; omega) (by omega), toNat_ofNat_of_lt (by omega)]
  pointwise [k2_pay15, k2_pay2]
  rw [hk, IndicatorCount.fold_addi_setWidth_eq_card]
  generalize lo (ix2 b 0) = w at *
  simp only [hgt, select_decide, ofBool_decide_eq_one_iff, h0]
  have hc := Finset.card_le_univ (Finset.univ.filter fun p => w.toNat < TopK.code x p)
  generalize hcnt : (Finset.univ.filter fun p => w.toNat < TopK.code x p).card = cnt at *
  have hsub : FloatOps.sitofp (F := Ideal) .f32 (IntOp.subi (BitVec.ofNat 32 k) (BitVec.ofNat 32 cnt)) = (((k : ℝ) - (cnt : ℝ) : ℝ) : EReal) := by
    have : IntOp.subi (BitVec.ofNat 32 k) (BitVec.ofNat 32 cnt) = BitVec.ofNat 32 (k - cnt) := by
      apply BitVec.eq_of_toNat_eq
      show (BitVec.ofNat 32 k - BitVec.ofNat 32 cnt).toNat = _
      rw [BitVec.toNat_sub, BitVec.toNat_ofNat, BitVec.toNat_ofNat, BitVec.toNat_ofNat]
      omega
    rw [this]
    show (((BitVec.ofNat 32 (k - cnt)).toInt : ℝ) : EReal) = _
    rw [toInt_ofNat (by omega)]
    congr 1
    push_cast [Nat.cast_sub h2.le]
    rfl
  have hmax : Finset.univ.fold max (Ideal.ofBits .f32 4286578688#32)
      (fun p => if w.toNat < TopK.code x p then Ideal.ofBits .f32 4286578688#32 else (x p : EReal)) = x p0 := by
    rw [negInf_eq]
    apply le_antisymm
    · rw [Finset.fold_max_le]
      refine ⟨bot_le, fun p _ => ?_⟩
      split_ifs with h
      · exact bot_le
      · rw [EReal.coe_le_coe_iff, ← TopK.code_le]; omega
    · rw [Finset.le_fold_max]
      exact .inr ⟨p0, Finset.mem_univ _, by rw [if_neg (by omega)]⟩
  have hsum : ∑ p : Fin 8732, (if w.toNat < TopK.code x p then (x p : EReal) else 0)
      = ((∑ p ∈ Finset.univ.filter (fun p => w.toNat < TopK.code x p), x p : ℝ) : EReal) := by
    rw [← Finset.sum_filter, coe_sum]
  rw [hsub, hmax, hsum, ← EReal.coe_mul, ← EReal.coe_add]

/-! ### The two results -/

/-- Lane 0: the regression loss over the number of positives. -/
theorem out_loc (v3 v5 : FVec Ideal S32x128 .f32) (v6 : FVec Ideal S32x1 .f32) (v11 : IVec S32x1 32) (v36 : FVec Ideal S32x1 .f32) :
    k2_pay1 (F := Ideal) v3 v5 v6 v11 v36 (ix2 0 0) = Ideal.div (∑ b : Fin 32, v3 (ix2 b 0)) (∑ b : Fin 32, v6 (ix2 b 0)) := by
  pointwise [k2_pay1]
  simp only [Finset.univ_unique, Finset.sum_singleton]

/-- Lane 1: the confidence loss over the number of positives. -/
theorem out_conf (v3 v5 : FVec Ideal S32x128 .f32) (v6 : FVec Ideal S32x1 .f32) (v11 : IVec S32x1 32) (v36 : FVec Ideal S32x1 .f32) :
    k2_pay1 (F := Ideal) v3 v5 v6 v11 v36 (ix2 0 1) = Ideal.div
      (∑ b : Fin 32, (v5 (ix2 b 1) + if 0 < (v11 (ix2 b 0)).toInt then v36 (ix2 b 0) else 0)) (∑ b : Fin 32, v6 (ix2 b 0)) := by
  have h0 : (0#32).toInt = 0 := by decide
  pointwise [k2_pay1]
  rw [cmpi_eq_ofNat (w := 32) (a := 1) (b := 0) (by norm_num) (by norm_num), select_ofBool, if_neg (by decide)]
  simp only [cmpi_sgt_eq, select_decide, h0, Finset.univ_unique, Finset.sum_singleton]

end Cert.Proof.KMining
end
-- ==== Proof.KLast.lean ====
/- What the mining kernel leaves in its output array, from the arrays it reads. -/
module

public import proofs.«01_k».proof.Proof.Gen.KernelIdeal.Frame
public import proofs.«01_k».proof.Proof.KMining
public import Idealize.ShloMosaic.Lib.Pipeline.ValueKit

@[expose] public section

set_option maxRecDepth 16384

noncomputable section

namespace Cert.Proof.KLast

open Idealize.ShloMosaic Idealize.ShloMosaic.TcCoe Idealize.ShloMosaic.WordCmp Cert.KernelIdeal Cert.KernelIdeal.Gen Cert.Proof.Spec
open Idealize.ShloMosaic.Pipeline (Dat)

/-! ### What its one run computes -/

section Value
variable (v0 : FVec Ideal S32x8732 .f32) (v2 v4 : FVec Ideal S32x128 .f32)

/-- The order codes of the mined losses. -/
def codes : IVec S32x8732 32 := (List.finRange k2_t1_loop.trips).foldl (fun a t => k2_pay8 (F := Ideal) v0 t a) k2_pay7

/-- The threshold code of every row. -/
def threshold : IVec S32x1 32 := ((List.finRange k2_t2_loop.trips).foldl
  (fun (a : IVec S32x1 32 × IVec S32x1 32) (_ : Fin k2_t2_loop.trips) =>
    (k2_pay13 (F := Ideal) v2 (codes v0) a.1 a.2, k2_pay14 (F := Ideal) v2 (codes v0) a.1 a.2)) (k2_pay9, k2_pay10)).1

/-- The block the kernel stores. -/
def last : FVec Ideal S1x128 .f32 :=
  k2_pay1 (k2_pay3 v2) (k2_pay4 v4) (k2_pay5 v2) (k2_pay6 (F := Ideal) v2) (k2_pay15 v0 v2 (codes v0) (threshold v0 v2))

theorem stats_at (b : Fin 32) (l : Fin 128) : k2_pay3 (F := Ideal) v2 (ix2 b l) = v2 (ix2 b l) := by pointwise [k2_pay3]
theorem posStats_at (b : Fin 32) (l : Fin 128) : k2_pay4 (F := Ideal) v4 (ix2 b l) = v4 (ix2 b l) := by pointwise [k2_pay4]
theorem count_at (b : Fin 32) : k2_pay5 (F := Ideal) v2 (ix2 b 0) = v2 (ix2 b 2) := by pointwise [k2_pay5, k2_pay3]

/-- Lane 0: the regression losses over the number of positives. -/
theorem last_loc : last v0 v2 v4 (ix2 0 0) = Ideal.div (∑ b : Fin 32, v2 (ix2 b 0)) (∑ b : Fin 32, v2 (ix2 b 2)) := by
  unfold last
  rw [KMining.out_loc]
  simp only [stats_at, count_at]

/-- Lane 1: the confidence losses, each row's mined ones being its `k` greatest, over the number of positives. -/
theorem last_conf (x : Fin 32 → Fin 8732 → ℝ) (n : Fin 32 → ℕ) (h0 : ∀ b p, v0 (ix2 b p) = x b p) (hn : ∀ b, n b ≤ 8732)
    (h2 : ∀ b, v2 (ix2 b 2) = ((n b : ℕ) : EReal)) (r : Fin 32 → Fin 8732 → Fin 8732) (hr : ∀ b, Function.Injective (r b))
    (hdesc : ∀ b p q, x b q < x b p → r b p < r b q) :
    last v0 v2 v4 (ix2 0 1) = Ideal.div
      (∑ b : Fin 32, (v4 (ix2 b 1) + ((∑ p ∈ Finset.univ.filter (fun p => (r b p).val < min (3 * n b) 8731), x b p : ℝ) : EReal)))
      (∑ b : Fin 32, ((n b : ℕ) : EReal)) := by
  unfold last
  rw [KMining.out_conf]
  simp only [posStats_at, count_at, h2]
  congr 1
  refine Finset.sum_congr rfl fun b _ => congrArg₂ _ rfl ?_
  have hk := KMining.k_at v2 b (n b) (hn b) (h2 b)
  have hkm : min (3 * n b) 8731 ≤ 8731 := min_le_right _ _
  generalize min (3 * n b) 8731 = k at hk hkm
  have hki : (k2_pay6 (F := Ideal) v2 (ix2 b 0)).toInt = k := by rw [hk, toInt_ofNat (n := k) (by omega)]
  rw [hki]
  rcases Nat.eq_zero_or_pos k with rfl | hk1
  · rw [if_neg (by simp)]; simp
  · rw [if_pos (by exact_mod_cast hk1)]
    have hc : ∀ p, codes v0 (ix2 b p) = BitVec.ofNat 32 (TopK.code (x b) p) := fun p => by
      unfold codes
      rw [KMining.codes_at]
      simp only [h0, EReal.coe_lt_coe_iff]
      rfl
    obtain ⟨g1, g2, g3⟩ := KMining.search_at v2 (codes v0) b (TopK.code (x b)) k (fun p => TopK.code_lt_n _ _) hc hk hk1 hkm
      (threshold v0 v2) rfl
    exact KMining.topk_at v0 v2 (codes v0) (threshold v0 v2) b (x b) (h0 b) k hc hk hkm g1 g2 g3 (r b) (hr b) (hdesc b)

end Value

/-! ### The output array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The run's one covering store holds the block. -/
theorem run_eq (a0 : Memref sig .tc .vmem S32x8732 .f32) (h0 : a0.IsWhole) (a1 : Memref sig .tc .vmem S32x128 .f32) (h1 : a1.IsWhole)
    (a2 : Memref sig .tc .vmem S32x128 .f32) (h2 : a2.IsWhole) (a3 : Memref sig .tc .vmem S1x128 .f32) (h3 : a3.IsWhole)
    (x0 : Vec Ideal S32x8732 .f32) (x1 x2 : Vec Ideal S32x128 .f32) :
    out2_A_3 c a0 h0 a1 h1 a2 h2 a3 h3 x0 x1 x2 = last x0 x1 x2 := by
  unfold out2_A_3
  rw [View.read_writes_eq_canon _ _ _ (cover2_A_3 c a0 h0 a1 h1 a2 h2 a3 h3 x0 x1 x2)]
  unfold kernelRun2_A
  dsimp only
  sl_unfold_words
  rw [View.canon_cons_unit_zero (S := S1x128) hz]
  simp only [View.readAt_eq_ld, h0.read_unread, h1.read_unread, h2.read_unread, View.ld_unit_zero (S := S32x8732) hz,
    View.ld_unit_zero (S := S32x128) hz, Scf.fold_eq]
  rfl

theorem idx2 : ∀ t : Fin cfg2.N, win2_0.index t = ![0, 0] ∧ win2_1.index t = ![0, 0] ∧ win2_2.index t = ![0, 0] ∧ win2_3.index t = ![0, 0] :=
  (by decide +kernel : ∀ t : Fin grid2.N, _)

theorem mine_block : iblk2 V c 0 t2_0 = V c main_v5 := by
  blk_ext! [iblk2, idx2 t2_0]
theorem stats_block : iblk2 V c 1 t2_0 = V c main_v6 := by
  blk_ext! [iblk2, idx2 t2_0]
theorem posStats_block : iblk2 V c 2 t2_0 = V c main_v7 := by
  blk_ext! [iblk2, idx2 t2_0]

theorem last_arr (l : Fin 128) : (dat2 V c).arrAt 3 cfg2.N (ix2 0 l) = last (V c main_v5) (V c main_v6) (V c main_v7) (ix2 0 l) := by
  refine ((dat2 V c).arrAt_emb_eq_after_last 3 t2_0 (by decide +kernel) (ix2 0 l)).trans ?_
  blk_simp
  rw [after2_3]
  unfold outsAt2
  rw [run_eq, mine_block, stats_block, posStats_block]

end Cert.Proof.KLast
end
-- ==== Proof.KRun.lean ====
/- The kernel's run: what its two results hold, from the launch memory. -/
module

public import proofs.«01_k».proof.Proof.KRegions
public import proofs.«01_k».proof.Proof.KLast
public import proofs.«01_k».proof.Proof.Loss

@[expose] public section

set_option maxRecDepth 16384

noncomputable section

namespace Cert.Proof.KRun

open Idealize.ShloMosaic Idealize.ShloMosaic.TcCoe Idealize.ShloMosaic.WordCmp Cert.KernelIdeal Cert.KernelIdeal.Gen Cert.Proof.Spec
open Idealize.ShloMosaic.Pipeline (Dat)

variable (m : (ℓ : Loc nD τ sig) → Buf (Elt Ideal) ℓ) (ρ : Dev nD → PrngReg) (c : Dev nD)

/-! ### The batch in the launch memory -/

def t (b : Fin 32) (o : Fin 16) (k : Fin 5) : EReal := m ((c : Thread nD τ).loc main_arg3) (ix3 b o k)
def q (p : Fin 8732) (k : Fin 4) : EReal := m ((c : Thread nD τ).loc main_arg2) (ix2 p k)
def l (b : Fin 32) (p : Fin 8732) (k : Fin 4) : EReal := m ((c : Thread nD τ).loc main_arg0) (ix3 b p k)
def x (b : Fin 32) (p : Fin 8732) (k : Fin 21) : EReal := m ((c : Thread nD τ).loc main_arg1) (ix3 b p k)

/-! ### Through the first two regions -/

theorem v0_at (b : Fin 32) (k : Fin 4) (p : Fin 8732) : V1 m ρ c main_v0 (ix3 b k p) = l m c b p k := by
  have h : V1 m ρ c main_v0 = (transpose S32x4x8732 [0, 2, 1] (m ((c : Thread nD τ).loc main_arg0)) transposes_S32x8732x4_S32x4x8732_0_2_1) := by
    show StableHlo.after hostOps0 _ _ = _
    after_results_simp
  rw [h]
  pointwise []
  rfl

theorem v1_at (b : Fin 32) (k : Fin 21) (p : Fin 8732) : V2 m ρ c main_v1 (ix3 b k p) = x m c b p k := by
  have h : V2 m ρ c main_v1 = (transpose S32x21x8732 [0, 2, 1] (m ((c : Thread nD τ).loc main_arg1)) transposes_S32x8732x21_S32x21x8732_0_2_1) := by
    refine (W2_of_ne m ρ c main_v1 (by decide)).trans ?_
    show StableHlo.after hostOps0 _ _ = _
    after_results_simp
  rw [h]
  pointwise []
  rfl

theorem v2_at (k : Fin 4) (p : Fin 8732) : V1 m ρ c main_v2 (ix2 k p) = q m c p k := by
  have h : V1 m ρ c main_v2 = (transpose S4x8732 [1, 0] (m ((c : Thread nD τ).loc main_arg2)) transposes_S8732x4_S4x8732_1_0) := by
    show StableHlo.after hostOps0 _ _ = _
    after_results_simp
  rw [h]
  pointwise []
  rfl

theorem truths_eq (b : Fin 32) : KMatch.truths (iblk0 (V1 m ρ) c 2 (KRegions.pt0 b)) = t m c b := by
  funext o k
  unfold KMatch.truths
  rw [KRegions.truth_block]
  exact congrFun (W1_args m ρ c main_arg3 (by decide)) _

theorem rows_eq (b : Fin 32) : KBlock.rows (iblk0 (V1 m ρ) c 1 (KRegions.pt0 b)) = q m c := by
  funext p k
  unfold KBlock.rows
  rw [KRegions.prior_block, v2_at]

theorem over_eq (b : Fin 32) : KBlock.over (iblk0 (V1 m ρ) c 1 (KRegions.pt0 b)) (iblk0 (V1 m ρ) c 2 (KRegions.pt0 b))
    = Loss.over (t m c) (q m c) b := by
  unfold KBlock.over Loss.over
  rw [truths_eq, rows_eq]

theorem class_at (b : Fin 32) (p : Fin 8732) : V2 m ρ c main_v3_0 (ix3 b 0 p) = Loss.lab (t m c) (q m c) b p := by
  refine (congrFun (W2_arr m ρ c 3) _).trans ?_
  rw [KRegions.class_arr, KBlock.out_class, truths_eq, over_eq]
  rfl

theorem stats_loss (b : Fin 32) : V2 m ρ c main_v3_1 (ix3 b 0 0) = Loss.regSum (t m c) (q m c) (l m c) b := by
  refine (congrFun (W2_arr m ρ c 4) _).trans ?_
  refine (KRegions.stats_arr (V1 m ρ) c b 0).trans ((KBlock.out_loss _ _ _).trans ?_)
  rw [truths_eq, over_eq, rows_eq]
  refine Finset.sum_congr rfl fun p _ => if_congr Iff.rfl (Finset.sum_congr rfl fun k _ => ?_) rfl
  rw [(KRegions.loc_block (V1 m ρ) c b k p).trans (v0_at m ρ c b k p)]

theorem stats_count (b : Fin 32) : V2 m ρ c main_v3_1 (ix3 b 0 2) = ((Loss.count (t m c) (q m c) b : ℕ) : EReal) := by
  refine (congrFun (W2_arr m ρ c 4) _).trans ?_
  rw [KRegions.stats_arr, KBlock.out_count, truths_eq, over_eq]
  rfl

theorem label_block (b : Fin 32) (p : Fin 8732) : iblk1 (V2 m ρ) c 1 (KRegions.pt1 b) (ix3 0 0 p) = Loss.lab (t m c) (q m c) b p :=
  (KRegions.class_block (V2 m ρ) c b p).trans (class_at m ρ c b p)

theorem ent_eq (b : Fin 32) (p : Fin 8732) : KBlock.loss (iblk1 (V2 m ρ) c 0 (KRegions.pt1 b)) (iblk1 (V2 m ρ) c 1 (KRegions.pt1 b)) p
    = Loss.ent (t m c) (q m c) (x m c) b p := by
  unfold KBlock.loss Loss.ent
  have h : (fun k : Fin 21 => iblk1 (V2 m ρ) c 0 (KRegions.pt1 b) (ix3 0 k p)) = x m c b p :=
    funext fun k => (KRegions.conf_block (V2 m ρ) c b k p).trans (v1_at m ρ c b k p)
  rw [label_block]
  exact congrArg (fun f => entropy f (top f) _) h

theorem mine_at (b : Fin 32) (p : Fin 8732) : V3 m ρ c main_v4_0 (ix3 b 0 p) = Loss.mine (t m c) (q m c) (x m c) b p := by
  refine (congrFun (W3_arr m ρ c 2) _).trans ?_
  rw [KRegions.mine_arr, KBlock.out_mine, ent_eq, label_block]
  rfl

theorem posSum_at (b : Fin 32) : V3 m ρ c main_v4_1 (ix3 b 0 1) = Loss.posSum (t m c) (q m c) (x m c) b := by
  refine (congrFun (W3_arr m ρ c 3) _).trans ?_
  rw [KRegions.posStats_arr, KBlock.out_posSum]
  simp only [ent_eq, label_block]
  rfl

/-! ### What the last region reads, and the results -/

theorem drop_unit (z : FVec Ideal S32x1x8732 .f32) (b : Fin 32) (p : Fin 8732) :
    shapeCast S32x8732 z shapeCasts_S32x1x8732_S32x8732 (ix2 b p) = z (ix3 b 0 p) := by pointwise []

theorem v5_at (b : Fin 32) (p : Fin 8732) : V4 m ρ c main_v5 (ix2 b p) = Loss.mine (t m c) (q m c) (x m c) b p := by
  have h : V4 m ρ c main_v5 = (shapeCast S32x8732 (V3 m ρ c main_v4_0) shapeCasts_S32x1x8732_S32x8732) := by
    show StableHlo.after hostOps2 _ _ = _
    after_results_simp
    rfl
  rw [h]
  exact (drop_unit _ b p).trans (mine_at m ρ c b p)

theorem v6_at (b : Fin 32) (j : Fin 128) : V4 m ρ c main_v6 (ix2 b j) = V2 m ρ c main_v3_1 (ix3 b 0 j) := by
  have h : V4 m ρ c main_v6 = (shapeCast S32x128 (V3 m ρ c main_v3_1) shapeCasts_S32x1x128_S32x128) := by
    show StableHlo.after hostOps2 _ _ = _
    after_results_simp
    rfl
  rw [h, show V3 m ρ c main_v3_1 = V2 m ρ c main_v3_1 from W3_of_ne m ρ c main_v3_1 (by decide)]
  generalize V2 m ρ c main_v3_1 = z
  pointwise []

theorem v7_at (b : Fin 32) (j : Fin 128) : V4 m ρ c main_v7 (ix2 b j) = V3 m ρ c main_v4_1 (ix3 b 0 j) := by
  have h : V4 m ρ c main_v7 = (shapeCast S32x128 (V3 m ρ c main_v4_1) shapeCasts_S32x1x128_S32x128) := by
    show StableHlo.after hostOps2 _ _ = _
    after_results_simp
    rfl
  rw [h]
  generalize V3 m ρ c main_v4_1 = z
  pointwise []

/-- The first result: the regression losses over the number of positives. -/
theorem result_loc (j : S_.Idx) : W6 m ρ c (Proc.devRef .tc main_v10) j
    = Ideal.div (∑ b : Fin 32, Loss.regSum (t m c) (q m c) (l m c) b) (∑ b : Fin 32, ((Loss.count (t m c) (q m c) b : ℕ) : EReal)) := by
  have h : W6 m ρ c (Proc.devRef .tc main_v10) = (shapeCast S_ (extractStridedSlice S1x1 ![0, 0] (V5 m ρ c main_v8) slices_S1x128_S1x1_0_0) shapeCasts_S1x1_S_) := by
    show StableHlo.after hostOps3 _ _ = _
    after_results_simp
    rfl
  have h8 : V5 m ρ c main_v8 (ix2 0 0) = _ := (congrFun (W5_arr m ρ c 3) _).trans (KLast.last_arr (V4 m ρ) c 0)
  rw [h]
  generalize V5 m ρ c main_v8 = z at h8 ⊢
  pointwise []
  rw [h8, KLast.last_loc]
  exact congrArg₂ _ (Finset.sum_congr rfl fun b _ => (v6_at m ρ c b 0).trans (stats_loss m ρ c b))
    (Finset.sum_congr rfl fun b _ => (v6_at m ρ c b 2).trans (stats_count m ρ c b))

/-- The second result: the confidence losses over the number of positives. -/
theorem result_conf (X : Fin 32 → Fin 8732 → ℝ) (hX : ∀ b p, Loss.mine (t m c) (q m c) (x m c) b p = X b p)
    (r : Fin 32 → Fin 8732 → Fin 8732) (hr : ∀ b, Function.Injective (r b)) (hdesc : ∀ b p q, X b q < X b p → r b p < r b q) (j : S_.Idx) :
    W6 m ρ c (Proc.devRef .tc main_v12) j = Ideal.div
      (∑ b : Fin 32, (Loss.posSum (t m c) (q m c) (x m c) b
        + ((∑ p ∈ Finset.univ.filter (fun p => (r b p).val < min (3 * Loss.count (t m c) (q m c) b) 8731), X b p : ℝ) : EReal)))
      (∑ b : Fin 32, ((Loss.count (t m c) (q m c) b : ℕ) : EReal)) := by
  have h : W6 m ρ c (Proc.devRef .tc main_v12) = (shapeCast S_ (extractStridedSlice S1x1 ![0, 1] (V5 m ρ c main_v8) slices_S1x128_S1x1_0_1) shapeCasts_S1x1_S_) := by
    show StableHlo.after hostOps3 _ _ = _
    after_results_simp
    rfl
  have h8 : V5 m ρ c main_v8 (ix2 0 1) = _ := (congrFun (W5_arr m ρ c 3) _).trans (KLast.last_arr (V4 m ρ) c 1)
  rw [h]
  generalize V5 m ρ c main_v8 = z at h8 ⊢
  pointwise []
  rw [h8, KLast.last_conf _ _ _ X (fun b => Loss.count (t m c) (q m c) b) (fun b p => (v5_at m ρ c b p).trans (hX b p))
    (fun b => Loss.count_le _ _ b) (fun b => (v6_at m ρ c b 2).trans (stats_count m ρ c b)) r hr hdesc]
  exact congrArg (Ideal.div · _) (Finset.sum_congr rfl fun b _ =>
    congrArg (· + _) ((v7_at m ρ c b 1).trans (posSum_at m ρ c b)))

end Cert.Proof.KRun
end
-- ==== Proof.KLaunch.lean ====
/- The kernel's launch: every run ends with its two results and its arguments at the last boundary's contents. -/
module

public import proofs.«01_k».proof.Proof.Gen.KernelIdeal.Frame

@[expose] public section

set_option maxRecDepth 16384

noncomputable section

namespace Cert.Proof.KLaunch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the two results at the last boundary's contents and the arguments as launched. -/
theorem run : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_v12) = W6 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v10 (by decide)), h c _ (mem_uc main_v12 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.Proof.KLaunch
end
-- ==== Proof.Drawn.lean ====
/- What the precondition says of the arguments: the confidences are real numbers and the labels lie between 1 and 20. -/
module

public import proofs.«01_k».proof.Pre_drawn
public import proofs.«01_k».proof.Proof.Spec
public import Idealize.ShloMosaic.Lib.ReduceAll
public import Idealize.ShloMosaic.Lib.IdealHost
public import Idealize.ShloMosaic.Lib.WordCmp
public import Idealize.ShloMosaic.Lib.Pointwise

@[expose] public section

set_option maxRecDepth 16384

noncomputable section

namespace Cert.Proof.Drawn

open Idealize.ShloMosaic Idealize.ShloMosaic.WordCmp Cert.Pre_drawn Cert.Proof.Spec

/-- The predicate's shape relations hold. -/
theorem facts : Cert.Pre_drawn.Facts where
  slices_S32x16x5_S32x16x1_0_0_4 := by decide
  shapeCasts_S32x16x1_S32x16 := by decide
  bcast_S_S32x8732x21 := by decide
  reducesTo_S32x8732x21_S_d0_1_2 := by decide
  h_S_ := by decide
  bcast_S_S32x16 := by decide
  reducesTo_S32x16_S_d0_1 := by decide

/-- Positive infinity, as the predicate writes it. -/
theorem inf_eq : Ideal.ofBits .f32 0x7F800000#32 = ⊤ := by
  simp [Ideal.ofBits, Ideal.ieee]

/-- Twenty, as the predicate writes it. -/
theorem twenty_eq : Ideal.ofBits .f32 0x41A00000#32 = ((20 : ℝ) : EReal) := by
  simp [Ideal.ofBits, Ideal.ieee, -EReal.coe_mul]; norm_num

/-- A proposition whose flag is set holds. -/
theorem of_ofBool {P : Prop} [Decidable P] (h : BitVec.ofBool (decide P) = 1#1) : P := by
  by_contra hn
  rw [decide_eq_false hn] at h
  exact absurd h (by decide)

variable [Cert.Pre_drawn.Facts]

/-- The label of an object, as the predicate cuts it out. -/
theorem label_eq (a3 : FVec Ideal S32x16x5 .f32) (b : Fin 32) (o : Fin 16) :
    shapeCast S32x16 (extractStridedSlice S32x16x1 ![0, 0, 4] a3 Facts.slices_S32x16x5_S32x16x1_0_0_4) Facts.shapeCasts_S32x16x1_S32x16 (ix2 b o)
      = a3 (ix3 b o 4) := by
  pointwise

/-- The predicate, read entry by entry. -/
theorem of_pre (a0 : FVec Ideal S32x8732x4 .f32) (a1 : FVec Ideal S32x8732x21 .f32) (a2 : FVec Ideal S8732x4 .f32) (a3 : FVec Ideal S32x16x5 .f32)
    (h : Cert.Pre_drawn.fn (F := Ideal) a0 a1 a2 a3 = fun _ => 1#1) :
    (∀ b p c, ∃ r : ℝ, a1 (ix3 b p c) = (r : EReal)) ∧ ∀ b o, (1 : EReal) ≤ a3 (ix3 b o 4) ∧ a3 (ix3 b o 4) ≤ ((20 : ℝ) : EReal) := by
  have e := congrFun h ix0
  simp only [Cert.Pre_drawn.fn, andi, IntOp.andi_eq_one] at e
  obtain ⟨⟨e1, e2⟩, e3⟩ := e
  haveI : Subsingleton S_.Idx := ⟨fun a b => funext fun i => i.elim0⟩
  refine ⟨fun b p c => ?_, fun b o => ⟨?_, ?_⟩⟩
  · have := Host.reduce_andi_all _ _ _ _ _ e1 (ix3 b p c)
    have hb : BitVec.ofBool (decide (((a1 (ix3 b p c) : EReal) ⊔ -(a1 (ix3 b p c) : EReal)) < Ideal.ofBits .f32 0x7F800000#32)) = 1#1 := this
    rw [inf_eq] at hb
    have hlt := of_ofBool hb
    generalize (a1 (ix3 b p c) : EReal) = y at hlt ⊢
    induction y using EReal.rec with
    | bot => exact absurd hlt (by simp)
    | coe r => exact ⟨r, rfl⟩
    | top => exact absurd hlt (by simp)
  · have := Host.reduce_andi_all _ _ _ _ _ e2 (ix2 b o)
    have hb : BitVec.ofBool (decide (Ideal.ofBits .f32 0x3F800000#32
        ≤ (shapeCast S32x16 (extractStridedSlice S32x16x1 ![0, 0, 4] a3 Facts.slices_S32x16x5_S32x16x1_0_0_4) Facts.shapeCasts_S32x16x1_S32x16 (ix2 b o) : EReal))) = 1#1 := this
    rw [label_eq, one_eq] at hb
    exact of_ofBool hb
  · have := Host.reduce_andi_all _ _ _ _ _ e3 (ix2 b o)
    have hb : BitVec.ofBool (decide
        ((shapeCast S32x16 (extractStridedSlice S32x16x1 ![0, 0, 4] a3 Facts.slices_S32x16x5_S32x16x1_0_0_4) Facts.shapeCasts_S32x16x1_S32x16 (ix2 b o) : EReal)
          ≤ Ideal.ofBits .f32 0x41A00000#32)) = 1#1 := this
    rw [label_eq, twenty_eq] at hb
    exact of_ofBool hb

end Cert.Proof.Drawn
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.RefResults
public import proofs.«01_k».proof.Proof.KRun
public import proofs.«01_k».proof.Proof.KLaunch
public import proofs.«01_k».proof.Proof.Drawn
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.StableHlo Idealize.SL.Sem

/-- The kernel's frame, as compiled. -/
theorem frame_kernel : Cert.quiescent_Kernel := fun m ρ _ => Cert.Kernel.Gen.frame m ρ

/-- The kernel's frame at the ideal numbers. -/
theorem frame_kernelIdeal : Cert.quiescent_KernelIdeal := fun m ρ _ => Cert.KernelIdeal.Gen.frame m ρ

/-- The reference's frame: its run leaves the arguments, and it has no semaphore. -/
theorem frame_referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.Proof.Ref.run (F := Ideal) m ρ)

/-- From arguments that agree, the kernel and the reference end with equal results. -/
theorem algebraic [hPre : Cert.Pre_drawn.Facts] : Cert.algebraic_KernelIdeal_ReferenceIdeal_pre_drawn := by
  intro m ρ m' ρ' hpre hargs
  refine ⟨fun c => Cert.KernelIdeal.Gen.W6 m ρ c (Proc.devRef .tc Cert.KernelIdeal.main_v10),
    fun c => Cert.KernelIdeal.Gen.W6 m ρ c (Proc.devRef .tc Cert.KernelIdeal.main_v12), KLaunch.run (F := Ideal) m ρ, ?_⟩
  refine (θ_run Cert.ReferenceIdeal.defs _ _).mono (fun r h c => ?_) (Cert.Proof.Ref.run (F := Ideal) m' ρ')
  obtain ⟨h0, h1, hrest⟩ := h c
  obtain ⟨ha0, ha1, ha2, ha3⟩ := hargs c
  obtain ⟨hreal, hlab⟩ := Drawn.of_pre _ _ _ _ (hpre c)
  have ht : RefOver.t (launchContents m' c) = KRun.t m c := funext fun b => funext fun o => funext fun k => congrFun ha3 (ix3 b o k)
  have hq : RefOver.q (launchContents m' c) = KRun.q m c := funext fun p => funext fun k => congrFun ha2 (ix2 p k)
  have hl : RefLoc.l (launchContents m' c) = KRun.l m c := funext fun b => funext fun p => funext fun k => congrFun ha0 (ix3 b p k)
  have hx : RefConf.x (launchContents m' c) = KRun.x m c := funext fun b => funext fun p => funext fun k => congrFun ha1 (ix3 b p k)
  have hT : ∀ b o, 1 ≤ RefOver.t (launchContents m' c) b o 4 ∧ RefOver.t (launchContents m' c) b o 4 ≤ ((20 : ℝ) : EReal) := by
    intro b o
    rw [ht]
    exact hlab b o
  have hX : ∀ b p k, ∃ r : ℝ, RefConf.x (launchContents m' c) b p k = r := by
    intro b p k
    rw [hx]
    exact hreal b p k
  refine ⟨h0.trans (funext fun j => ?_), h1.trans (funext fun j => ?_), hrest⟩
  · refine (RefResults.loc_at _ hT j).trans ?_
    rw [ht, hq, hl]
    exact (KRun.result_loc m ρ c j).symm
  · obtain ⟨Y, r, hY, hr, hd, hs⟩ := RefResults.conf_at _ hT hX
    refine (hs j).trans ?_
    rw [ht, hq, hx] at hY ⊢
    exact (KRun.result_conf m ρ c Y hY r hr hd j).symm

theorem claim : Cert.Claim := ⟨Cert.Kernel.Gen.facts, Cert.KernelIdeal.Gen.facts, Cert.ReferenceIdeal.Gen.facts, Drawn.facts,
  frame_kernel, frame_kernelIdeal, fun m ρ _ => frame_kernelIdeal m ρ trivial, frame_referenceIdeal,
  fun m ρ _ => frame_referenceIdeal m ρ trivial, trivial, algebraic (hPre := Drawn.facts)⟩

end Cert.Proof

end
